-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v55_0)) (v1 : (c : Dev Cert.KernelIdeal.nD) → Buf (Elt Ideal) ((c.tc : Thread Cert.KernelIdeal.nD Cert.KernelIdeal.τ).loc Cert.KernelIdeal.main_v55_1)) (v2 : (c : Dev Cert.KernelIdeal.nD) → Buf (Elt Ideal) ((c.tc : Thread Cert.KernelIdeal.nD Cert.KernelIdeal.τ).loc Cert.KernelIdeal.main_v55_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55_0) = v0 c
          ∧ r.2.mem ((c.tc : Thread Cert.KernelIdeal.nD Cert.KernelIdeal.τ).loc Cert.KernelIdeal.main_v55_1) = v1 c
          ∧ r.2.mem ((c.tc : Thread Cert.KernelIdeal.nD Cert.KernelIdeal.τ).loc Cert.KernelIdeal.main_v55_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v104) = v1 c
          ∧ r.2.mem ((c.tc : Thread Cert.ReferenceIdeal.nD Cert.ReferenceIdeal.τ).loc Cert.ReferenceIdeal.main_v106) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)) (v2 : (c : Dev Cert.Kernel4Ideal.nD) → Buf (Elt Ideal) ((c.tc : Thread Cert.Kernel4Ideal.nD Cert.Kernel4Ideal.τ).loc Cert.Kernel4Ideal.main_v7_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_v7_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v4) = v1 c
          ∧ r.2.mem ((c.tc : Thread Cert.Reference4Ideal.nD Cert.Reference4Ideal.τ).loc Cert.Reference4Ideal.main_v7) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S4096x1024 : Shape := ⟨2, ![4096, 1024]⟩
abbrev S4096x8 : Shape := ⟨2, ![4096, 8]⟩
abbrev S4096x7680 : Shape := ⟨2, ![4096, 7680]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x8 : S_.BroadcastsInDim S4096x8 (![] : Fin 0 → Fin S4096x8.rank)
  reducesTo_S4096x8_S_d0_1 : S4096x8.ReducesTo [0, 1] S_

variable [Facts]

def fn_part1 {F : FTy → Type} [FloatOps F] (main_arg4 : FVec F S4096x1024 .f32) (main_v13 : IVec S_ 1) (main_v16 : IVec S4096x8 1) : IVec S_ 1 :=
  let main_c_5 : IVec S_ 1 := constantI S_ 1 1#1
  let main_v17 : IVec S_ 1 := (fun x v => Host.reduce IntOp.andi x v reducesTo_S4096x8_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x1024 .f32) (main_arg1 : FVec F S4096x1024 .f32) (main_arg2 : FVec F S4096x1024 .f32) (main_arg3 : FVec F S4096x8 .f32) (main_arg4 : FVec F S4096x1024 .f32) (main_arg5 : FVec F S4096x7680 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x8 .f32 := Host.absf main_arg3
  let main_cst_4 : FVec F S_ .f32 := constant S_ .f32 0x7F800000#32
  let main_v15 : FVec F S4096x8 .f32 := broadcastInDim S4096x8 ![] bcast_S_S4096x8 main_cst_4
  let main_v16 : IVec S4096x8 1 := cmpf .olt main_v14 main_v15
  fn_part1 (F := F) main_arg4 main_v13 main_v16
-- ==== Pre_finite2.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x2816 : S_.BroadcastsInDim S4096x2816 (![] : Fin 0 → Fin S4096x2816.rank)
  reducesTo_S4096x2816_S_d0_1 : S4096x2816.ReducesTo [0, 1] S_

variable [Facts]

def fn {F : FTy → Type} [FloatOps F] (main_arg0 : FVec F S4096x1024 .bf16) (main_arg1 : FVec F S2816x1024 .bf16) (main_arg2 : FVec F S4096x2816 .bf16) (main_arg3 : FVec F S4096x2816 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S4096x2816 .f32 := (extf .f32 · bitsLt_bf16_f32) main_arg3
  let main_v12 : FVec F S4096x2816 .f32 := Host.absf main_v11
  let main_cst_2 : FVec F S_ .f32 := constant S_ .f32 0x7F800000#32
  let main_v13 : FVec F S4096x2816 .f32 := broadcastInDim S4096x2816 ![] bcast_S_S4096x2816 main_cst_2
  let main_v14 : IVec S4096x2816 1 := cmpf .olt main_v12 main_v13
  let main_c_3 : IVec S_ 1 := constantI S_ 1 1#1
  let main_v15 : IVec S_ 1 := (fun x v => Host.reduce IntOp.andi x v reducesTo_S4096x2816_S_d0_1 h_S_) main_v14 main_c_3
  let main_v16 : IVec S_ 1 := andi main_v10 main_v15
  main_v16
-- ==== Kernel.lean ====
abbrev S4096x1024 : Shape := ⟨2, ![4096, 1024]⟩
abbrev S4096x8 : Shape := ⟨2, ![4096, 8]⟩
abbrev S4096x7680 : Shape := ⟨2, ![4096, 7680]⟩
abbrev S4096x8x128 : Shape := ⟨3, ![4096, 8, 128]⟩
abbrev S8x4096x128 : Shape := ⟨3, ![8, 4096, 128]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4096x8x1 : Shape := ⟨3, ![4096, 8, 1]⟩
abbrev S4096x8x1x128 : Shape := ⟨4, ![4096, 8, 1, 128]⟩
abbrev S4096x8x3x128 : Shape := ⟨4, ![4096, 8, 3, 128]⟩
abbrev S4096x3072 : Shape := ⟨2, ![4096, 3072]⟩
abbrev S4096x4608 : Shape := ⟨2, ![4096, 4608]⟩
abbrev S4096x128 : Shape := ⟨2, ![4096, 128]⟩
abbrev S1024x128 : Shape := ⟨2, ![1024, 128]⟩
abbrev S1x1x4096 : Shape := ⟨3, ![1, 1, 4096]⟩
abbrev S1024x384 : Shape := ⟨2, ![1024, 384]⟩
abbrev S1x1x1024 : Shape := ⟨3, ![1, 1, 1024]⟩
abbrev S128x4096 : Shape := ⟨2, ![128, 4096]⟩
abbrev S128x1024 : Shape := ⟨2, ![128, 1024]⟩
abbrev S1x1024 : Shape := ⟨2, ![1, 1024]⟩
abbrev S1024 : Shape := ⟨1, ![1024]⟩
abbrev S1024x1 : Shape := ⟨2, ![1024, 1]⟩
abbrev S1024x1024 : Shape := ⟨2, ![1024, 1024]⟩

abbrev nBuf : Space → Nat
  | .hbm => 75
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x8, .f32⟩
  | .hbm, ⟨4, _⟩ => ⟨S4096x1024, .f32⟩
  | .hbm, ⟨5, _⟩ => ⟨S4096x7680, .bf16⟩
  | .hbm, ⟨6, _⟩ => ⟨S4096x8x128, .f32⟩
  | .hbm, ⟨7, _⟩ => ⟨S8x4096x128, .f32⟩
  | .hbm, ⟨8, _⟩ => ⟨S_, .f32⟩
  | .hbm, ⟨9, _⟩ => ⟨S8x4096x128, .f32⟩
  | .hbm, ⟨10, _⟩ => ⟨S8x4096x128, .f32⟩
  | .hbm, ⟨11, _⟩ => ⟨S4096x8x128, .f32⟩
  | .hbm, ⟨12, _⟩ => ⟨S8x4096x128, .f32⟩
  | .hbm, ⟨13, _⟩ => ⟨S4096x8x128, .f32⟩
  | .hbm, ⟨14, _⟩ => ⟨S8x4096x128, .f32⟩
  | .hbm, ⟨15, _⟩ => ⟨S8x4096, .f32⟩
  | .hbm, ⟨16, _⟩ => ⟨S8x4096x4096, .f32⟩
  | .hbm, ⟨17, _⟩ => ⟨S8x4096x1, .f32⟩
  | .hbm, ⟨18, _⟩ => ⟨S8x4096x4096, .f32⟩
  | .hbm, ⟨19, _⟩ => ⟨S8x4096x4096, .f32⟩
  | .hbm, ⟨20, _⟩ => ⟨S8x1x4096, .f32⟩
  | .hbm, ⟨21, _⟩ => ⟨S8x4096x4096, .f32⟩
  | .hbm, ⟨22, _⟩ => ⟨S8x4096x4096, .f32⟩
  | .hbm, ⟨23, _⟩ => ⟨S4096, .i32⟩
  | .hbm, ⟨24, _⟩ => ⟨S1x4096, .i32⟩
  | .hbm, ⟨25, _⟩ => ⟨S4096x1, .i32⟩
  | .hbm, ⟨26, _⟩ => ⟨S4096x4096, .i32⟩
  | .hbm, ⟨27, _⟩ => ⟨S4096x4096, .i32⟩
  | .hbm, ⟨28, _⟩ => ⟨S4096x4096, .i1⟩
  | .hbm, ⟨29, _⟩ => ⟨S_, .f32⟩
  | .hbm, ⟨30, _⟩ => ⟨S_, .f32⟩
  | .hbm, ⟨31, _⟩ => ⟨S8x4096x4096, .i1⟩
  | .hbm, ⟨32, _⟩ => ⟨S8x4096x4096, .f32⟩
  | .hbm, ⟨33, _⟩ => ⟨S8x4096x4096, .f32⟩
  | .hbm, ⟨34, _⟩ => ⟨S_, .f32⟩
  | .hbm, ⟨35, _⟩ => ⟨S8x4096, .f32⟩
  | .hbm, ⟨36, _⟩ => ⟨S8x4096x1, .f32⟩
  | .hbm, ⟨37, _⟩ => ⟨S8x4096x4096, .f32⟩
  | .hbm, ⟨38, _⟩ => ⟨S8x4096x4096, .f32⟩
  | .hbm, ⟨39, _⟩ => ⟨S8x4096x4096, .f32⟩
  | .hbm, ⟨40, _⟩ => ⟨S_, .f32⟩
  | .hbm, ⟨41, _⟩ => ⟨S8x4096, .f32⟩
  | .hbm, ⟨42, _⟩ => ⟨S8x4096x1, .f32⟩
  | .hbm, ⟨43, _⟩ => ⟨S8x4096x4096, .f32⟩
  | .hbm, ⟨44, _⟩ => ⟨S8x4096x4096, .f32⟩
  | .hbm, ⟨45, _⟩ => ⟨S8x4096x128, .f32⟩
  | .hbm, ⟨46, _⟩ => ⟨S4096x8x128, .f32⟩
  | .hbm, ⟨47, _⟩ => ⟨S4096x1024, .f32⟩
  | .hbm, ⟨48, _⟩ => ⟨S8x1x4096, .f32⟩
  | .hbm, ⟨49, _⟩ => ⟨S8x4096x1, .f32⟩
  | .hbm, ⟨50, _⟩ => ⟨S8x4096x1, .f32⟩
  | .hbm, ⟨51, _⟩ => ⟨S8x4096, .f32⟩
  | .hbm, ⟨52, _⟩ => ⟨S8x1x4096, .f32⟩
  | .hbm, ⟨53, _⟩ => ⟨S8x1x4096, .f32⟩
  | .hbm, ⟨54, _⟩ => ⟨S4096x1024, .f32⟩
  | .hbm, ⟨55, _⟩ => ⟨S4096x8x128, .f32⟩
  | .hbm, ⟨56, _⟩ => ⟨S_, .f32⟩
  | .hbm, ⟨57, _⟩ => ⟨S4096x8, .f32⟩
  | .hbm, ⟨58, _⟩ => ⟨S4096x8x1, .f32⟩
  | .hbm, ⟨59, _⟩ => ⟨S4096x8x128, .f32⟩
  | .hbm, ⟨60, _⟩ => ⟨S4096x1024, .f32⟩
  | .hbm, ⟨61, _⟩ => ⟨S4096x8x1x128, .f32⟩
  | .hbm, ⟨62, _⟩ => ⟨S4096x8x1x128, .f32⟩
  | .hbm, ⟨63, _⟩ => ⟨S4096x8x1x128, .f32⟩
  | .hbm, ⟨64, _⟩ => ⟨S4096x8x3x128, .f32⟩
  | .hbm, ⟨65, _⟩ => ⟨S4096x3072, .f32⟩
  | .hbm, ⟨66, _⟩ => ⟨S_, .f32⟩
  | .hbm, ⟨67, _⟩ => ⟨S4096x4608, .f32⟩
  | .hbm, ⟨68, _⟩ => ⟨S4096x7680, .f32⟩
  | .hbm, ⟨69, _⟩ => ⟨S_, .i32⟩
  | .hbm, ⟨70, _⟩ => ⟨S_, .f32⟩
  | .hbm, ⟨71, _⟩ => ⟨S4096x128, .f32⟩
  | .hbm, ⟨72, _⟩ => ⟨S4096x7680, .bf16⟩
  | .hbm, ⟨73, _⟩ => ⟨S8x1x4096, .f32⟩
  | .hbm, ⟨74, _⟩ => ⟨S8x1x4096, .f32⟩
  | .local _ .vmem, ⟨0, _⟩ => ⟨S4096x128, .f32⟩
  | .local _ .vmem, ⟨1, _⟩ => ⟨S4096x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S4096x128, .f32⟩
  | .local _ .vmem, ⟨7, _⟩ => ⟨S4096x128, .f32⟩
  | .local _ .vmem, ⟨8, _⟩ => ⟨S1x1x4096, .f32⟩
  | .local _ .vmem, ⟨9, _⟩ => ⟨S1x1x4096, .f32⟩
  | .local _ .vmem, ⟨10, _⟩ => ⟨S4096x128, .f32⟩
  | .local _ .vmem, ⟨11, _⟩ => ⟨S4096x128, .f32⟩
  | .local _ .vmem, ⟨12, _⟩ => ⟨S1024x128, .f32⟩
  | .local _ .vmem, ⟨13, _⟩ => ⟨S1024x128, .f32⟩
  | .local _ .vmem, ⟨14, _⟩ => ⟨S1024x384, .bf16⟩
  | .local _ .vmem, ⟨15, _⟩ => ⟨S1024x384, .bf16⟩
  | .local _ .vmem, ⟨16, _⟩ => ⟨S1x1x1024, .f32⟩
  | .local _ .vmem, ⟨17, _⟩ => ⟨S1x1x1024, .f32⟩
  | .local _ .vmem, ⟨18, _⟩ => ⟨S1x1x4096, .f32⟩
  | .local _ .vmem, ⟨19, _⟩ => ⟨S1x1x4096, .f32⟩
  | .local _ .vmem, ⟨20, _⟩ => ⟨S4096x128, .bf16⟩
  | .local _ .vmem, ⟨21, _⟩ => ⟨S128x4096, .bf16⟩
  | .local _ .vmem, ⟨22, _⟩ => ⟨S4096x128, .bf16⟩
  | .local _ .vmem, ⟨23, _⟩ => ⟨S128x4096, .bf16⟩
  | .local _ .vmem, ⟨24, _⟩ => ⟨S1x4096, .f32⟩
  | .local _ .vmem, ⟨25, _⟩ => ⟨S128x4096, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_3 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_4 : Ref sig .tc := ⟨.hbm, 66, rfl⟩
abbrev main_v52 : Ref sig .tc := ⟨.hbm, 67, rfl⟩
abbrev main_v53 : Ref sig .tc := ⟨.hbm, 68, rfl⟩
abbrev main_c : Ref sig .tc := ⟨.hbm, 69, rfl⟩
abbrev main_call1_v0 : Ref sig .tc := ⟨.hbm, 70, rfl⟩
abbrev main_v54 : Ref sig .tc := ⟨.hbm, 71, rfl⟩
abbrev main_v55_0 : Ref sig .tc := ⟨.hbm, 72, rfl⟩
abbrev main_v55_1 : Ref sig .tc := ⟨.hbm, 73, rfl⟩
abbrev main_v55_2 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c1024_i32 : BitVec 32 := 1024#32
  let v25 : BitVec 32 := Scalar.muli arg1 c1024_i32
  v25
def k0_off1 (i : grid0.Coords) : Fin 2 → Nat :=
  let arg1 : BitVec 32 := BitVec.ofNat 32 (i 1).val
  let c1024_i32 : BitVec 32 := 1024#32
  let v25 : BitVec 32 := Scalar.muli arg1 c1024_i32
  let v26 : BitVec 32 := v25
  let v27 : Index := Scalar.indexCast v26
  let c0_9 : Index := 0#32
  ![v27.toNat, 0]
def k0_off2 (i : grid0.Coords) : Fin 3 → Nat :=
  let c0_11 : Index := 0#32
  let c0_12 : Index := 0#32
  let arg1 : BitVec 32 := BitVec.ofNat 32 (i 1).val
  let c1024_i32 : BitVec 32 := 1024#32
  let v25 : BitVec 32 := Scalar.muli arg1 c1024_i32
  let v26 : BitVec 32 := v25
  let v30 : Index := Scalar.indexCast v26
  ![0, 0, v30.toNat]
def k0_off3 (i : grid0.Coords) : Fin 2 → Nat :=
  let c0_16 : Index := 0#32
  let arg1 : BitVec 32 := BitVec.ofNat 32 (i 1).val
  let c1024_i32 : BitVec 32 := 1024#32
  let v25 : BitVec 32 := Scalar.muli arg1 c1024_i32
  let v26 : BitVec 32 := v25
  let v45 : Index := Scalar.indexCast v26
  ![0, v45.toNat]
def k0_off4 (i : grid0.Coords) : Fin 2 → Nat :=
  let c0_17 : Index := 0#32
  let arg1 : BitVec 32 := BitVec.ofNat 32 (i 1).val
  let c1024_i32 : BitVec 32 := 1024#32
  let v25 : BitVec 32 := Scalar.muli arg1 c1024_i32
  let v26 : BitVec 32 := v25
  let v52 : Index := Scalar.indexCast v26
  ![0, v52.toNat]
@[reducible] def k0_t1_loop (i : grid0.Coords) : Scf.Loop 32 :=
  let arg1 : BitVec 32 := BitVec.ofNat 32 (i 1).val
  let c1_i32 : BitVec 32 := 1#32
  let v96 : BitVec 32 := Scalar.addi arg1 c1_i32
  let c4_i32 : BitVec 32 := 4#32
  let v97 : BitVec 32 := Scalar.subi c4_i32 v96
  let c1_i32_30 : BitVec 32 := 1#32
  let v99 : BitVec 32 := Scalar.divsi v97 c1_i32_30
  let v100 : BitVec 32 := Scalar.muli v99 c1_i32_30
  let v101 : BitVec 32 := Scalar.addi v96 v100
  let c1_i32_31 : BitVec 32 := 1#32
  ⟨v96, v101, c1_i32_31⟩
def k0_mult2 (i : grid0.Coords) (k0_t1 : Fin (k0_t1_loop i).trips) : BitVec 32 :=
  let arg1 : BitVec 32 := BitVec.ofNat 32 (i 1).val
  let c1_i32 : BitVec 32 := 1#32
  let v96 : BitVec 32 := Scalar.addi arg1 c1_i32
  let c1_i32_31 : BitVec 32 := 1#32
  let arg19 : BitVec 32 := Scf.iv v96 c1_i32_31 k0_t1
  let c1024_i32_44 : BitVec 32 := 1024#32
  let v125 : BitVec 32 := Scalar.muli arg19 c1024_i32_44
  v125
def k0_off5 (i : grid0.Coords) (k0_t1 : Fin (k0_t1_loop i).trips) : Fin 2 → Nat :=
  let arg1 : BitVec 32 := BitVec.ofNat 32 (i 1).val
  let c1_i32 : BitVec 32 := 1#32
  let v96 : BitVec 32 := Scalar.addi arg1 c1_i32
  let c1_i32_31 : BitVec 32 := 1#32
  let arg19 : BitVec 32 := Scf.iv v96 c1_i32_31 k0_t1
  let c1024_i32_44 : BitVec 32 := 1024#32
  let v125 : BitVec 32 := Scalar.muli arg19 c1024_i32_44
  let v126 : BitVec 32 := v125
  let v127 : Index := Scalar.indexCast v126
  let c0_45 : Index := 0#32
  ![v127.toNat, 0]
def k0_off6 (i : grid0.Coords) (k0_t1 : Fin (k0_t1_loop i).trips) : Fin 3 → Nat :=
  let c0_47 : Index := 0#32
  let c0_48 : Index := 0#32
  let arg1 : BitVec 32 := BitVec.ofNat 32 (i 1).val
  let c1_i32 : BitVec 32 := 1#32
  let v96 : BitVec 32 := Scalar.addi arg1 c1_i32
  let c1_i32_31 : BitVec 32 := 1#32
  let arg19 : BitVec 32 := Scf.iv v96 c1_i32_31 k0_t1
  let c1024_i32_44 : BitVec 32 := 1024#32
  let v125 : BitVec 32 := Scalar.muli arg19 c1024_i32_44
  let v126 : BitVec 32 := v125
  let v130 : Index := Scalar.indexCast v126
  ![0, 0, v130.toNat]
def k0_off7 (i : grid0.Coords) (k0_t1 : Fin (k0_t1_loop i).trips) : Fin 2 → Nat :=
  let c0_51 : Index := 0#32
  let arg1 : BitVec 32 := BitVec.ofNat 32 (i 1).val
  let c1_i32 : BitVec 32 := 1#32
  let v96 : BitVec 32 := Scalar.addi arg1 c1_i32
  let c1_i32_31 : BitVec 32 := 1#32
  let arg19 : BitVec 32 := Scf.iv v96 c1_i32_31 k0_t1
  let c1024_i32_44 : BitVec 32 := 1024#32
  let v125 : BitVec 32 := Scalar.muli arg19 c1024_i32_44
  let v126 : BitVec 32 := v125
  let v140 : Index := Scalar.indexCast v126
  ![0, v140.toNat]
def k0_off8 (i : grid0.Coords) (k0_t1 : Fin (k0_t1_loop i).trips) : Fin 2 → Nat :=
  let c0_52 : Index := 0#32
  let arg1 : BitVec 32 := BitVec.ofNat 32 (i 1).val
  let c1_i32 : BitVec 32 := 1#32
  let v96 : BitVec 32 := Scalar.addi arg1 c1_i32
  let c1_i32_31 : BitVec 32 := 1#32
  let arg19 : BitVec 32 := Scf.iv v96 c1_i32_31 k0_t1
  let c1024_i32_44 : BitVec 32 := 1024#32
  let v125 : BitVec 32 := Scalar.muli arg19 c1024_i32_44
  let v126 : BitVec 32 := v125
  let v147 : Index := Scalar.indexCast v126
  ![0, v147.toNat]
@[reducible] def k0_t2_loop (i : grid0.Coords) : Scf.Loop 32 :=
  let arg1 : BitVec 32 := BitVec.ofNat 32 (i 1).val
  let c1_i32 : BitVec 32 := 1#32
  let v96 : BitVec 32 := Scalar.addi arg1 c1_i32
  let c4_i32 : BitVec 32 := 4#32
  let v97 : BitVec 32 := Scalar.subi c4_i32 v96
  let c1_i32_30 : BitVec 32 := 1#32
  let v99 : BitVec 32 := Scalar.divsi v97 c1_i32_30
  let v100 : BitVec 32 := Scalar.muli v99 c1_i32_30
  let v101 : BitVec 32 := Scalar.addi v96 v100
  let v98 : BitVec 32 := Scalar.addi v96 v97
  let c1_i32_32 : BitVec 32 := 1#32
  ⟨v101, v98, c1_i32_32⟩
def k0_mult3 (i : grid0.Coords) (k0_t2 : Fin (k0_t2_loop i).trips) : BitVec 32 :=
  let arg1 : BitVec 32 := BitVec.ofNat 32 (i 1).val
  let c1_i32 : BitVec 32 := 1#32
  let v96 : BitVec 32 := Scalar.addi arg1 c1_i32
  let c4_i32 : BitVec 32 := 4#32
  let v97 : BitVec 32 := Scalar.subi c4_i32 v96
  let c1_i32_30 : BitVec 32 := 1#32
  let v99 : BitVec 32 := Scalar.divsi v97 c1_i32_30
  let v100 : BitVec 32 := Scalar.muli v99 c1_i32_30
  let v101 : BitVec 32 := Scalar.addi v96 v100
  let c1_i32_32 : BitVec 32 := 1#32
  let arg19 : BitVec 32 := Scf.iv v101 c1_i32_32 k0_t2
  let c1024_i32_44 : BitVec 32 := 1024#32
  let v125 : BitVec 32 := Scalar.muli arg19 c1024_i32_44
  v125
def k0_off9 (i : grid0.Coords) (k0_t2 : Fin (k0_t2_loop i).trips) : Fin 2 → Nat :=
  let arg1 : BitVec 32 := BitVec.ofNat 32 (i 1).val
  let c1_i32 : BitVec 32 := 1#32
  let v96 : BitVec 32 := Scalar.addi arg1 c1_i32
  let c4_i32 : BitVec 32 := 4#32
  let v97 : BitVec 32 := Scalar.subi c4_i32 v96
  let c1_i32_30 : BitVec 32 := 1#32
  let v99 : BitVec 32 := Scalar.divsi v97 c1_i32_30
  let v100 : BitVec 32 := Scalar.muli v99 c1_i32_30
  let v101 : BitVec 32 := Scalar.addi v96 v100
  let c1_i32_32 : BitVec 32 := 1#32
  let arg19 : BitVec 32 := Scf.iv v101 c1_i32_32 k0_t2
  let c1024_i32_44 : BitVec 32 := 1024#32
  let v125 : BitVec 32 := Scalar.muli arg19 c1024_i32_44
  let v126 : BitVec 32 := v125
  let v127 : Index := Scalar.indexCast v126
  let c0_45 : Index := 0#32
  ![v127.toNat, 0]
def k0_off10 (i : grid0.Coords) (k0_t2 : Fin (k0_t2_loop i).trips) : Fin 3 → Nat :=
  let c0_47 : Index := 0#32
  let c0_48 : Index := 0#32
  let arg1 : BitVec 32 := BitVec.ofNat 32 (i 1).val
  let c1_i32 : BitVec 32 := 1#32
  let v96 : BitVec 32 := Scalar.addi arg1 c1_i32
  let c4_i32 : BitVec 32 := 4#32
  let v97 : BitVec 32 := Scalar.subi c4_i32 v96
  let c1_i32_30 : BitVec 32 := 1#32
  let v99 : BitVec 32 := Scalar.divsi v97 c1_i32_30
  let v100 : BitVec 32 := Scalar.muli v99 c1_i32_30
  let v101 : BitVec 32 := Scalar.addi v96 v100
  let c1_i32_32 : BitVec 32 := 1#32
  let arg19 : BitVec 32 := Scf.iv v101 c1_i32_32 k0_t2
  let c1024_i32_44 : BitVec 32 := 1024#32
  let v125 : BitVec 32 := Scalar.muli arg19 c1024_i32_44
  let v126 : BitVec 32 := v125
  let v130 : Index := Scalar.indexCast v126
  ![0, 0, v130.toNat]
def k0_off11 (i : grid0.Coords) (k0_t2 : Fin (k0_t2_loop i).trips) : Fin 2 → Nat :=
  let c0_51 : Index := 0#32
  let arg1 : BitVec 32 := BitVec.ofNat 32 (i 1).val
  let c1_i32 : BitVec 32 := 1#32
  let v96 : BitVec 32 := Scalar.addi arg1 c1_i32
  let c4_i32 : BitVec 32 := 4#32
  let v97 : BitVec 32 := Scalar.subi c4_i32 v96
  let c1_i32_30 : BitVec 32 := 1#32
  let v99 : BitVec 32 := Scalar.divsi v97 c1_i32_30
  let v100 : BitVec 32 := Scalar.muli v99 c1_i32_30
  let v101 : BitVec 32 := Scalar.addi v96 v100
  let c1_i32_32 : BitVec 32 := 1#32
  let arg19 : BitVec 32 := Scf.iv v101 c1_i32_32 k0_t2
  let c1024_i32_44 : BitVec 32 := 1024#32
  let v125 : BitVec 32 := Scalar.muli arg19 c1024_i32_44
  let v126 : BitVec 32 := v125
  let v140 : Index := Scalar.indexCast v126
  ![0, v140.toNat]
def k0_off12 (i : grid0.Coords) (k0_t2 : Fin (k0_t2_loop i).trips) : Fin 2 → Nat :=
  let c0_52 : Index := 0#32
  let arg1 : BitVec 32 := BitVec.ofNat 32 (i 1).val
  let c1_i32 : BitVec 32 := 1#32
  let v96 : BitVec 32 := Scalar.addi arg1 c1_i32
  let c4_i32 : BitVec 32 := 4#32
  let v97 : BitVec 32 := Scalar.subi c4_i32 v96
  let c1_i32_30 : BitVec 32 := 1#32
  let v99 : BitVec 32 := Scalar.divsi v97 c1_i32_30
  let v100 : BitVec 32 := Scalar.muli v99 c1_i32_30
  let v101 : BitVec 32 := Scalar.addi v96 v100
  let c1_i32_32 : BitVec 32 := 1#32
  let arg19 : BitVec 32 := Scf.iv v101 c1_i32_32 k0_t2
  let c1024_i32_44 : BitVec 32 := 1024#32
  let v125 : BitVec 32 := Scalar.muli arg19 c1024_i32_44
  let v126 : BitVec 32 := v125
  let v147 : Index := Scalar.indexCast v126
  ![0, v147.toNat]
def k0_mult4 (i : grid0.Coords) : BitVec 32 :=
  let arg1 : BitVec 32 := BitVec.ofNat 32 (i 1).val
  let c1024_i32_33 : BitVec 32 := 1024#32
  let v104 : BitVec 32 := Scalar.muli arg1 c1024_i32_33
  v104
def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg0
  let c36_i32 : BitVec 32 := 36#32
  let v1 : BitVec 32 := Scalar.addi c36_i32 v0
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg0
  let c36_i32 : BitVec 32 := 36#32
  let v1 : BitVec 32 := Scalar.addi c36_i32 v0
  let c1_i32 : BitVec 32 := 1#32
  let v2 : BitVec 32 := Scalar.addi v1 c1_i32
  let c0_i32 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg0
  let c36_i32 : BitVec 32 := 36#32
  let v1 : BitVec 32 := Scalar.addi c36_i32 v0
  let c2_i32 : BitVec 32 := 2#32
  let v2 : BitVec 32 := Scalar.addi v1 c2_i32
  let c0_i32 : BitVec 32 := 0#32
  ![arg1.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S4096x1024 : Shape := ⟨2, ![4096, 1024]⟩
abbrev S4096x8 : Shape := ⟨2, ![4096, 8]⟩
abbrev S4096x7680 : Shape := ⟨2, ![4096, 7680]⟩
abbrev S4096x8x128 : Shape := ⟨3, ![4096, 8, 128]⟩
abbrev S8x4096x128 : Shape := ⟨3, ![8, 4096, 128]⟩
abbrev S_ : Shape := ⟨0, ![]⟩
abbrev S8x4096x4096 : Shape := ⟨3, ![8, 4096, 4096]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x128x4096 : Shape := ⟨3, ![8, 128, 4096]⟩
abbrev S4096x8x1x128 : Shape := ⟨4, ![4096, 8, 1, 128]⟩
abbrev S4096x8x3x128 : Shape := ⟨4, ![4096, 8, 3, 128]⟩
abbrev S4096x3072 : Shape := ⟨2, ![4096, 3072]⟩
abbrev S4096x4608 : Shape := ⟨2, ![4096, 4608]⟩

abbrev nBuf : Space → Nat
  | .hbm => 139
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x8, .f32⟩
  | 4 => ⟨S4096x1024, .f32⟩
  | 5 => ⟨S4096x7680, .bf16⟩
  | 6 => ⟨S4096x8x128, .f32⟩
  | 7 => ⟨S8x4096x128, .f32⟩
  | 8 => ⟨S_, .f32⟩
  | 9 => ⟨S8x4096x128, .f32⟩
  | 10 => ⟨S8x4096x128, .f32⟩
  | 11 => ⟨S4096x8x128, .f32⟩
  | 12 => ⟨S8x4096x128, .f32⟩
  | 13 => ⟨S4096x8x128, .f32⟩
  | 14 => ⟨S8x4096x128, .f32⟩
  | 15 => ⟨S8x4096x4096, .f32⟩
  | 16 => ⟨S8x4096, .f32⟩
  | 17 => ⟨S8x4096x1, .f32⟩
  | 18 => ⟨S8x4096x4096, .f32⟩
  | 19 => ⟨S8x4096x4096, .f32⟩
  | 20 => ⟨S8x4096, .f32⟩
  | 21 => ⟨S8x1x4096, .f32⟩
  | 22 => ⟨S8x4096x4096, .f32⟩
  | 23 => ⟨S8x4096x4096, .f32⟩
  | 24 => ⟨S4096, .i32⟩
  | 25 => ⟨S1x4096, .i32⟩
  | 26 => ⟨S4096x1, .i32⟩
  | 27 => ⟨S4096x4096, .i32⟩
  | 28 => ⟨S4096x4096, .i32⟩
  | 29 => ⟨S4096x4096, .i1⟩
  | 30 => ⟨S_, .f32⟩
  | 31 => ⟨S_, .f32⟩
  | 32 => ⟨S8x4096x4096, .i1⟩
  | 33 => ⟨S8x4096x4096, .f32⟩
  | 34 => ⟨S8x4096x4096, .f32⟩
  | 35 => ⟨S_, .f32⟩
  | 36 => ⟨S8x4096x4096, .f32⟩
  | 37 => ⟨S_, .f32⟩
  | 38 => ⟨S8x4096, .f32⟩
  | 39 => ⟨S8x4096x1, .f32⟩
  | 40 => ⟨S8x4096x4096, .f32⟩
  | 41 => ⟨S8x4096x4096, .i1⟩
  | 42 => ⟨S8x4096x4096, .f32⟩
  | 43 => ⟨S_, .f32⟩
  | 44 => ⟨S8x4096, .f32⟩
  | 45 => ⟨S_, .f32⟩
  | 46 => ⟨S8x4096, .f32⟩
  | 47 => ⟨S8x4096, .f32⟩
  | 48 => ⟨S_, .f32⟩
  | 49 => ⟨S8x4096, .f32⟩
  | 50 => ⟨S8x4096, .i1⟩
  | 51 => ⟨S_, .f32⟩
  | 52 => ⟨S8x4096, .f32⟩
  | 53 => ⟨S8x4096, .i1⟩
  | 54 => ⟨S_, .f32⟩
  | 55 => ⟨S8x4096, .f32⟩
  | 56 => ⟨S_, .f32⟩
  | 57 => ⟨S8x4096, .f32⟩
  | 58 => ⟨S_, .f32⟩
  | 59 => ⟨S8x4096, .f32⟩
  | 60 => ⟨S8x4096, .f32⟩
  | 61 => ⟨S8x4096, .f32⟩
  | 62 => ⟨S8x4096x1, .f32⟩
  | 63 => ⟨S8x4096x4096, .f32⟩
  | 64 => ⟨S8x4096x4096, .f32⟩
  | 65 => ⟨S8x4096x4096, .f32⟩
  | 66 => ⟨S_, .f32⟩
  | 67 => ⟨S8x4096, .f32⟩
  | 68 => ⟨S8x4096x1, .f32⟩
  | 69 => ⟨S8x4096x4096, .f32⟩
  | 70 => ⟨S8x4096x4096, .f32⟩
  | 71 => ⟨S8x4096x1, .f32⟩
  | 72 => ⟨S_, .f32⟩
  | 73 => ⟨S8x4096x1, .f32⟩
  | 74 => ⟨S8x4096x1, .f32⟩
  | 75 => ⟨S8x4096x128, .f32⟩
  | 76 => ⟨S4096x8x128, .f32⟩
  | 77 => ⟨S4096x1024, .f32⟩
  | 78 => ⟨S4096x8x128, .f32⟩
  | 79 => ⟨S8x4096x128, .f32⟩
  | 80 => ⟨S8x128x4096, .f32⟩
  | 81 => ⟨S8x4096x128, .f32⟩
  | 82 => ⟨S8x4096x4096, .f32⟩
  | 83 => ⟨S8x4096x4096, .f32⟩
  | 84 => ⟨S8x4096x4096, .f32⟩
  | 85 => ⟨S8x4096x4096, .f32⟩
  | 86 => ⟨S_, .f32⟩
  | 87 => ⟨S8x4096, .f32⟩
  | 88 => ⟨S8x4096x1, .f32⟩
  | 89 => ⟨S8x4096x1, .f32⟩
  | 90 => ⟨S8x4096x4096, .f32⟩
  | 91 => ⟨S8x4096x4096, .f32⟩
  | 92 => ⟨S_, .f32⟩
  | 93 => ⟨S8x4096, .f32⟩
  | 94 => ⟨S8x4096x4096, .f32⟩
  | 95 => ⟨S8x4096x4096, .f32⟩
  | 96 => ⟨S8x4096x4096, .f32⟩
  | 97 => ⟨S_, .f32⟩
  | 98 => ⟨S8x4096x4096, .f32⟩
  | 99 => ⟨S8x4096x4096, .f32⟩
  | 100 => ⟨S8x4096x4096, .f32⟩
  | 101 => ⟨S_, .f32⟩
  | 102 => ⟨S8x4096, .f32⟩
  | 103 => ⟨S8x1x4096, .f32⟩
  | 104 => ⟨S_, .f32⟩
  | 105 => ⟨S8x4096, .f32⟩
  | 106 => ⟨S4096x8, .f32⟩
  | 107 => ⟨S_, .f32⟩
  | 108 => ⟨S8x4096, .f32⟩
  | 109 => ⟨S8x4096x1, .f32⟩
  | 110 => ⟨S_, .f32⟩
  | 111 => ⟨S8x4096, .f32⟩
  | 112 => ⟨S4096x8, .f32⟩
  | 113 => ⟨S8x4096x128, .f32⟩
  | 114 => ⟨S8x4096x128, .f32⟩
  | 115 => ⟨S4096x8x128, .f32⟩
  | 116 => ⟨S4096x1024, .f32⟩
  | 117 => ⟨S4096x8x128, .f32⟩
  | 118 => ⟨S4096x1024, .f32⟩
  | 119 => ⟨S_, .f32⟩
  | 120 => ⟨S8x4096x128, .f32⟩
  | 121 => ⟨S8x4096x128, .f32⟩
  | 122 => ⟨S4096x8x128, .f32⟩
  | 123 => ⟨S4096x1024, .f32⟩
  | 124 => ⟨S4096x8x128, .f32⟩
  | 125 => ⟨S4096x8x128, .f32⟩
  | 126 => ⟨S4096x8x128, .f32⟩
  | 127 => ⟨S4096x8x1x128, .f32⟩
  | _ => ⟨S4096x1024, .f32⟩

abbrev hbmTy0_1 (i : Nat) : BufTy := match i % 128 with
  | 0 => ⟨S4096x8x1x128, .f32⟩
  | 1 => ⟨S4096x8x1x128, .f32⟩
  | 2 => ⟨S4096x8x3x128, .f32⟩
  | 3 => ⟨S4096x3072, .f32⟩
  | 4 => ⟨S4096x4608, .bf16⟩
  | 5 => ⟨S4096x3072, .bf16⟩
  | 6 => ⟨S4096x7680, .bf16⟩
  | 7 => ⟨S8x4096, .f32⟩
  | 8 => ⟨S8x1x4096, .f32⟩
  | 9 => ⟨S8x4096, .f32⟩
  | 10 => ⟨S8x1x4096, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_call0_v0 : Ref sig .tc := ⟨.hbm, 31, rfl⟩
abbrev main_v23_1 : Ref sig .tc := ⟨.hbm, 32, rfl⟩
abbrev main_call0_v2 : Ref sig .tc := ⟨.hbm, 33, rfl⟩
abbrev main_v23_0 : Ref sig .tc := ⟨.hbm, 34, rfl⟩
abbrev main_call0_cst : Ref sig .tc := ⟨.hbm, 35, rfl⟩
abbrev main_v23_2 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_11 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_12 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_call1_cst : Ref sig .tc := ⟨.hbm, 97, rfl⟩
abbrev main_call1_v0 : Ref sig .tc := ⟨.hbm, 98, rfl⟩
abbrev main_v72 : Ref sig .tc := ⟨.hbm, 99, rfl⟩
abbrev main_v73 : Ref sig .tc := ⟨.hbm, 100, rfl⟩
abbrev main_cst_13 : Ref sig .tc := ⟨.hbm, 101, rfl⟩
abbrev main_v74 : Ref sig .tc := ⟨.hbm, 102, rfl⟩
abbrev main_v75 : Ref sig .tc := ⟨.hbm, 103, rfl⟩
abbrev main_cst_14 : Ref sig .tc := ⟨.hbm, 104, rfl⟩
abbrev main_v76 : Ref sig .tc := ⟨.hbm, 105, rfl⟩
abbrev main_v77 : Ref sig .tc := ⟨.hbm, 106, rfl⟩
abbrev main_cst_15 : Ref sig .tc := ⟨.hbm, 107, rfl⟩
abbrev main_v78 : Ref sig .tc := ⟨.hbm, 108, rfl⟩
abbrev main_v79 : Ref sig .tc := ⟨.hbm, 109, rfl⟩
abbrev main_cst_16 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_17 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩

abbrev nD : Nat := 1
abbrev τ : Topo := Topo.v7x

variable {F : FTy → Type} [FloatOps F]
-- ==== Kernel2.lean ====
abbrev S4096x1024 : Shape := ⟨2, ![4096, 1024]⟩
abbrev S2816x1024 : Shape := ⟨2, ![2816, 1024]⟩
abbrev S4096x2816 : Shape := ⟨2, ![4096, 2816]⟩
abbrev S2x4096x2816 : Shape := ⟨3, ![2, 4096, 2816]⟩
abbrev S1024x1024 : Shape := ⟨2, ![1024, 1024]⟩
abbrev S1408x1024 : Shape := ⟨2, ![1408, 1024]⟩
abbrev S1024x1408 : Shape := ⟨2, ![1024, 1408]⟩
abbrev S2x1024x1408 : Shape := ⟨3, ![2, 1024, 1408]⟩
abbrev S1x1024x1408 : Shape := ⟨3, ![1, 1024, 1408]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S2x4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S2x1024x1408, .bf16⟩
  | .local _ .vmem, ⟨9, _⟩ => ⟨S2x1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩
abbrev S1024x2816 : Shape := ⟨2, ![1024, 2816]⟩
abbrev S1x4096x2816 : Shape := ⟨3, ![1, 4096, 2816]⟩
abbrev S2x4096x2816 : Shape := ⟨3, ![2, 4096, 2816]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S4096x1024, .f32⟩
  | .hbm, ⟨5, _⟩ => ⟨S2816x1024, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x1024, .f32⟩
  | .hbm, ⟨23, _⟩ => ⟨S1024x2816, .f32⟩
  | .hbm, ⟨24, _⟩ => ⟨S2816x1024, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S1x4096x2816, .f32⟩
  | .hbm, ⟨33, _⟩ => ⟨S1x4096x2816, .f32⟩
  | .hbm, ⟨34, _⟩ => ⟨S2x4096x2816, .f32⟩
  | .hbm, ⟨35, _⟩ => ⟨S2x4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩

abbrev nD : Nat := 1
abbrev τ : Topo := Topo.v7x

variable {F : FTy → Type} [FloatOps F]
-- ==== Kernel3.lean ====
abbrev S2x4096x2816 : Shape := ⟨3, ![2, 4096, 2816]⟩
abbrev S4096x1024 : Shape := ⟨2, ![4096, 1024]⟩
abbrev S5632x1024 : Shape := ⟨2, ![5632, 1024]⟩
abbrev S1x2048x1408 : Shape := ⟨3, ![1, 2048, 1408]⟩
abbrev S2048x1024 : Shape := ⟨2, ![2048, 1024]⟩
abbrev S1408x1024 : Shape := ⟨2, ![1408, 1024]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .bf16⟩
  | .hbm, ⟨2, _⟩ => ⟨S5632x1024, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2x4096x2816 : Shape := ⟨3, ![2, 4096, 2816]⟩
abbrev S4096x1024 : Shape := ⟨2, ![4096, 1024]⟩
abbrev S_ : Shape := ⟨0, ![]⟩
abbrev S1024x2816 : Shape := ⟨2, ![1024, 2816]⟩
abbrev S4096x2816 : Shape := ⟨2, ![4096, 2816]⟩
abbrev S1x4096x2816 : Shape := ⟨3, ![1, 4096, 2816]⟩
abbrev S2816x1024 : Shape := ⟨2, ![2816, 1024]⟩
abbrev S5632x1024 : Shape := ⟨2, ![5632, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .bf16⟩
  | .hbm, ⟨2, _⟩ => ⟨S2x4096x2816, .f32⟩
  | .hbm, ⟨3, _⟩ => ⟨S4096x1024, .f32⟩
  | .hbm, ⟨4, _⟩ => ⟨S_, .f32⟩
  | .hbm, ⟨5, _⟩ => ⟨S1024x2816, .f32⟩
  | .hbm, ⟨6, _⟩ => ⟨S4096x2816, .f32⟩
  | .hbm, ⟨7, _⟩ => ⟨S4096x2816, .f32⟩
  | .hbm, ⟨8, _⟩ => ⟨S1x4096x2816, .f32⟩
  | .hbm, ⟨9, _⟩ => ⟨S4096x2816, .f32⟩
  | .hbm, ⟨10, _⟩ => ⟨S1x4096x2816, .f32⟩
  | .hbm, ⟨11, _⟩ => ⟨S4096x2816, .f32⟩
  | .hbm, ⟨12, _⟩ => ⟨S2816x1024, .f32⟩
  | .hbm, ⟨13, _⟩ => ⟨S1024x2816, .f32⟩
  | .hbm, ⟨14, _⟩ => ⟨S2816x1024, .f32⟩
  | .hbm, ⟨15, _⟩ => ⟨S1024x2816, .f32⟩
  | .hbm, ⟨16, _⟩ => ⟨S2816x1024, .f32⟩
  | .hbm, ⟨17, _⟩ => ⟨S2816x1024, .f32⟩
  | .hbm, ⟨18, _⟩ => ⟨S5632x1024, .f32⟩
  | .hbm, ⟨19, _⟩ => ⟨S5632x1024, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== Kernel4.lean ====
abbrev S4096x1024 : Shape := ⟨2, ![4096, 1024]⟩
abbrev S1024x2816 : Shape := ⟨2, ![1024, 2816]⟩
abbrev S2816x1024 : Shape := ⟨2, ![2816, 1024]⟩
abbrev S1x2816x1024 : Shape := ⟨3, ![1, 2816, 1024]⟩
abbrev S2x2816x1024 : Shape := ⟨3, ![2, 2816, 1024]⟩
abbrev S5632x1024 : Shape := ⟨2, ![5632, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 13
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2816x1024, .f32⟩
  | .hbm, ⟨5, _⟩ => ⟨S1x2816x1024, .f32⟩
  | .hbm, ⟨6, _⟩ => ⟨S1x2816x1024, .f32⟩
  | .hbm, ⟨7, _⟩ => ⟨S2x2816x1024, .f32⟩
  | .hbm, ⟨8, _⟩ => ⟨S2x2816x1024, .bf16⟩
  | .hbm, ⟨9, _⟩ => ⟨S5632x1024, .bf16⟩
  | .hbm, ⟨10, _⟩ => ⟨S4096x2816, .bf16⟩
  | .hbm, ⟨11, _⟩ => ⟨S4096x2816, .bf16⟩
  | .hbm, ⟨12, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S4096x1024 : Shape := ⟨2, ![4096, 1024]⟩
abbrev S1024x2816 : Shape := ⟨2, ![1024, 2816]⟩
abbrev S4096x2816 : Shape := ⟨2, ![4096, 2816]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .f32⟩
  | .hbm, ⟨2, _⟩ => ⟨S1024x2816, .f32⟩
  | .hbm, ⟨3, _⟩ => ⟨S4096x1024, .f32⟩
  | .hbm, ⟨4, _⟩ => ⟨S4096x2816, .f32⟩
  | .hbm, ⟨5, _⟩ => ⟨S4096x2816, .f32⟩
  | .hbm, ⟨6, _⟩ => ⟨S4096x2816, .bf16⟩
  | .hbm, ⟨7, _⟩ => ⟨S4096x2816, .bf16⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Kernel5.lean ====
abbrev S4096x1024 : Shape := ⟨2, ![4096, 1024]⟩
abbrev S7680x1024 : Shape := ⟨2, ![7680, 1024]⟩
abbrev S4096x7680 : Shape := ⟨2, ![4096, 7680]⟩
abbrev S1024x1024 : Shape := ⟨2, ![1024, 1024]⟩
abbrev S1536x1024 : Shape := ⟨2, ![1536, 1024]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S7680x1024, .bf16⟩
  | .hbm, ⟨2, _⟩ => ⟨S4096x7680, .f32⟩
  | .local _ .vmem, ⟨0, _⟩ => ⟨S1024x1024, .bf16⟩
  | .local _ .vmem, ⟨1, _⟩ => ⟨S1024x1024, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1536, .f32⟩
  | .local _ .vmem, ⟨5, _⟩ => ⟨S1024x1536, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S7680x1024 : Shape := ⟨2, ![7680, 1024]⟩
abbrev S1024x7680 : Shape := ⟨2, ![1024, 7680]⟩
abbrev S4096x7680 : Shape := ⟨2, ![4096, 7680]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S7680x1024, .bf16⟩
  | .hbm, ⟨2, _⟩ => ⟨S4096x1024, .f32⟩
  | .hbm, ⟨3, _⟩ => ⟨S7680x1024, .f32⟩
  | .hbm, ⟨4, _⟩ => ⟨S1024x7680, .f32⟩
  | .hbm, ⟨5, _⟩ => ⟨S4096x7680, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel6.lean ====
abbrev S4096x7680 : Shape := ⟨2, ![4096, 7680]⟩
abbrev S4096x1024 : Shape := ⟨2, ![4096, 1024]⟩
abbrev S7680x1024 : Shape := ⟨2, ![7680, 1024]⟩
abbrev S2048x1536 : Shape := ⟨2, ![2048, 1536]⟩
abbrev S2048x1024 : Shape := ⟨2, ![2048, 1024]⟩
abbrev S1536x1024 : Shape := ⟨2, ![1536, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x7680, .bf16⟩
  | .hbm, ⟨1, _⟩ => ⟨S4096x1024, .bf16⟩
  | .hbm, ⟨2, _⟩ => ⟨S7680x1024, .bf16⟩
  | .local _ .vmem, ⟨0, _⟩ => ⟨S2048x1536, .bf16⟩
  | .local _ .vmem, ⟨1, _⟩ => ⟨S2048x1536, .bf16⟩
  | .local _ .vmem, ⟨2, _⟩ => ⟨S2048x1024, .bf16⟩
  | .local _ .vmem, ⟨3, _⟩ => ⟨S2048x1024, .bf16⟩
  | .local _ .vmem, ⟨4, _⟩ => ⟨S1536x1024, .bf16⟩
  | .local _ .vmem, ⟨5, _⟩ => ⟨S1536x1024, .bf16⟩
  | .local _ .vmem, ⟨6, _⟩ => ⟨S1536x1024, .f32⟩
  | _, _ => ⟨S4096x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x7680 : Shape := ⟨2, ![4096, 7680]⟩
abbrev S4096x1024 : Shape := ⟨2, ![4096, 1024]⟩
abbrev S_ : Shape := ⟨0, ![]⟩
abbrev S1024x7680 : Shape := ⟨2, ![1024, 7680]⟩
abbrev S7680x1024 : Shape := ⟨2, ![7680, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x7680, .bf16⟩
  | .hbm, ⟨1, _⟩ => ⟨S4096x1024, .bf16⟩
  | .hbm, ⟨2, _⟩ => ⟨S4096x7680, .f32⟩
  | .hbm, ⟨3, _⟩ => ⟨S4096x1024, .f32⟩
  | .hbm, ⟨4, _⟩ => ⟨S_, .f32⟩
  | .hbm, ⟨5, _⟩ => ⟨S1024x7680, .f32⟩
  | .hbm, ⟨6, _⟩ => ⟨S4096x7680, .f32⟩
  | .hbm, ⟨7, _⟩ => ⟨S7680x1024, .f32⟩
  | .hbm, ⟨8, _⟩ => ⟨S1024x7680, .f32⟩
  | .hbm, ⟨9, _⟩ => ⟨S7680x1024, .f32⟩
  | .hbm, ⟨10, _⟩ => ⟨S7680x1024, .bf16⟩
  | _, _ => ⟨S4096x7680, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S_, .f32⟩
  | .hbm, ⟨5, _⟩ => ⟨S2816x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.ProjValue.lean ====
module

public import proofs.«01_k».proof.Proof.Gen.Kernel5Ideal.Value
public import Idealize.ShloMosaic.Lib.Pipeline.ValueKit
public import Idealize.ShloMosaic.Lib.ValueIdx
public import Idealize.ShloMosaic.Lib.Pointwise
public import Idealize.ShloMosaic.PureOps.Ideal.Laws

/-! The array that the input projection leaves, as one function of the call's arguments. -/

@[expose] public section

set_option maxRecDepth 16384

noncomputable section

namespace Cert.Kernel5Ideal.Proj

open Idealize.ShloMosaic hiding ix1 ix2 ix3
open Idealize.ShloMosaic.ValueIdx Idealize.ShloMosaic.Pipeline Idealize.SL.Sem
open Cert.Kernel5Ideal Cert.Kernel5Ideal.Gen

/-- A row of a block against a row of another. -/
def dot (a : S1024x1024.Idx → EReal) (b : S1536x1024.Idx → EReal) (r : Fin 1024) (f : Fin 1536) : EReal := ∑ k : Fin 1024, a (ix2 r k) * b (ix2 f k)

/-- Rows against rows. -/
theorem mm_rows (a : FVec Ideal S1024x1024 .bf16) (b : FVec Ideal S1536x1024 .bf16) (r : Fin 1024) (f : Fin 1536) :
    matmul dot_S1024x1024_S1536x1024_S1024x1536_1_1_0_0_n_n none a b (constant (F := Ideal) S1024x1536 .f32 0x00000000#32) (ix2 r f) = ∑ k : Fin 1024, a (ix2 r k) * b (ix2 f k) := by
  simp only [matmul]
  rw [Ideal.matmul_constant_zero_apply, ← Equiv.sum_comp (contrEquiv1 dot_S1024x1024_S1536x1024_S1024x1536_1_1_0_0_n_n 1024 rfl rfl).symm]
  refine Finset.sum_congr rfl fun k _ => ?_
  have hk := contrEquiv1_symm_val dot_S1024x1024_S1536x1024_S1024x1536_1_1_0_0_n_n 1024 rfl rfl k
  congr 1
  · refine congrArg a (funext fun x => Fin.ext ?_)
    match x with
    | ⟨0, _⟩ => rfl
    | ⟨1, _⟩ => exact hk
  · refine congrArg b (funext fun x => Fin.ext ?_)
    match x with
    | ⟨0, _⟩ => rfl
    | ⟨1, _⟩ => exact hk

theorem pay1_at (a : Vec Ideal S1024x1024 .bf16) (b : Vec Ideal S1536x1024 .bf16) (r : Fin 1024) (f : Fin 1536) :
    k0_pay1 (F := Ideal) a b (ix2 r f) = dot a b r f := by
  unfold k0_pay1
  exact mm_rows a b r f

/-- The product, of whole arrays. -/
def proj (a : S4096x1024.Idx → EReal) (w : S7680x1024.Idx → EReal) : S4096x7680.Idx → EReal := fun i => ∑ k : Fin 1024, a (ix2 (i 0) k) * w (ix2 (i 1) k)

theorem hz2 : (![0, 0] : Fin 2 → Nat) = fun _ => 0 := funext fun a => by fin_cases a <;> rfl

theorem pt_lt (t : Fin cfg0.N) : t.val < 20 := t.isLt

theorem index0 : ∀ t : Fin cfg0.N, win0_0.index t = ![t.val / 5, 0] := (by decide +kernel : ∀ t : Fin grid0.N, win0_0.index t = ![t.val / 5, 0])
theorem index1 : ∀ t : Fin cfg0.N, win0_1.index t = ![t.val % 5, 0] := (by decide +kernel : ∀ t : Fin grid0.N, win0_1.index t = ![t.val % 5, 0])
theorem index2 : ∀ t : Fin cfg0.N, win0_2.index t = ![t.val / 5, t.val % 5] := (by decide +kernel : ∀ t : Fin grid0.N, win0_2.index t = ![t.val / 5, t.val % 5])

variable (m : (ℓ : Loc nD τ sig) → Buf (Elt Ideal) ℓ) (c : Dev nD) (t : Fin cfg0.N)

/-- The row of the arrays that a row of a point's blocks is. -/
def row (r : Fin 1024) : Fin 4096 := ⟨t.val / 5 * 1024 + r.val, by have := pt_lt t; omega⟩
/-- The column of the result that a column of a point's block is. -/
def col (f : Fin 1536) : Fin 7680 := ⟨t.val % 5 * 1536 + f.val, by omega⟩

theorem block0 (r k : Fin 1024) : iblk m c 0 t (ix2 r k) = m ((c.tc : Thread nD τ).loc main_arg0) (ix2 (row t r) k) := by
  blk_simp [iblk]
  rw [V_main_arg0]
  refine congrArg (m ((c.tc : Thread nD τ).loc main_arg0)) (funext fun a => ?_)
  match a with
  | ⟨0, _⟩ => refine Fin.ext ?_; blk_simp [index0]; rfl
  | ⟨1, _⟩ => refine Fin.ext ?_; blk_simp [index0]
theorem block1 (f : Fin 1536) (k : Fin 1024) : iblk m c 1 t (ix2 f k) = m ((c.tc : Thread nD τ).loc main_arg1) (ix2 (col t f) k) := by
  blk_simp [iblk]
  rw [V_main_arg1]
  refine congrArg (m ((c.tc : Thread nD τ).loc main_arg1)) (funext fun a => ?_)
  match a with
  | ⟨0, _⟩ => refine Fin.ext ?_; blk_simp [index1]; rfl
  | ⟨1, _⟩ => refine Fin.ext ?_; blk_simp [index1]

/-- A point's product. -/
theorem proj_at (r : Fin 1024) (f : Fin 1536) : dot (iblk m c 0 t) (iblk m c 1 t) r f = proj (m ((c.tc : Thread nD τ).loc main_arg0)) (m ((c.tc : Thread nD τ).loc main_arg1)) (ix2 (row t r) (col t f)) :=
  Finset.sum_congr rfl fun k _ => congrArg₂ (fun a b : EReal => a * b) (block0 m c t r k) (block1 m c t f k)

theorem split (y : S1024x1536.Idx) : y = ix2 (y 0) (y 1) := funext fun a => by
  match a with
  | ⟨0, _⟩ => rfl
  | ⟨1, _⟩ => rfl

/-- What one point leaves in its block of the result. -/
theorem out2_eq (x0 : Vec Ideal S1024x1024 .bf16) (x1 : Vec Ideal S1536x1024 .bf16) : out0_2 (F := Ideal) x0 x1 = k0_pay1 (F := Ideal) x0 x1 := by
  unfold out0_2
  rw [View.ld_unit_zero hz2, View.ld_unit_zero hz2]
  exact View.canon_unit_zero hz2 _ _

/-- The array after the call. -/
theorem arr2 : (dats m 0 c).arrAt 2 cfg0.N = proj (m ((c.tc : Thread nD τ).loc main_arg0)) (m ((c.tc : Thread nD τ).loc main_arg1)) := by
  refine Dat.arrAt_eq_of_covers (dat := dats m 0 c) 2 (proj _ _) (by decide +kernel) (fun t hf y => ?_)
  have e : (win0_2.blk t).view.emb y = ix2 (row t (y 0)) (col t (y 1)) := funext fun a => by
    match a with
    | ⟨0, _⟩ => exact Fin.ext (by blk_simp [index2]; rfl)
    | ⟨1, _⟩ => exact Fin.ext (by blk_simp [index2]; rfl)
  blk_simp
  rw [after0_2, out2_eq]
  exact (congrArg _ (split y)).trans ((pay1_at _ _ (y 0) (y 1)).trans ((proj_at m c t (y 0) (y 1)).trans (congrArg _ e.symm)))

end Cert.Kernel5Ideal.Proj

end
-- ==== Proof.ProjAgree.lean ====
module

public import proofs.«01_k».proof.Proof.ProjValue
public import proofs.«01_k».proof.Proof.Gen.Reference5Ideal.Read

/-! The input projection: the reference's array is the call's. -/

@[expose] public section

set_option maxRecDepth 16384

noncomputable section

namespace Cert.Kernel5Ideal.Proj

open Idealize.ShloMosaic hiding ix1 ix2 ix3
open Idealize.ShloMosaic.ValueIdx
open Cert.Reference5Ideal Cert.Reference5Ideal.Gen Cert.Reference5Ideal.Read

variable (x0 : (⟨S4096x1024, .bf16⟩ : BufTy).Contents (Elt Ideal)) (x1 : (⟨S7680x1024, .bf16⟩ : BufTy).Contents (Elt Ideal))

/-- The reference's array. -/
theorem ref_proj : val_main_v3 (F := Ideal) x0 x1 = proj x0 x1 := funext fun i => by
  rw [val_main_v3_apply]
  refine Finset.sum_congr rfl fun k _ => ?_
  rw [val_main_v0_apply, val_main_v2_apply, val_main_v1_apply]
  refine congrArg₂ (fun a b : EReal => a * b) (congrArg x0 (funext fun a => ?_)) (congrArg x1 (funext fun a => ?_))
  · match a with
    | ⟨0, _⟩ => rfl
    | ⟨1, _⟩ => rfl
  · match a with
    | ⟨0, _⟩ => rfl
    | ⟨1, _⟩ => rfl

end Cert.Kernel5Ideal.Proj

end
-- ==== Proof.DwInValue.lean ====
module

public import proofs.«01_k».proof.Proof.Gen.Kernel6Ideal.Value
public import Idealize.ShloMosaic.Lib.Pipeline.ValueKit
public import Idealize.ShloMosaic.Lib.ValueIdx
public import Idealize.ShloMosaic.Lib.Pointwise
public import Idealize.ShloMosaic.PureOps.Ideal.Laws

/-! The array that the input projection's gradient leaves, as one function of the call's arguments. -/

@[expose] public section

set_option maxRecDepth 16384

noncomputable section

namespace Cert.Kernel6Ideal.DwIn

open Idealize.ShloMosaic hiding ix1 ix2 ix3
open Idealize.ShloMosaic.ValueIdx Idealize.ShloMosaic.Pipeline Idealize.SL.Sem
open Cert.Kernel6Ideal Cert.Kernel6Ideal.Gen

/-- One point's product. -/
def part (a : S2048x1536.Idx → EReal) (b : S2048x1024.Idx → EReal) (f : Fin 1536) (d : Fin 1024) : EReal :=
  ∑ k : Fin 2048, a (ix2 k f) * b (ix2 k d)

/-- Columns against columns. -/
theorem mm_cols (a : FVec Ideal S2048x1536 .bf16) (b : FVec Ideal S2048x1024 .bf16) (f : Fin 1536) (d : Fin 1024) :
    matmul dot_S2048x1536_S2048x1024_S1536x1024_0_0_1_1_n_n none a b (constant (F := Ideal) S1536x1024 .f32 0x00000000#32) (ix2 f d) = ∑ k : Fin 2048, a (ix2 k f) * b (ix2 k d) := by
  simp only [matmul]
  rw [Ideal.matmul_constant_zero_apply, ← Equiv.sum_comp (contrEquiv1 dot_S2048x1536_S2048x1024_S1536x1024_0_0_1_1_n_n 2048 rfl rfl).symm]
  refine Finset.sum_congr rfl fun k _ => ?_
  have hk := contrEquiv1_symm_val dot_S2048x1536_S2048x1024_S1536x1024_0_0_1_1_n_n 2048 rfl rfl k
  congr 1
  · refine congrArg a (funext fun x => Fin.ext ?_)
    match x with
    | ⟨0, _⟩ => exact hk
    | ⟨1, _⟩ => rfl
  · refine congrArg b (funext fun x => Fin.ext ?_)
    match x with
    | ⟨0, _⟩ => exact hk
    | ⟨1, _⟩ => rfl

/-- One accumulation. -/
theorem pay2_at (acc : Vec Ideal S1536x1024 .f32) (a : Vec Ideal S2048x1536 .bf16) (b : Vec Ideal S2048x1024 .bf16) (f : Fin 1536) (d : Fin 1024) :
    k0_pay2 (F := Ideal) acc a b (ix2 f d) = (acc (ix2 f d) : EReal) + part a b f d := by
  unfold k0_pay2
  rw [shapeCast_self]
  exact congrArg (fun z : EReal => (acc (ix2 f d) : EReal) + z) (mm_cols a b f d)

/-- The start of an accumulation. -/
theorem pay1_at (y : S1536x1024.Idx) : (k0_pay1 (F := Ideal) y : EReal) = 0 := by
  unfold k0_pay1
  rw [shapeCast_self]
  exact (Ideal.ofBits_zero_f32 : (Ideal.ofBits .f32 0#32 : EReal) = 0)

/-- Two accumulations from the start. -/
theorem pays_at (a a' : Vec Ideal S2048x1536 .bf16) (b b' : Vec Ideal S2048x1024 .bf16) (f : Fin 1536) (d : Fin 1024) :
    (k0_pay3 (F := Ideal) (k0_pay2 (F := Ideal) (k0_pay2 (F := Ideal) (k0_pay1 (F := Ideal)) a b) a' b') (ix2 f d) : EReal) = part a b f d + part a' b' f d := by
  refine (pay2_at _ a' b' f d).trans ?_
  rw [pay2_at, pay1_at, zero_add]

theorem pt_lt (t : Fin cfg0.N) : t.val < 10 := t.isLt

theorem index0 : ∀ t : Fin cfg0.N, win0_0.index t = ![t.val % 2, t.val / 2] := (by decide +kernel : ∀ t : Fin grid0.N, win0_0.index t = ![t.val % 2, t.val / 2])
theorem index1 : ∀ t : Fin cfg0.N, win0_1.index t = ![t.val % 2, 0] := (by decide +kernel : ∀ t : Fin grid0.N, win0_1.index t = ![t.val % 2, 0])
theorem index2 : ∀ t : Fin cfg0.N, win0_2.index t = ![t.val / 2, 0] := (by decide +kernel : ∀ t : Fin grid0.N, win0_2.index t = ![t.val / 2, 0])

/-- The gradient, of the whole arrays. -/
def grads (a0 : S4096x7680.Idx → EReal) (a1 : S4096x1024.Idx → EReal) : S7680x1024.Idx → EReal := fun i =>
  ∑ k : Fin 4096, a0 (ix2 k (i 0)) * a1 (ix2 k (i 1))

variable (m : (ℓ : Loc nD τ sig) → Buf (Elt Ideal) ℓ) (c : Dev nD) (t : Fin cfg0.N)

/-- The row of the arrays that a row of a point's blocks is. -/
def row (k : Fin 2048) : Fin 4096 := ⟨t.val % 2 * 2048 + k.val, by omega⟩
/-- The row of the result that a row of a point's block is. -/
def out (f : Fin 1536) : Fin 7680 := ⟨t.val / 2 * 1536 + f.val, by have := pt_lt t; omega⟩

theorem block0 (k : Fin 2048) (f : Fin 1536) : iblk m c 0 t (ix2 k f) = m ((c.tc : Thread nD τ).loc main_arg0) (ix2 (row t k) (out t f)) := by
  blk_simp [iblk]
  rw [V_main_arg0]
  refine congrArg (m ((c.tc : Thread nD τ).loc main_arg0)) (funext fun a => ?_)
  match a with
  | ⟨0, _⟩ => refine Fin.ext ?_; blk_simp [index0]; rfl
  | ⟨1, _⟩ => refine Fin.ext ?_; blk_simp [index0]; rfl
theorem block1 (k : Fin 2048) (d : Fin 1024) : iblk m c 1 t (ix2 k d) = m ((c.tc : Thread nD τ).loc main_arg1) (ix2 (row t k) d) := by
  blk_simp [iblk]
  rw [V_main_arg1]
  refine congrArg (m ((c.tc : Thread nD τ).loc main_arg1)) (funext fun a => ?_)
  match a with
  | ⟨0, _⟩ => refine Fin.ext ?_; blk_simp [index1]; rfl
  | ⟨1, _⟩ => refine Fin.ext ?_; blk_simp [index1]

/-- A point's product, of the whole arrays. -/
theorem part_eq (f : Fin 1536) (d : Fin 1024) : part (iblk m c 0 t) (iblk m c 1 t) f d
    = ∑ k : Fin 2048, (show EReal from m ((c.tc : Thread nD τ).loc main_arg0) (ix2 (row t k) (out t f))) * (show EReal from m ((c.tc : Thread nD τ).loc main_arg1) (ix2 (row t k) d)) :=
  Finset.sum_congr rfl fun k _ => congrArg₂ (fun a b : EReal => a * b) (block0 m c t k f) (block1 m c t k d)

/-- The point before. -/
def prev : Fin cfg0.N := ⟨t.val - 1, Nat.lt_of_le_of_lt (Nat.sub_le _ _) t.isLt⟩

/-- What a point that writes back leaves in its block. -/
theorem left_eq (ht : t.val % 2 = 1) : (outsAt0 m c t.val t.isLt).1
    = k0_pay3 (F := Ideal) (k0_pay2 (F := Ideal) (k0_pay2 (F := Ideal) (k0_pay1 (F := Ideal)) (iblk m c 0 (prev t)) (iblk m c 1 (prev t))) (iblk m c 0 t) (iblk m c 1 t)) := by
  have h0 : ¬t.val % 2 = 0 := by omega
  have p0 : (prev t).val % 2 = 0 := by show (t.val - 1) % 2 = 0; omega
  have p1 : ¬(prev t).val % 2 = 1 := by show ¬(t.val - 1) % 2 = 1; omega
  have e2 : (outsAt0 m c (t.val - 1) (Nat.lt_of_le_of_lt (Nat.sub_le _ _) t.isLt)).2 = k0_pay2 (F := Ideal) (k0_pay1 (F := Ideal)) (iblk m c 0 (prev t)) (iblk m c 1 (prev t)) := by
    refine (congrArg Prod.snd (outsAt0_A m c (prev t) p0 p1)).trans ?_
    frame_out
  rw [outsAt0_B m c t h0 ht, e2]
  frame_out
  exact congrArg (fun z => k0_pay3 (F := Ideal) (k0_pay2 (F := Ideal) z (iblk m c 0 t) (iblk m c 1 t))) (Memref.IsWhole.read_unread (Memref.isWhole_whole _) _)

/-- A sum over the rows as its two halves. -/
theorem halves (g : Fin 4096 → EReal) : ∑ k : Fin 4096, g k = (∑ k : Fin 2048, g ⟨k.val, by omega⟩) + ∑ k : Fin 2048, g ⟨2048 + k.val, by omega⟩ :=
  Fin.sum_univ_add (a := 2048) (b := 2048) g

/-- Both points' products are the whole sum. -/
theorem sum_at (ht : t.val % 2 = 1) (f : Fin 1536) (d : Fin 1024) : part (iblk m c 0 (prev t)) (iblk m c 1 (prev t)) f d + part (iblk m c 0 t) (iblk m c 1 t) f d
    = grads (m ((c.tc : Thread nD τ).loc main_arg0)) (m ((c.tc : Thread nD τ).loc main_arg1)) (ix2 (out t f) d) := by
  have eo : out (prev t) f = out t f := Fin.ext (by show (t.val - 1) / 2 * 1536 + f.val = t.val / 2 * 1536 + f.val; omega)
  have r0 : ∀ k : Fin 2048, row (prev t) k = ⟨k.val, by omega⟩ := fun k => Fin.ext (by show (t.val - 1) % 2 * 2048 + k.val = k.val; omega)
  have r1 : ∀ k : Fin 2048, row t k = ⟨2048 + k.val, by omega⟩ := fun k => Fin.ext (by show t.val % 2 * 2048 + k.val = 2048 + k.val; omega)
  rw [part_eq, part_eq]
  unfold grads
  rw [halves]
  simp only [r0, r1, eo]

/-- The array after the call. -/
theorem arr2 : (dats m 0 c).arrAt 2 cfg0.N = grads (m ((c.tc : Thread nD τ).loc main_arg0)) (m ((c.tc : Thread nD τ).loc main_arg1)) := by
  refine Dat.arrAt_eq_of_covers (dat := dats m 0 c) 2 (grads _ _) (by decide +kernel) (fun t hf y => ?_)
  have ht : t.val % 2 = 1 := (flush0_2 t).mp hf
  have e : (win0_2.blk t).view.emb y = ix2 (out t (y 0)) (y 1) := funext fun a => by
    match a with
    | ⟨0, _⟩ => exact Fin.ext (by blk_simp [index2]; rfl)
    | ⟨1, _⟩ => exact Fin.ext (by blk_simp [index2]; rfl)
  have hy : (cfg0.win 2).xinj (cfg0.grid.coords t) y = ix2 (y 0) (y 1) := funext fun a => by
    match a with
    | ⟨0, _⟩ => rfl
    | ⟨1, _⟩ => rfl
  blk_simp
  rw [after0_2, left_eq m c t ht]
  exact Eq.trans (congrArg _ hy) ((pays_at _ _ _ _ (y 0) (y 1)).trans ((sum_at m c t ht (y 0) (y 1)).trans (congrArg _ e.symm)))

end Cert.Kernel6Ideal.DwIn

end
-- ==== Proof.DwInAgree.lean ====
module

public import proofs.«01_k».proof.Proof.DwInValue
public import proofs.«01_k».proof.Proof.Gen.Reference6Ideal.Read

/-! The input projection's gradient: the reference's array is the call's. -/

@[expose] public section

set_option maxRecDepth 16384

noncomputable section

namespace Cert.Kernel6Ideal.DwIn

open Idealize.ShloMosaic hiding ix1 ix2 ix3
open Idealize.ShloMosaic.ValueIdx
open Cert.Reference6Ideal Cert.Reference6Ideal.Gen Cert.Reference6Ideal.Read

variable (x0 : (⟨S4096x7680, .bf16⟩ : BufTy).Contents (Elt Ideal)) (x1 : (⟨S4096x1024, .bf16⟩ : BufTy).Contents (Elt Ideal))

/-- The reference's product. -/
theorem ref_v4 (i : S7680x1024.Idx) : val_main_v4 (F := Ideal) x0 x1 i = grads x0 x1 i := by
  rw [val_main_v4_apply]
  refine Finset.sum_congr rfl fun k _ => ?_
  rw [val_main_v0_apply, val_main_v1_apply]
  refine congrArg₂ (fun a b : EReal => a * b) (congrArg x0 (funext fun a => ?_)) (congrArg x1 (funext fun a => ?_))
  · match a with
    | ⟨0, _⟩ => rfl
    | ⟨1, _⟩ => rfl
  · match a with
    | ⟨0, _⟩ => rfl
    | ⟨1, _⟩ => rfl

/-- The reference's array. -/
theorem ref_grads : val_main_v7 (F := Ideal) x0 x1 = grads x0 x1 := funext fun i => by
  have e : idx_main_v5 (idx_main_v6 i) = i := funext fun a => by
    match a with
    | ⟨0, _⟩ => rfl
    | ⟨1, _⟩ => rfl
  rw [val_main_v7_apply, val_main_v6_apply, val_main_v5_apply, e, ref_v4]
  rfl

end Cert.Kernel6Ideal.DwIn

end
-- ==== Proof.DwDownValue.lean ====
module

public import proofs.«01_k».proof.Proof.Gen.Kernel7Ideal.Value
public import Idealize.ShloMosaic.Lib.Pipeline.ValueKit
public import Idealize.ShloMosaic.Lib.ValueIdx
public import Idealize.ShloMosaic.Lib.Pointwise
public import Idealize.ShloMosaic.PureOps.Ideal.Laws

/-! The array that the down projection's gradient leaves, as one function of the call's arguments. -/

@[expose] public section

set_option maxRecDepth 16384

noncomputable section

namespace Cert.Kernel7Ideal.DwDown

open Idealize.ShloMosaic hiding ix1 ix2 ix3
open Idealize.ShloMosaic.ValueIdx Idealize.ShloMosaic.Pipeline Idealize.SL.Sem
open Cert.Kernel7Ideal Cert.Kernel7Ideal.Gen

/-- One point's product. -/
def part (a : S2048x1408.Idx → EReal) (b : S2048x1024.Idx → EReal) (f : Fin 1408) (d : Fin 1024) : EReal :=
  ∑ k : Fin 2048, a (ix2 k f) * b (ix2 k d)

/-- Columns against columns. -/
theorem mm_cols (a : FVec Ideal S2048x1408 .bf16) (b : FVec Ideal S2048x1024 .bf16) (f : Fin 1408) (d : Fin 1024) :
    matmul dot_S2048x1408_S2048x1024_S1408x1024_0_0_1_1_n_n none a b (constant (F := Ideal) S1408x1024 .f32 0x00000000#32) (ix2 f d) = ∑ k : Fin 2048, a (ix2 k f) * b (ix2 k d) := by
  simp only [matmul]
  rw [Ideal.matmul_constant_zero_apply, ← Equiv.sum_comp (contrEquiv1 dot_S2048x1408_S2048x1024_S1408x1024_0_0_1_1_n_n 2048 rfl rfl).symm]
  refine Finset.sum_congr rfl fun k _ => ?_
  have hk := contrEquiv1_symm_val dot_S2048x1408_S2048x1024_S1408x1024_0_0_1_1_n_n 2048 rfl rfl k
  congr 1
  · refine congrArg a (funext fun x => Fin.ext ?_)
    match x with
    | ⟨0, _⟩ => exact hk
    | ⟨1, _⟩ => rfl
  · refine congrArg b (funext fun x => Fin.ext ?_)
    match x with
    | ⟨0, _⟩ => exact hk
    | ⟨1, _⟩ => rfl

/-- One accumulation. -/
theorem pay2_at (acc : Vec Ideal S1408x1024 .f32) (a : Vec Ideal S2048x1408 .bf16) (b : Vec Ideal S2048x1024 .bf16) (f : Fin 1408) (d : Fin 1024) :
    k0_pay2 (F := Ideal) acc a b (ix2 f d) = (acc (ix2 f d) : EReal) + part a b f d := by
  unfold k0_pay2
  rw [shapeCast_self]
  exact congrArg (fun z : EReal => (acc (ix2 f d) : EReal) + z) (mm_cols a b f d)

/-- The start of an accumulation. -/
theorem pay1_at (y : S1408x1024.Idx) : (k0_pay1 (F := Ideal) y : EReal) = 0 := by
  unfold k0_pay1
  rw [shapeCast_self]
  exact (Ideal.ofBits_zero_f32 : (Ideal.ofBits .f32 0#32 : EReal) = 0)

/-- Two accumulations from the start. -/
theorem pays_at (a a' : Vec Ideal S2048x1408 .bf16) (b b' : Vec Ideal S2048x1024 .bf16) (f : Fin 1408) (d : Fin 1024) :
    (k0_pay3 (F := Ideal) (k0_pay2 (F := Ideal) (k0_pay2 (F := Ideal) (k0_pay1 (F := Ideal)) a b) a' b') (ix2 f d) : EReal) = part a b f d + part a' b' f d := by
  refine (pay2_at _ a' b' f d).trans ?_
  rw [pay2_at, pay1_at, zero_add]

theorem pt_lt (t : Fin cfg0.N) : t.val < 4 := t.isLt

theorem index0 : ∀ t : Fin cfg0.N, win0_0.index t = ![t.val % 2, t.val / 2] := (by decide +kernel : ∀ t : Fin grid0.N, win0_0.index t = ![t.val % 2, t.val / 2])
theorem index1 : ∀ t : Fin cfg0.N, win0_1.index t = ![t.val % 2, 0] := (by decide +kernel : ∀ t : Fin grid0.N, win0_1.index t = ![t.val % 2, 0])
theorem index2 : ∀ t : Fin cfg0.N, win0_2.index t = ![t.val / 2, 0] := (by decide +kernel : ∀ t : Fin grid0.N, win0_2.index t = ![t.val / 2, 0])

/-- The gradient, of the whole arrays. -/
def grads (a0 : S4096x2816.Idx → EReal) (a1 : S4096x1024.Idx → EReal) : S2816x1024.Idx → EReal := fun i =>
  ∑ k : Fin 4096, a0 (ix2 k (i 0)) * a1 (ix2 k (i 1))

variable (m : (ℓ : Loc nD τ sig) → Buf (Elt Ideal) ℓ) (c : Dev nD) (t : Fin cfg0.N)

/-- The row of the arrays that a row of a point's blocks is. -/
def row (k : Fin 2048) : Fin 4096 := ⟨t.val % 2 * 2048 + k.val, by omega⟩
/-- The row of the result that a row of a point's block is. -/
def out (f : Fin 1408) : Fin 2816 := ⟨t.val / 2 * 1408 + f.val, by have := pt_lt t; omega⟩

theorem block0 (k : Fin 2048) (f : Fin 1408) : iblk m c 0 t (ix2 k f) = m ((c.tc : Thread nD τ).loc main_arg0) (ix2 (row t k) (out t f)) := by
  blk_simp [iblk]
  rw [V_main_arg0]
  refine congrArg (m ((c.tc : Thread nD τ).loc main_arg0)) (funext fun a => ?_)
  match a with
  | ⟨0, _⟩ => refine Fin.ext ?_; blk_simp [index0]; rfl
  | ⟨1, _⟩ => refine Fin.ext ?_; blk_simp [index0]; rfl
theorem block1 (k : Fin 2048) (d : Fin 1024) : iblk m c 1 t (ix2 k d) = m ((c.tc : Thread nD τ).loc main_arg1) (ix2 (row t k) d) := by
  blk_simp [iblk]
  rw [V_main_arg1]
  refine congrArg (m ((c.tc : Thread nD τ).loc main_arg1)) (funext fun a => ?_)
  match a with
  | ⟨0, _⟩ => refine Fin.ext ?_; blk_simp [index1]; rfl
  | ⟨1, _⟩ => refine Fin.ext ?_; blk_simp [index1]

/-- A point's product, of the whole arrays. -/
theorem part_eq (f : Fin 1408) (d : Fin 1024) : part (iblk m c 0 t) (iblk m c 1 t) f d
    = ∑ k : Fin 2048, (show EReal from m ((c.tc : Thread nD τ).loc main_arg0) (ix2 (row t k) (out t f))) * (show EReal from m ((c.tc : Thread nD τ).loc main_arg1) (ix2 (row t k) d)) :=
  Finset.sum_congr rfl fun k _ => congrArg₂ (fun a b : EReal => a * b) (block0 m c t k f) (block1 m c t k d)

/-- The point before. -/
def prev : Fin cfg0.N := ⟨t.val - 1, Nat.lt_of_le_of_lt (Nat.sub_le _ _) t.isLt⟩

/-- What a point that writes back leaves in its block. -/
theorem left_eq (ht : t.val % 2 = 1) : (outsAt0 m c t.val t.isLt).1
    = k0_pay3 (F := Ideal) (k0_pay2 (F := Ideal) (k0_pay2 (F := Ideal) (k0_pay1 (F := Ideal)) (iblk m c 0 (prev t)) (iblk m c 1 (prev t))) (iblk m c 0 t) (iblk m c 1 t)) := by
  have h0 : ¬t.val % 2 = 0 := by omega
  have p0 : (prev t).val % 2 = 0 := by show (t.val - 1) % 2 = 0; omega
  have p1 : ¬(prev t).val % 2 = 1 := by show ¬(t.val - 1) % 2 = 1; omega
  have e2 : (outsAt0 m c (t.val - 1) (Nat.lt_of_le_of_lt (Nat.sub_le _ _) t.isLt)).2 = k0_pay2 (F := Ideal) (k0_pay1 (F := Ideal)) (iblk m c 0 (prev t)) (iblk m c 1 (prev t)) := by
    refine (congrArg Prod.snd (outsAt0_A m c (prev t) p0 p1)).trans ?_
    frame_out
  rw [outsAt0_B m c t h0 ht, e2]
  frame_out
  exact congrArg (fun z => k0_pay3 (F := Ideal) (k0_pay2 (F := Ideal) z (iblk m c 0 t) (iblk m c 1 t))) (Memref.IsWhole.read_unread (Memref.isWhole_whole _) _)

/-- A sum over the rows as its two halves. -/
theorem halves (g : Fin 4096 → EReal) : ∑ k : Fin 4096, g k = (∑ k : Fin 2048, g ⟨k.val, by omega⟩) + ∑ k : Fin 2048, g ⟨2048 + k.val, by omega⟩ :=
  Fin.sum_univ_add (a := 2048) (b := 2048) g

/-- Both points' products are the whole sum. -/
theorem sum_at (ht : t.val % 2 = 1) (f : Fin 1408) (d : Fin 1024) : part (iblk m c 0 (prev t)) (iblk m c 1 (prev t)) f d + part (iblk m c 0 t) (iblk m c 1 t) f d
    = grads (m ((c.tc : Thread nD τ).loc main_arg0)) (m ((c.tc : Thread nD τ).loc main_arg1)) (ix2 (out t f) d) := by
  have eo : out (prev t) f = out t f := Fin.ext (by show (t.val - 1) / 2 * 1408 + f.val = t.val / 2 * 1408 + f.val; omega)
  have r0 : ∀ k : Fin 2048, row (prev t) k = ⟨k.val, by omega⟩ := fun k => Fin.ext (by show (t.val - 1) % 2 * 2048 + k.val = k.val; omega)
  have r1 : ∀ k : Fin 2048, row t k = ⟨2048 + k.val, by omega⟩ := fun k => Fin.ext (by show t.val % 2 * 2048 + k.val = 2048 + k.val; omega)
  rw [part_eq, part_eq]
  unfold grads
  rw [halves]
  simp only [r0, r1, eo]

/-- The array after the call. -/
theorem arr2 : (dats m 0 c).arrAt 2 cfg0.N = grads (m ((c.tc : Thread nD τ).loc main_arg0)) (m ((c.tc : Thread nD τ).loc main_arg1)) := by
  refine Dat.arrAt_eq_of_covers (dat := dats m 0 c) 2 (grads _ _) (by decide +kernel) (fun t hf y => ?_)
  have ht : t.val % 2 = 1 := (flush0_2 t).mp hf
  have e : (win0_2.blk t).view.emb y = ix2 (out t (y 0)) (y 1) := funext fun a => by
    match a with
    | ⟨0, _⟩ => exact Fin.ext (by blk_simp [index2]; rfl)
    | ⟨1, _⟩ => exact Fin.ext (by blk_simp [index2]; rfl)
  have hy : (cfg0.win 2).xinj (cfg0.grid.coords t) y = ix2 (y 0) (y 1) := funext fun a => by
    match a with
    | ⟨0, _⟩ => rfl
    | ⟨1, _⟩ => rfl
  blk_simp
  rw [after0_2, left_eq m c t ht]
  exact Eq.trans (congrArg _ hy) ((pays_at _ _ _ _ (y 0) (y 1)).trans ((sum_at m c t ht (y 0) (y 1)).trans (congrArg _ e.symm)))

end Cert.Kernel7Ideal.DwDown

end
-- ==== Proof.DwDownAgree.lean ====
module

public import proofs.«01_k».proof.Proof.DwDownValue
public import proofs.«01_k».proof.Proof.Gen.Reference7Ideal.Read

/-! The down projection's gradient: the reference's array is the call's. -/

@[expose] public section

set_option maxRecDepth 16384

noncomputable section

namespace Cert.Kernel7Ideal.DwDown

open Idealize.ShloMosaic hiding ix1 ix2 ix3
open Idealize.ShloMosaic.ValueIdx
open Cert.Reference7Ideal Cert.Reference7Ideal.Gen Cert.Reference7Ideal.Read

variable (x0 : (⟨S4096x2816, .bf16⟩ : BufTy).Contents (Elt Ideal)) (x1 : (⟨S4096x1024, .bf16⟩ : BufTy).Contents (Elt Ideal))

/-- The reference's product, turned. -/
theorem ref_v5 (i : S2816x1024.Idx) : val_main_v5 (F := Ideal) x0 x1 i = grads x0 x1 i := by
  rw [val_main_v5_apply, val_main_v4_apply]
  refine Finset.sum_congr rfl fun k _ => ?_
  rw [val_main_v0_apply, val_main_v1_apply]
  refine Eq.trans (congrArg₂ (fun a b : EReal => a * b) (congrArg x1 (funext fun a => ?_)) (congrArg x0 (funext fun a => ?_))) (mul_comm (x1 (ix2 k (i 1)) : EReal) (x0 (ix2 k (i 0))))
  · match a with
    | ⟨0, _⟩ => rfl
    | ⟨1, _⟩ => rfl
  · match a with
    | ⟨0, _⟩ => rfl
    | ⟨1, _⟩ => rfl

/-- The reference's array. -/
theorem ref_grads : val_main_v6 (F := Ideal) x0 x1 = grads x0 x1 := funext fun i => by
  rw [val_main_v6_apply, ref_v5]
  rfl

end Cert.Kernel7Ideal.DwDown

end
-- ==== Proof.PointPrinted.lean ====
module

public import proofs.«01_k».proof.Proof.BodyPrinted

/-! One grid point of the attention backward call over buffers of any contents. -/

@[expose] public section

set_option maxRecDepth 16384
set_option maxHeartbeats 1000000

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.Kernel Cert.Kernel.Gen

variable {F : FTy → Type} [FloatOps F]

local notation "𝕄" => MT nD τ sig Unit (Elt F) ℕ (UR sig nD τ) ℕ

/-- One grid point, whatever its buffers hold: the inputs stay, every other buffer ends at some contents. -/
theorem body_any (c : Dev nD) (i : grid0.Coords) (arg2 : Memref sig .tc .vmem S4096x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S4096x128 .f32) (harg5 : arg5.IsWhole) (arg6 : Memref sig .tc .vmem S1x1x4096 .f32) (harg6 : arg6.IsWhole) (arg7 : Memref sig .tc .vmem S4096x128 .f32) (harg7 : arg7.IsWhole) (arg8 : Memref sig .tc .vmem S1024x128 .f32) (harg8 : arg8.IsWhole) (arg9 : Memref sig .tc .hbm S4096x7680 .bf16) (harg9 : arg9.IsWhole) (arg10 : Memref sig .tc .vmem S1024x384 .bf16) (harg10 : arg10.IsWhole) (arg11 : Memref sig .tc .vmem S1x1x1024 .f32) (harg11 : arg11.IsWhole) (arg12 : Memref sig .tc .vmem S1x1x4096 .f32) (harg12 : arg12.IsWhole) (arg13 : Memref sig .tc .vmem S4096x128 .bf16) (harg13 : arg13.IsWhole) (arg14 : Memref sig .tc .vmem S128x4096 .bf16) (harg14 : arg14.IsWhole) (arg15 : Memref sig .tc .vmem S4096x128 .bf16) (harg15 : arg15.IsWhole) (arg16 : Memref sig .tc .vmem S128x4096 .bf16) (harg16 : arg16.IsWhole) (arg17 : Memref sig .tc .vmem S1x4096 .f32) (harg17 : arg17.IsWhole) (arg18 : Memref sig .tc .vmem S128x4096 .f32) (harg18 : arg18.IsWhole)
    (x2 : BufTy.Contents (Elt F) arg2.view.ty) (x3 : BufTy.Contents (Elt F) arg3.view.ty) (x4 : BufTy.Contents (Elt F) arg4.view.ty) (x5 : BufTy.Contents (Elt F) arg5.view.ty) (x6 : BufTy.Contents (Elt F) arg6.view.ty) (x7 : BufTy.Contents (Elt F) arg7.view.ty) (x8 : BufTy.Contents (Elt F) arg8.view.ty)
    (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (E : Set ℕ) (K : PUnit → sProp 𝕄) :
    iprop(pt (F := F) c arg2 x2 ∗ pt (F := F) c arg3 x3 ∗ pt (F := F) c arg4 x4 ∗ pt (F := F) c arg5 x5 ∗ pt (F := F) c arg6 x6 ∗ pt (F := F) c arg7 x7 ∗ pt (F := F) c arg8 x8 ∗ pt (F := F) c arg10 f10 ∗ pt (F := F) c arg11 f11 ∗ pt (F := F) c arg12 f12 ∗ pt (F := F) c arg13 f13 ∗ pt (F := F) c arg14 f14 ∗ pt (F := F) c arg15 f15 ∗ pt (F := F) c arg16 f16 ∗ pt (F := F) c arg17 f17 ∗ pt (F := F) c arg18 f18
      ∗ (iprop(pt (F := F) c arg2 x2 ∗ pt (F := F) c arg3 x3 ∗ pt (F := F) c arg4 x4 ∗ pt (F := F) c arg5 x5 ∗ pt (F := F) c arg6 x6 ∗ pt (F := F) c arg7 x7 ∗ pt (F := F) c arg8 x8 ∗ (∃ f, pt (F := F) c arg10 f) ∗ (∃ f, pt (F := F) c arg11 f) ∗ (∃ f, pt (F := F) c arg12 f) ∗ (∃ f, pt (F := F) c arg13 f) ∗ (∃ f, pt (F := F) c arg14 f) ∗ (∃ f, pt (F := F) c arg15 f) ∗ (∃ f, pt (F := F) c arg16 f) ∗ (∃ f, pt (F := F) c arg17 f) ∗ (∃ f, pt (F := F) c arg18 f)) -∗ K ⟨⟩))
    ⊢ wp frame (wpE (defs₀ (F := F)) Variants.none c none) E (cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  by_cases hi : condJ i
  · rw [body_first i hi]
    iintro ⟨H2, H3, H4, H5, H6, H7, H8, H10, H11, H12, H13, H14, H15, H16, H17, H18, HK⟩
    iapply ((fillRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x2 x5 x7).2.2.2.2.2.2.2 E f12 f13 f14 f15 f16 f17 f18 (fun _ => tailProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K)
    isplitl [H2]; · iexact H2
    isplitl [H5]; · iexact H5
    isplitl [H7]; · iexact H7
    isplitl [H12]; · iexact H12
    isplitl [H13]; · iexact H13
    isplitl [H14]; · iexact H14
    isplitl [H15]; · iexact H15
    isplitl [H16]; · iexact H16
    isplitl [H17]; · iexact H17
    isplitl [H18]; · iexact H18
    iintro ⟨H2, H5, H7, H12, H13, H14, H15, H16, H17, H18⟩
    iapply ((tailRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x6 x8 _ _ _ _ _ _ _).2.2.2.2 E f10 f11 K)
    isplitl [H3]; · iexact H3
    isplitl [H4]; · iexact H4
    isplitl [H6]; · iexact H6
    isplitl [H8]; · iexact H8
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iintro ⟨H3, H4, H6, H8, H10, H11, H12, H13, H14, H15, H16, H17, H18⟩
    iapply HK
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    iexists _; iexact H18
  · rw [body_later i hi]
    iintro ⟨H2, H3, H4, H5, H6, H7, H8, H10, H11, H12, H13, H14, H15, H16, H17, H18, HK⟩
    iapply ((tailRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x6 x8 f12 f13 f14 f15 f16 f17 f18).2.2.2.2 E f10 f11 K)
    isplitl [H3]; · iexact H3
    isplitl [H4]; · iexact H4
    isplitl [H6]; · iexact H6
    isplitl [H8]; · iexact H8
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iintro ⟨H3, H4, H6, H8, H10, H11, H12, H13, H14, H15, H16, H17, H18⟩
    iapply HK
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    iexists _; iexact H18

end Cert.Kernel.Hand

end
-- ==== Proof.FramePrinted.lean ====
module

public import proofs.«01_k».proof.Proof.PointPrinted

/-! The attention backward call's frame: the program runs to the end, touches no argument array and leaves every
semaphore at zero. What the three results hold is left open here. -/

@[expose] public section

set_option maxRecDepth 16384
set_option maxHeartbeats 1000000

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Proof data: every input window holds its block, the scratch buffers hold anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => fun _ => Classical.arbitrary _
    | ⟨8, _⟩ => fun _ => Classical.arbitrary _
    | ⟨9, _⟩ => fun _ => Classical.arbitrary _
  Φ _ := Pipeline.ΦA spec0 c
  q w := Pipeline.shareOf spec0 w
  owed _ := 0

/-- The results' windows, of which nothing is said. -/
def fgt (w : Fin cfg0.W) : Bool := decide (7 ≤ w.val)

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d

/-- A whole buffer at contents `f`, said of the memref that spans it. -/
theorem pt_whole (c : Dev nD) (b : Ref sig .tc) (f : Buf (Elt F) ((c.tc : Thread nD τ).loc b)) :
    (iprop((Memref.whole b).view.loc (c : Thread nD τ) ↦[(Memref.whole b).view.set]{fullShare} f) : sProp 𝕄)
      = iprop(((c : Thread nD τ).loc b) ↦{fullShare} f) := by
  rw [show (Memref.whole b).view.set = Finset.univ from View.set_whole b]

/-- The six scratch buffers at anything. -/
theorem scoped_pt (c : Dev nD) :
    (Pipeline.scopedRest (Ix := Unit) (Name := ℕ) (U := UR sig nD τ) (Lvl := ℕ) (Val := Elt F) spec0 c : sProp 𝕄)
      = iprop((∃ f, pt (F := F) c (Memref.whole cc0_scratch0) f) ∗ (∃ f, pt (F := F) c (Memref.whole cc0_scratch1) f) ∗ (∃ f, pt (F := F) c (Memref.whole cc0_scratch2) f) ∗ (∃ f, pt (F := F) c (Memref.whole cc0_scratch3) f) ∗ (∃ f, pt (F := F) c (Memref.whole cc0_scratch4) f) ∗ (∃ f, pt (F := F) c (Memref.whole cc0_scratch5) f)) := by
  rw [scopedRest0_eq]
  unfold pt
  have h0 := fun f => pt_whole (F := F) c cc0_scratch0 f
  have h1 := fun f => pt_whole (F := F) c cc0_scratch1 f
  have h2 := fun f => pt_whole (F := F) c cc0_scratch2 f
  have h3 := fun f => pt_whole (F := F) c cc0_scratch3 f
  have h4 := fun f => pt_whole (F := F) c cc0_scratch4 f
  have h5 := fun f => pt_whole (F := F) c cc0_scratch5 f
  simp only [h0, h1, h2, h3, h4, h5]

/-- What a point's body is given. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d))
    ∗ (∃ X, owns (c : Thread nD τ) (st0_7 t) fullShare X) ∗ (∃ X, owns (c : Thread nD τ) (st0_8 t) fullShare X) ∗ (∃ X, owns (c : Thread nD τ) (st0_9 t) fullShare X))
/-- What a point's body gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t)
    ∗ (∃ X, owns (c : Thread nD τ) (st0_7 t) fullShare X) ∗ (∃ X, owns (c : Thread nD τ) (st0_8 t) fullShare X) ∗ (∃ X, owns (c : Thread nD τ) (st0_9 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦA spec0 c from rfl,
    show (dats m 0 c).Φ t.castSucc = Pipeline.ΦA spec0 c from rfl]
  unfold Pipeline.ΦA
  rw [scoped_pt]
  unfold Dat.owesAt Pipeline.owesWithin
  rw [show (dats m 0 c).owed t.castSucc = 0 from rfl, show (dats m 0 c).owed t.succ = 0 from rfl]
  simp only [before0_0 m c t, after0_0 m c t, before0_1 m c t, after0_1 m c t, before0_2 m c t, after0_2 m c t, before0_3 m c t, after0_3 m c t, before0_4 m c t, after0_4 m c t, before0_5 m c t, after0_5 m c t, before0_6 m c t, after0_6 m c t]
  unfold owns
  iintro ⟨⟨⟨⟨%g13, S13⟩, ⟨%g14, S14⟩, ⟨%g15, S15⟩, ⟨%g16, S16⟩, ⟨%g17, S17⟩, ⟨%g18, S18⟩⟩, Hg⟩, ⟨%W, -, HW⟩, ⟨%d2, %x2, %e2, H2⟩, ⟨%d3, %x3, %e3, H3⟩, ⟨%d4, %x4, %e4, H4⟩, ⟨%d5, %x5, %e5, H5⟩, ⟨%d6, %x6, %e6, H6⟩, ⟨%d7, %x7, %e7, H7⟩, ⟨%d8, %x8, %e8, H8⟩, ⟨%d10, %x10, %e10, H10⟩, ⟨%d11, %x11, %e11, H11⟩, ⟨%d12, %x12, %e12, H12⟩⟩
  iapply (body_any c (grid0.coords t) _ _ _ _ _ _ _ _ _ _ _ _ _ _ _ _ _ _ _ _ _ _ (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) x2 x3 x4 x5 x6 x7 x8 x10 x11 x12 g13 g14 g15 g16 g17 g18 Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]; · iexact H10
  isplitl [H11]; · iexact H11
  isplitl [H12]; · iexact H12
  isplitl [S13]; · iexact S13
  isplitl [S14]; · iexact S14
  isplitl [S15]; · iexact S15
  isplitl [S16]; · iexact S16
  isplitl [S17]; · iexact S17
  isplitl [S18]; · iexact S18
  iintro ⟨H2, H3, H4, H5, H6, H7, H8, ⟨%y10, H10⟩, ⟨%y11, H11⟩, ⟨%y12, H12⟩, ⟨%h13, S13⟩, ⟨%h14, S14⟩, ⟨%h15, S15⟩, ⟨%h16, S16⟩, ⟨%h17, S17⟩, ⟨%h18, S18⟩⟩
  isplitl [S13 S14 S15 S16 S17 S18 Hg]
  · isplitl [S13 S14 S15 S16 S17 S18]
    · isplitl [S13]; · iexists h13; iexact S13
      isplitl [S14]; · iexists h14; iexact S14
      isplitl [S15]; · iexists h15; iexact S15
      isplitl [S16]; · iexists h16; iexact S16
      isplitl [S17]; · iexists h17; iexact S17
      iexists h18; iexact S18
    iexact Hg
  isplitl [HW]
  · iexists W; isplitr; · ipureintro; exact fun _ _ => Or.inl trivial
    iexact HW
  isplitl [H2]
  · iexists x2; isplitr; · ipureintro; exact e2
    iexact H2
  isplitl [H3]
  · iexists x3; isplitr; · ipureintro; exact e3
    iexact H3
  isplitl [H4]
  · iexists x4; isplitr; · ipureintro; exact e4
    iexact H4
  isplitl [H5]
  · iexists x5; isplitr; · ipureintro; exact e5
    iexact H5
  isplitl [H6]
  · iexists x6; isplitr; · ipureintro; exact e6
    iexact H6
  isplitl [H7]
  · iexists x7; isplitr; · ipureintro; exact e7
    iexact H7
  isplitl [H8]
  · iexists x8; isplitr; · ipureintro; exact e8
    iexact H8
  isplitl [H10]
  · iexists _; iexists y10; isplitr; · ipureintro; rfl
    iexact H10
  isplitl [H11]
  · iexists _; iexists y11; isplitr; · ipureintro; rfl
    iexact H11
  iexists _; iexists y12; isplitr; · ipureintro; rfl
  iexact H12

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The run of the whole program: the argument arrays of the call unchanged, its result arrays at something. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget_shared (Q' := _) cfgs (dats m) (0 : Fin 1) launch₀0 defs₀ Variants.none fgt m ρ main
    (hbody := fun c => body_obligation m c) (hq := fun _ _ _ => rfl)
    (howed := fun _ _ => rfl) (V := V m) (hmain := hmain m Variants.none) (hA := A_eq m)
    (hΦ := fun _ _ => rfl)

/-- The frame of the program. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ ⟨h, hz⟩ => ⟨fun c => ⟨
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      (Pipeline.RDat.FramePost.arr_in h c 3 rfl).trans ((A_eq m c 3).trans (V_main_arg4 m c)),
      ((h c).2 main_arg5 (Pipeline.mem_restRefs_of main_arg5 (by decide) (by decide))).trans (V_main_arg5 m c)⟩, hz⟩) (run_main m ρ)

end Cert.Kernel.Hand

end
-- ==== Proof.Body.lean ====
module

public import proofs.«01_k».proof.Proof.Gen.KernelIdeal.Frame
public import proofs.«01_k».proof.Proof.Gen.KernelIdeal.Loops

/-! One grid point of the attention backward call, run once over symbolic buffers: what the first point of a head puts into
the scratch buffers (`fillRun`), and what every point does after that (`tailRun`). -/

@[expose] public section

set_option maxRecDepth 16384
set_option maxHeartbeats 1000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- A memref held whole at contents `f`. -/
abbrev pt (c : Dev nD) {s : Shape} {e : EltTy} (M : Memref sig .tc .vmem s e) (f : BufTy.Contents (Elt F) M.view.ty) : sProp 𝕄 :=
  iprop(M.view.loc (c : Thread nD τ) ↦[M.view.set]{fullShare} f)

/-- The point is the first of its head. -/
def condJ (i : grid0.Coords) : Prop := Scalar.cmpi .ne (Scalar.extui (Scalar.cmpi .eq (BitVec.ofNat 32 (i 1).val) 0#32) : BitVec 32) 0#32 = 1#1

/-- What a head's first point runs before the rest: the scratch buffers filled, the two accumulators zeroed. -/
noncomputable def fillProg (i : grid0.Coords) (arg2 : Memref sig .tc .vmem S4096x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S4096x128 .f32) (harg5 : arg5.IsWhole) (arg6 : Memref sig .tc .vmem S1x1x4096 .f32) (harg6 : arg6.IsWhole) (arg7 : Memref sig .tc .vmem S4096x128 .f32) (harg7 : arg7.IsWhole) (arg8 : Memref sig .tc .vmem S1024x128 .f32) (harg8 : arg8.IsWhole) (arg9 : Memref sig .tc .hbm S4096x7680 .bf16) (harg9 : arg9.IsWhole) (arg10 : Memref sig .tc .vmem S1024x384 .bf16) (harg10 : arg10.IsWhole) (arg11 : Memref sig .tc .vmem S1x1x1024 .f32) (harg11 : arg11.IsWhole) (arg12 : Memref sig .tc .vmem S1x1x4096 .f32) (harg12 : arg12.IsWhole) (arg13 : Memref sig .tc .vmem S4096x128 .bf16) (harg13 : arg13.IsWhole) (arg14 : Memref sig .tc .vmem S128x4096 .bf16) (harg14 : arg14.IsWhole) (arg15 : Memref sig .tc .vmem S4096x128 .bf16) (harg15 : arg15.IsWhole) (arg16 : Memref sig .tc .vmem S128x4096 .bf16) (harg16 : arg16.IsWhole) (arg17 : Memref sig .tc .vmem S1x4096 .f32) (harg17 : arg17.IsWhole) (arg18 : Memref sig .tc .vmem S128x4096 .f32) (harg18 : arg18.IsWhole) :
    Prog (TpuEff nD τ sig (Elt F) Λ₀ .tc) PUnit := do
  let ⟨v158, v159⟩ : Σ' (v158 : FVec F S1024x128 .f32), FVec F S1024x128 .bf16 ← k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
  let v194 : FVec F S128x1024 .bf16 ← k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v158 v159
  k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v194
  let v228 : Vec F S1024x128 .f32 ← Prog.lift (.load arg5 (Rect.unit (s := S4096x128) ![3072, 0] S1024x128.size inb_S4096x128_S1024x128_3072_0).toLoadRect (View.loadsAt_vmem h_S1024x128))
  let v230 : Vec F S1024x128 .bf16 ← Prog.lift (.load arg15 (Rect.unit (s := S4096x128) ![3072, 0] S1024x128.size inb_S4096x128_S1024x128_3072_0).toLoadRect (View.loadsAt_vmem h_S1024x128))
  Prog.lift (.store arg15 (Rect.unit (s := S4096x128) ![3072, 0] S1024x128.size inb_S4096x128_S1024x128_3072_0) (k0_pay37 v228) Finset.univ (View.stores_vmem h_S1024x128 (harg15.storeExact_slice rfl _ packedbf16_S4096x128_S1024x128_3072_0) (fun _ => rfl)) (.inl rfl))
  let v235 : Vec F S128x1024 .bf16 ← Prog.lift (.load arg16 (Rect.unit (s := S128x4096) ![0, 3072] S128x1024.size inb_S128x4096_S128x1024_0_3072).toLoadRect (View.loadsAt_vmem h_S128x1024))
  Prog.lift (.store arg16 (Rect.unit (s := S128x4096) ![0, 3072] S128x1024.size inb_S128x4096_S128x1024_0_3072) (k0_pay38 v228) Finset.univ (View.stores_vmem h_S128x1024 (harg16.storeExact_slice rfl _ packedbf16_S128x4096_S128x1024_0_3072) (fun _ => rfl)) (.inl rfl))
  let v238 : Vec F S1024x128 .f32 ← Prog.lift (.load arg7 (Rect.unit (s := S4096x128) ![3072, 0] S1024x128.size inb_S4096x128_S1024x128_3072_0).toLoadRect (View.loadsAt_vmem h_S1024x128))
  let v242 : Vec F S1x1024 .f32 ← Prog.lift (.load arg17 (Rect.unit (s := S1x4096) ![0, 3072] S1x1024.size inb_S1x4096_S1x1024_0_3072).toLoadRect (View.loadsAt_vmem h_S1x1024))
  Prog.lift (.store arg17 (Rect.unit (s := S1x4096) ![0, 3072] S1x1024.size inb_S1x4096_S1x1024_0_3072) (k0_pay39 v238) Finset.univ (View.stores_vmem_bits_univ h_S1x1024 rfl) (.inl rfl))
  let v246 : Vec F S128x4096 .f32 ← Prog.lift (.load arg18 (Rect.unit (s := S128x4096) ![0, 0] S128x4096.size inb_S128x4096_S128x4096_0_0).toLoadRect (View.loadsAt_vmem h_S128x4096))
  Prog.lift (.store arg18 (Rect.unit (s := S128x4096) ![0, 0] S128x4096.size inb_S128x4096_S128x4096_0_0) (k0_pay40 (F := F)) Finset.univ (View.stores_vmem_bits_univ h_S128x4096 rfl) (.inl rfl))
  let v250 : Vec F S1x1x4096 .f32 ← Prog.lift (.load arg12 (Rect.unit (s := S1x1x4096) ![0, 0, 0] S1x1x4096.size inb_S1x1x4096_S1x1x4096_0_0_0).toLoadRect (View.loadsAt_vmem h_S1x1x4096))
  Prog.lift (.store arg12 (Rect.unit (s := S1x1x4096) ![0, 0, 0] S1x1x4096.size inb_S1x1x4096_S1x1x4096_0_0_0) (k0_pay41 (F := F)) Finset.univ (View.stores_vmem_bits_univ h_S1x1x4096 rfl) (.inl rfl))
  pure ⟨⟩

/-- The values the rest of a point begins with. -/
noncomputable def headVals (i : grid0.Coords) (arg2 : Memref sig .tc .vmem S4096x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S4096x128 .f32) (harg5 : arg5.IsWhole) (arg6 : Memref sig .tc .vmem S1x1x4096 .f32) (harg6 : arg6.IsWhole) (arg7 : Memref sig .tc .vmem S4096x128 .f32) (harg7 : arg7.IsWhole) (arg8 : Memref sig .tc .vmem S1024x128 .f32) (harg8 : arg8.IsWhole) (arg9 : Memref sig .tc .hbm S4096x7680 .bf16) (harg9 : arg9.IsWhole) (arg10 : Memref sig .tc .vmem S1024x384 .bf16) (harg10 : arg10.IsWhole) (arg11 : Memref sig .tc .vmem S1x1x1024 .f32) (harg11 : arg11.IsWhole) (arg12 : Memref sig .tc .vmem S1x1x4096 .f32) (harg12 : arg12.IsWhole) (arg13 : Memref sig .tc .vmem S4096x128 .bf16) (harg13 : arg13.IsWhole) (arg14 : Memref sig .tc .vmem S128x4096 .bf16) (harg14 : arg14.IsWhole) (arg15 : Memref sig .tc .vmem S4096x128 .bf16) (harg15 : arg15.IsWhole) (arg16 : Memref sig .tc .vmem S128x4096 .bf16) (harg16 : arg16.IsWhole) (arg17 : Memref sig .tc .vmem S1x4096 .f32) (harg17 : arg17.IsWhole) (arg18 : Memref sig .tc .vmem S128x4096 .f32) (harg18 : arg18.IsWhole) :
    Prog (TpuEff nD τ sig (Elt F) Λ₀ .tc) (Σ' (arg1 : BitVec 32) (v5 : FVec F S1024x128 .bf16) (v7 : FVec F S128x1024 .bf16) (v10 : FVec F S1024x128 .bf16) (v22 : FVec F S1024x1024 .f32) (v23 : FVec F S128x1024 .f32) (v24 : FVec F S1024x128 .f32) (v26 : BitVec 32) (v35 : FVec F S1024x1024 .f32) (v38 : IVec S1024x1024 1), F .f32) := do
  let arg1 : BitVec 32 := BitVec.ofNat 32 (i 1).val
  let v3 : Vec F S1024x128 .f32 ← Prog.lift (.load arg3 (Rect.unit (s := S1024x128) ![0, 0] S1024x128.size inb_S1024x128_S1024x128_0_0).toLoadRect (View.loadsAt_vmem h_S1024x128))
  let v8 : Vec F S1024x128 .f32 ← Prog.lift (.load arg4 (Rect.unit (s := S1024x128) ![0, 0] S1024x128.size inb_S1024x128_S1024x128_0_0).toLoadRect (View.loadsAt_vmem h_S1024x128))
  let v11 : Vec F S1024x128 .f32 ← Prog.lift (.load arg8 (Rect.unit (s := S1024x128) ![0, 0] S1024x128.size inb_S1024x128_S1024x128_0_0).toLoadRect (View.loadsAt_vmem h_S1024x128))
  let v25 : BitVec 32 := Scalar.muli arg1 1024#32
  let v26 : BitVec 32 := v25
  let v28 : Vec F S1024x128 .bf16 ← Prog.lift (.load arg13 (Rect.unit (s := S4096x128) (k0_off1 i) S1024x128.size (k0_off1_inb i)).toLoadRect (View.loadsAt_vmem h_S1024x128))
  let v31 : Vec F S1x1x1024 .f32 ← Prog.lift (.load arg6 (Rect.unit (s := S1x1x4096) (k0_off2 i) S1x1x1024.size (k0_off2_inb i)).toLoadRect (View.loadsAt_vmem h_S1x1x1024))
  have cst_13 : F .f32 := Named.named κ "mask" 0xF149F2CA#32
  pure ⟨arg1, k0_pay43 v3, k0_pay44 v3, k0_pay45 v8, k0_pay46 i v11, k0_pay47 (F := F), k0_pay48 (F := F), v26, k0_pay49 i v3 v11 v28 v31, k0_pay50, cst_13⟩

/-- The rest of a point. -/
noncomputable def tailProg (i : grid0.Coords) (arg2 : Memref sig .tc .vmem S4096x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S4096x128 .f32) (harg5 : arg5.IsWhole) (arg6 : Memref sig .tc .vmem S1x1x4096 .f32) (harg6 : arg6.IsWhole) (arg7 : Memref sig .tc .vmem S4096x128 .f32) (harg7 : arg7.IsWhole) (arg8 : Memref sig .tc .vmem S1024x128 .f32) (harg8 : arg8.IsWhole) (arg9 : Memref sig .tc .hbm S4096x7680 .bf16) (harg9 : arg9.IsWhole) (arg10 : Memref sig .tc .vmem S1024x384 .bf16) (harg10 : arg10.IsWhole) (arg11 : Memref sig .tc .vmem S1x1x1024 .f32) (harg11 : arg11.IsWhole) (arg12 : Memref sig .tc .vmem S1x1x4096 .f32) (harg12 : arg12.IsWhole) (arg13 : Memref sig .tc .vmem S4096x128 .bf16) (harg13 : arg13.IsWhole) (arg14 : Memref sig .tc .vmem S128x4096 .bf16) (harg14 : arg14.IsWhole) (arg15 : Memref sig .tc .vmem S4096x128 .bf16) (harg15 : arg15.IsWhole) (arg16 : Memref sig .tc .vmem S128x4096 .bf16) (harg16 : arg16.IsWhole) (arg17 : Memref sig .tc .vmem S1x4096 .f32) (harg17 : arg17.IsWhole) (arg18 : Memref sig .tc .vmem S128x4096 .f32) (harg18 : arg18.IsWhole) :
    Prog (TpuEff nD τ sig (Elt F) Λ₀ .tc) PUnit := do
  let ⟨arg1, v5, v7, v10, v22, v23, v24, v26, v35, v38, cst_13⟩ : Σ' (arg1 : BitVec 32) (v5 : FVec F S1024x128 .bf16) (v7 : FVec F S128x1024 .bf16) (v10 : FVec F S1024x128 .bf16) (v22 : FVec F S1024x1024 .f32) (v23 : FVec F S128x1024 .f32) (v24 : FVec F S1024x128 .f32) (v26 : BitVec 32) (v35 : FVec F S1024x1024 .f32) (v38 : IVec S1024x1024 1), F .f32 ← headVals i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
  let ⟨v49, v55, v59, v80⟩ : Σ' (v49 : FVec F S1024x1024 .f32) (v55 : FVec F S128x1024 .f32) (v59 : FVec F S128x1024 .f32), FVec F S1024x128 .f32 ← k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v7 v10 v23 v26 v35 v38 cst_13
  let v121 : FVec F S1x1024 .f32 ← k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v5 v7 v10 v22 v24 v49 v55 v59 v80
  let v122 : Vec F S1x1x1024 .f32 ← Prog.lift (.load arg11 (Rect.unit (s := S1x1x1024) ![0, 0, 0] S1x1x1024.size inb_S1x1x1024_S1x1x1024_0_0_0).toLoadRect (View.loadsAt_vmem h_S1x1x1024))
  Prog.lift (.store arg11 (Rect.unit (s := S1x1x1024) ![0, 0, 0] S1x1x1024.size inb_S1x1x1024_S1x1x1024_0_0_0) (k0_pay1 v121) Finset.univ (View.stores_vmem_bits_univ h_S1x1x1024 rfl) (.inl rfl))
  pure ⟨⟩

open Classical in
set_option maxRecDepth 65536 in
/-- At a head's first point the body is the filling and then the rest. -/
theorem body_first (i : grid0.Coords) (hi : condJ i) (arg2 : Memref sig .tc .vmem S4096x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S4096x128 .f32) (harg5 : arg5.IsWhole) (arg6 : Memref sig .tc .vmem S1x1x4096 .f32) (harg6 : arg6.IsWhole) (arg7 : Memref sig .tc .vmem S4096x128 .f32) (harg7 : arg7.IsWhole) (arg8 : Memref sig .tc .vmem S1024x128 .f32) (harg8 : arg8.IsWhole) (arg9 : Memref sig .tc .hbm S4096x7680 .bf16) (harg9 : arg9.IsWhole) (arg10 : Memref sig .tc .vmem S1024x384 .bf16) (harg10 : arg10.IsWhole) (arg11 : Memref sig .tc .vmem S1x1x1024 .f32) (harg11 : arg11.IsWhole) (arg12 : Memref sig .tc .vmem S1x1x4096 .f32) (harg12 : arg12.IsWhole) (arg13 : Memref sig .tc .vmem S4096x128 .bf16) (harg13 : arg13.IsWhole) (arg14 : Memref sig .tc .vmem S128x4096 .bf16) (harg14 : arg14.IsWhole) (arg15 : Memref sig .tc .vmem S4096x128 .bf16) (harg15 : arg15.IsWhole) (arg16 : Memref sig .tc .vmem S128x4096 .bf16) (harg16 : arg16.IsWhole) (arg17 : Memref sig .tc .vmem S1x4096 .f32) (harg17 : arg17.IsWhole) (arg18 : Memref sig .tc .vmem S128x4096 .f32) (harg18 : arg18.IsWhole) :
    cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 = (do fillProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18; tailProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) := by
  simp only [cc0_attn_bwd_eq_skeleton]; unfold cc0_attn_bwd_skel
  simp only [k0_part6_eq_skeleton]; unfold k0_part6_skel
  unfold condJ at hi
  simp only [hi, ↓reduceDIte]
  rfl

set_option maxRecDepth 65536 in
/-- At a later point the body is the rest alone. -/
theorem body_later (i : grid0.Coords) (hi : ¬ condJ i) (arg2 : Memref sig .tc .vmem S4096x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S4096x128 .f32) (harg5 : arg5.IsWhole) (arg6 : Memref sig .tc .vmem S1x1x4096 .f32) (harg6 : arg6.IsWhole) (arg7 : Memref sig .tc .vmem S4096x128 .f32) (harg7 : arg7.IsWhole) (arg8 : Memref sig .tc .vmem S1024x128 .f32) (harg8 : arg8.IsWhole) (arg9 : Memref sig .tc .hbm S4096x7680 .bf16) (harg9 : arg9.IsWhole) (arg10 : Memref sig .tc .vmem S1024x384 .bf16) (harg10 : arg10.IsWhole) (arg11 : Memref sig .tc .vmem S1x1x1024 .f32) (harg11 : arg11.IsWhole) (arg12 : Memref sig .tc .vmem S1x1x4096 .f32) (harg12 : arg12.IsWhole) (arg13 : Memref sig .tc .vmem S4096x128 .bf16) (harg13 : arg13.IsWhole) (arg14 : Memref sig .tc .vmem S128x4096 .bf16) (harg14 : arg14.IsWhole) (arg15 : Memref sig .tc .vmem S4096x128 .bf16) (harg15 : arg15.IsWhole) (arg16 : Memref sig .tc .vmem S128x4096 .bf16) (harg16 : arg16.IsWhole) (arg17 : Memref sig .tc .vmem S1x4096 .f32) (harg17 : arg17.IsWhole) (arg18 : Memref sig .tc .vmem S128x4096 .f32) (harg18 : arg18.IsWhole) :
    cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 = tailProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 := by
  simp only [cc0_attn_bwd_eq_skeleton]; unfold cc0_attn_bwd_skel
  simp only [k0_part6_eq_skeleton]; unfold k0_part6_skel
  unfold condJ at hi
  simp only [hi, ↓reduceDIte]
  rfl

/-- The filling, run: what it leaves in the scratch buffers and the accumulator row, whatever they held. -/
noncomputable def fillRun (c : Dev nD) (i : grid0.Coords) (arg2 : Memref sig .tc .vmem S4096x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S4096x128 .f32) (harg5 : arg5.IsWhole) (arg6 : Memref sig .tc .vmem S1x1x4096 .f32) (harg6 : arg6.IsWhole) (arg7 : Memref sig .tc .vmem S4096x128 .f32) (harg7 : arg7.IsWhole) (arg8 : Memref sig .tc .vmem S1024x128 .f32) (harg8 : arg8.IsWhole) (arg9 : Memref sig .tc .hbm S4096x7680 .bf16) (harg9 : arg9.IsWhole) (arg10 : Memref sig .tc .vmem S1024x384 .bf16) (harg10 : arg10.IsWhole) (arg11 : Memref sig .tc .vmem S1x1x1024 .f32) (harg11 : arg11.IsWhole) (arg12 : Memref sig .tc .vmem S1x1x4096 .f32) (harg12 : arg12.IsWhole) (arg13 : Memref sig .tc .vmem S4096x128 .bf16) (harg13 : arg13.IsWhole) (arg14 : Memref sig .tc .vmem S128x4096 .bf16) (harg14 : arg14.IsWhole) (arg15 : Memref sig .tc .vmem S4096x128 .bf16) (harg15 : arg15.IsWhole) (arg16 : Memref sig .tc .vmem S128x4096 .bf16) (harg16 : arg16.IsWhole) (arg17 : Memref sig .tc .vmem S1x4096 .f32) (harg17 : arg17.IsWhole) (arg18 : Memref sig .tc .vmem S128x4096 .f32) (harg18 : arg18.IsWhole)
    (x2 : BufTy.Contents (Elt F) arg2.view.ty) (x5 : BufTy.Contents (Elt F) arg5.view.ty) (x7 : BufTy.Contents (Elt F) arg7.view.ty) :
    Σ' (L12 : List (View.Piece (Elt F) S1x1x4096 .f32)) (L13 : List (View.Piece (Elt F) S4096x128 .bf16)) (L14 : List (View.Piece (Elt F) S128x4096 .bf16)) (L15 : List (View.Piece (Elt F) S4096x128 .bf16)) (L16 : List (View.Piece (Elt F) S128x4096 .bf16)) (L17 : List (View.Piece (Elt F) S1x4096 .f32)), { L18 : List (View.Piece (Elt F) S128x4096 .f32) //
      ∀ (E : Set ℕ) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (kk : PUnit → Prog (TpuEff nD τ sig (Elt F) Λ₀ .tc) PUnit) (K : PUnit → sProp 𝕄),
        iprop(pt c arg2 x2 ∗ pt c arg5 x5 ∗ pt c arg7 x7 ∗ pt c arg12 f12 ∗ pt c arg13 f13 ∗ pt c arg14 f14 ∗ pt c arg15 f15 ∗ pt c arg16 f16 ∗ pt c arg17 f17 ∗ pt c arg18 f18
            ∗ (iprop(pt c arg2 x2 ∗ pt c arg5 x5 ∗ pt c arg7 x7 ∗ pt c arg12 (arg12.view.writes (Elt F) f12 L12) ∗ pt c arg13 (arg13.view.writes (Elt F) f13 L13) ∗ pt c arg14 (arg14.view.writes (Elt F) f14 L14) ∗ pt c arg15 (arg15.view.writes (Elt F) f15 L15) ∗ pt c arg16 (arg16.view.writes (Elt F) f16 L16) ∗ pt c arg17 (arg17.view.writes (Elt F) f17 L17) ∗ pt c arg18 (arg18.view.writes (Elt F) f18 L18))
                -∗ wp frame (wpE (defs₀ (F := F)) Variants.none c none) E (kk ⟨⟩) K))
          ⊢ wp frame (wpE (defs₀ (F := F)) Variants.none c none) E (fillProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 >>= kk) K } := by
  refine ⟨?_, ?_, ?_, ?_, ?_, ?_, ?_, fun E f12 f13 f14 f15 f16 f17 f18 kk K => ?run⟩
  case run =>
    unfold fillProg
    simp only [k0_part1_eq_skeleton, k0_part2_eq_skeleton, k0_part3_eq_skeleton]
    iintro ⟨H2, H5, H7, H12, H13, H14, H15, H16, H17, H18, Hk⟩
    sl_exec
    iapply Hk
    isplitl [H2]; · iexact H2
    isplitl [H5]; · iexact H5
    isplitl [H7]; · iexact H7
    isplitl [H12]; · iexact H12
    isplitl [H13]; · iexact H13
    isplitl [H14]; · iexact H14
    isplitl [H15]; · iexact H15
    isplitl [H16]; · iexact H16
    isplitl [H17]; · iexact H17
    iexact H18

/-- The rest of a point, run: the outputs' pieces and what it adds to the accumulators. -/
noncomputable def tailRun (c : Dev nD) (i : grid0.Coords) (arg2 : Memref sig .tc .vmem S4096x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S4096x128 .f32) (harg5 : arg5.IsWhole) (arg6 : Memref sig .tc .vmem S1x1x4096 .f32) (harg6 : arg6.IsWhole) (arg7 : Memref sig .tc .vmem S4096x128 .f32) (harg7 : arg7.IsWhole) (arg8 : Memref sig .tc .vmem S1024x128 .f32) (harg8 : arg8.IsWhole) (arg9 : Memref sig .tc .hbm S4096x7680 .bf16) (harg9 : arg9.IsWhole) (arg10 : Memref sig .tc .vmem S1024x384 .bf16) (harg10 : arg10.IsWhole) (arg11 : Memref sig .tc .vmem S1x1x1024 .f32) (harg11 : arg11.IsWhole) (arg12 : Memref sig .tc .vmem S1x1x4096 .f32) (harg12 : arg12.IsWhole) (arg13 : Memref sig .tc .vmem S4096x128 .bf16) (harg13 : arg13.IsWhole) (arg14 : Memref sig .tc .vmem S128x4096 .bf16) (harg14 : arg14.IsWhole) (arg15 : Memref sig .tc .vmem S4096x128 .bf16) (harg15 : arg15.IsWhole) (arg16 : Memref sig .tc .vmem S128x4096 .bf16) (harg16 : arg16.IsWhole) (arg17 : Memref sig .tc .vmem S1x4096 .f32) (harg17 : arg17.IsWhole) (arg18 : Memref sig .tc .vmem S128x4096 .f32) (harg18 : arg18.IsWhole)
    (x3 : BufTy.Contents (Elt F) arg3.view.ty) (x4 : BufTy.Contents (Elt F) arg4.view.ty) (x6 : BufTy.Contents (Elt F) arg6.view.ty) (x8 : BufTy.Contents (Elt F) arg8.view.ty) (f12 : BufTy.Contents (Elt F) arg12.view.ty) (x13 : BufTy.Contents (Elt F) arg13.view.ty) (x14 : BufTy.Contents (Elt F) arg14.view.ty) (x15 : BufTy.Contents (Elt F) arg15.view.ty) (x16 : BufTy.Contents (Elt F) arg16.view.ty) (x17 : BufTy.Contents (Elt F) arg17.view.ty) (f18 : BufTy.Contents (Elt F) arg18.view.ty) :
    Σ' (L10 : List (View.Piece (Elt F) S1024x384 .bf16)) (L11 : List (View.Piece (Elt F) S1x1x1024 .f32)) (L12 : List (View.Piece (Elt F) S1x1x4096 .f32)), { L18 : List (View.Piece (Elt F) S128x4096 .f32) //
      ∀ (E : Set ℕ) (f10 : BufTy.Contents (Elt F) arg10.view.ty) (f11 : BufTy.Contents (Elt F) arg11.view.ty) (K : PUnit → sProp 𝕄),
        iprop(pt c arg3 x3 ∗ pt c arg4 x4 ∗ pt c arg6 x6 ∗ pt c arg8 x8 ∗ pt c arg10 f10 ∗ pt c arg11 f11 ∗ pt c arg12 f12 ∗ pt c arg13 x13 ∗ pt c arg14 x14 ∗ pt c arg15 x15 ∗ pt c arg16 x16 ∗ pt c arg17 x17 ∗ pt c arg18 f18
            ∗ (iprop(pt c arg3 x3 ∗ pt c arg4 x4 ∗ pt c arg6 x6 ∗ pt c arg8 x8 ∗ pt c arg10 (arg10.view.writes (Elt F) f10 L10) ∗ pt c arg11 (arg11.view.writes (Elt F) f11 L11) ∗ pt c arg12 (arg12.view.writes (Elt F) f12 L12) ∗ pt c arg13 x13 ∗ pt c arg14 x14 ∗ pt c arg15 x15 ∗ pt c arg16 x16 ∗ pt c arg17 x17 ∗ pt c arg18 (arg18.view.writes (Elt F) f18 L18))
                -∗ K ⟨⟩))
          ⊢ wp frame (wpE (defs₀ (F := F)) Variants.none c none) E (tailProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, fun E f10 f11 K => ?run⟩
  case run =>
    unfold tailProg headVals
    simp only [k0_part7_eq_skeleton, k0_part8_eq_skeleton]
    iintro ⟨H3, H4, H6, H8, H10, H11, H12, H13, H14, H15, H16, H17, H18, Hk⟩
    sl_exec
    sl_step
    iapply Hk
    isplitl [H3]; · iexact H3
    isplitl [H4]; · iexact H4
    isplitl [H6]; · iexact H6
    isplitl [H8]; · iexact H8
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

end Cert.KernelIdeal.Hand
end
-- ==== Proof.Pay.lean ====
module

public import proofs.«01_k».proof.Proof.Gen.KernelIdeal.Skeleton
public import Idealize.ShloMosaic.Lib.Pipeline.Value
public import Idealize.ShloMosaic.Lib.ValueIdx
public import Idealize.ShloMosaic.Lib.Pointwise
public import Idealize.ShloMosaic.PureOps.Ideal.Laws

/-! What each value of the attention backward kernel's body holds at an index, over the extended reals: products as
sums over their contraction, casts as the identity, transposes and slices as moves of the index. -/

@[expose] public section

set_option maxRecDepth 16384

noncomputable section

namespace Cert.KernelIdeal.Pay

open Idealize.ShloMosaic hiding ix1 ix2 ix3
open Idealize.ShloMosaic.ValueIdx
open Cert.KernelIdeal Cert.KernelIdeal.Gen

/-- The exponential of an extended real. -/
abbrev ex (x : EReal) : EReal := FloatOps.exp (F := Ideal) (φ := .f32) x

/-- The scale of the queries, as the float word that the program holds. -/
abbrev sc : EReal := Ideal.ofBits .f32 0x3DB504F3#32

/-- Rows of the left operand against rows of the right one. -/
theorem mm_rows (a : FVec Ideal S1024x128 .bf16) (b : FVec Ideal S1024x128 .bf16) (r c : Fin 1024) :
    matmul dot_S1024x128_S1024x128_S1024x1024_1_1_0_0_n_n none a b (constant S1024x1024 .f32 0x00000000#32) (ix2 r c)
      = ∑ d : Fin 128, a (ix2 r d) * b (ix2 c d) := by
  simp only [matmul]
  rw [Ideal.matmul_constant_zero_apply, ← Equiv.sum_comp (contrEquiv1 dot_S1024x128_S1024x128_S1024x1024_1_1_0_0_n_n 128 rfl rfl).symm]
  refine Finset.sum_congr rfl fun k _ => ?_
  have hk := contrEquiv1_symm_val dot_S1024x128_S1024x128_S1024x1024_1_1_0_0_n_n 128 rfl rfl k
  congr 1
  · refine congrArg a (funext fun x => Fin.ext ?_)
    match x with
    | ⟨0, _⟩ => rfl
    | ⟨1, _⟩ => exact hk
  · refine congrArg b (funext fun x => Fin.ext ?_)
    match x with
    | ⟨0, _⟩ => rfl
    | ⟨1, _⟩ => exact hk

/-- A transposed operand against rows. -/
theorem mm_cols (a : FVec Ideal S128x1024 .bf16) (b : FVec Ideal S1024x1024 .bf16) (d : Fin 128) (r : Fin 1024) :
    matmul dot_S128x1024_S1024x1024_S128x1024_1_1_0_0_n_n none a b (constant S128x1024 .f32 0x00000000#32) (ix2 d r)
      = ∑ c : Fin 1024, a (ix2 d c) * b (ix2 r c) := by
  simp only [matmul]
  rw [Ideal.matmul_constant_zero_apply, ← Equiv.sum_comp (contrEquiv1 dot_S128x1024_S1024x1024_S128x1024_1_1_0_0_n_n 1024 rfl rfl).symm]
  refine Finset.sum_congr rfl fun k _ => ?_
  have hk := contrEquiv1_symm_val dot_S128x1024_S1024x1024_S128x1024_1_1_0_0_n_n 1024 rfl rfl k
  congr 1
  · refine congrArg a (funext fun x => Fin.ext ?_)
    match x with
    | ⟨0, _⟩ => rfl
    | ⟨1, _⟩ => exact hk
  · refine congrArg b (funext fun x => Fin.ext ?_)
    match x with
    | ⟨0, _⟩ => rfl
    | ⟨1, _⟩ => exact hk

/-- A plain product. -/
theorem mm_plain (a : FVec Ideal S128x1024 .bf16) (b : FVec Ideal S1024x1024 .bf16) (d : Fin 128) (c : Fin 1024) :
    matmul dot_S128x1024_S1024x1024_S128x1024_1_0_0_1_n_n none a b (constant S128x1024 .f32 0x00000000#32) (ix2 d c)
      = ∑ r : Fin 1024, a (ix2 d r) * b (ix2 r c) := by
  simp only [matmul]
  rw [Ideal.matmul_constant_zero_apply, ← Equiv.sum_comp (contrEquiv1 dot_S128x1024_S1024x1024_S128x1024_1_0_0_1_n_n 1024 rfl rfl).symm]
  refine Finset.sum_congr rfl fun k _ => ?_
  have hk := contrEquiv1_symm_val dot_S128x1024_S1024x1024_S128x1024_1_0_0_1_n_n 1024 rfl rfl k
  congr 1
  · refine congrArg a (funext fun x => Fin.ext ?_)
    match x with
    | ⟨0, _⟩ => rfl
    | ⟨1, _⟩ => exact hk
  · refine congrArg b (funext fun x => Fin.ext ?_)
    match x with
    | ⟨0, _⟩ => exact hk
    | ⟨1, _⟩ => rfl

/-- A row spread over all rows. -/
theorem spread_row (x : FVec Ideal S1x1024 .f32) (r c : Fin 1024) :
    broadcastTo S1024x1024 x broadcasts_S1x1024_S1024x1024 (ix2 r c) = x (ix2 0 c) :=
  broadcastTo_apply _ _ _ _ fun a => match a with
    | ⟨0, _⟩ => rfl
    | ⟨1, _⟩ => rfl

/-- A row with a unit axis in front, read without it. -/
theorem drop_unit (x : FVec Ideal S1x1x1024 .f32) (c : Fin 1024) :
    shapeCast S1x1024 x shapeCasts_S1x1x1024_S1x1024 (ix2 0 c) = x (ix3 0 0 c) :=
  shapeCast_apply _ _ _ _ (by rw [Shape.rowMajor_val_two, Shape.rowMajor_val_three]; rfl)

/-- A row, read with a unit axis put in front. -/
theorem put_unit (x : FVec Ideal S1x1024 .f32) (c : Fin 1024) :
    shapeCast S1x1x1024 x shapeCasts_S1x1024_S1x1x1024 (ix3 0 0 c) = x (ix2 0 c) :=
  shapeCast_apply _ _ _ _ (by rw [Shape.rowMajor_val_two, Shape.rowMajor_val_three]; rfl)

/-- The scores' exponentials below the diagonal. -/
theorem pay25_at (v5 : FVec Ideal S1024x128 .bf16) (v22 : FVec Ideal S1024x1024 .f32) (v128 : Vec Ideal S1024x128 .bf16)
    (v131 : Vec Ideal S1x1x1024 .f32) (r c : Fin 1024) :
    k0_pay25 v5 v22 v128 v131 (ix2 r c)
      = ex ((∑ d : Fin 128, v5 (ix2 r d) * v128 (ix2 c d)) + v131 (ix3 0 0 c) - v22 (ix2 r c)) := by
  rw [← drop_unit v131, ← spread_row (shapeCast S1x1024 v131 _) r c, ← mm_rows]; rfl

/-- The scores' gradient below the diagonal. -/
theorem pay26_at (v5 v10 : FVec Ideal S1024x128 .bf16) (v22 : FVec Ideal S1024x1024 .f32) (v128 : Vec Ideal S1024x128 .bf16)
    (v131 : Vec Ideal S1x1x1024 .f32) (v138 : Vec Ideal S1024x128 .bf16) (v141 : Vec Ideal S1x1024 .f32) (r c : Fin 1024) :
    k0_pay26 v5 v10 v22 v128 v131 v138 v141 (ix2 r c)
      = k0_pay25 v5 v22 v128 v131 (ix2 r c) * ((∑ d : Fin 128, v10 (ix2 r d) * v138 (ix2 c d)) - v141 (ix2 0 c)) := by
  rw [← spread_row v141 r c, ← mm_rows]; rfl

theorem pay28_at (v5 : FVec Ideal S1024x128 .bf16) (v22 : FVec Ideal S1024x1024 .f32) (acc : FVec Ideal S128x1024 .f32)
    (v128 : Vec Ideal S1024x128 .bf16) (v131 : Vec Ideal S1x1x1024 .f32) (v148 : Vec Ideal S128x1024 .bf16) (d : Fin 128) (r : Fin 1024) :
    k0_pay28 v5 v22 acc v128 v131 v148 (ix2 d r)
      = acc (ix2 d r) + ∑ c : Fin 1024, v148 (ix2 d c) * k0_pay25 v5 v22 v128 v131 (ix2 r c) :=
  congrArg (acc (ix2 d r) + ·) (mm_cols v148 (truncf .bf16 (k0_pay25 v5 v22 v128 v131) bitsLt_bf16_f32) d r)

theorem pay29_at (v5 v10 : FVec Ideal S1024x128 .bf16) (v22 : FVec Ideal S1024x1024 .f32) (acc : FVec Ideal S128x1024 .f32)
    (v128 : Vec Ideal S1024x128 .bf16) (v131 : Vec Ideal S1x1x1024 .f32) (v138 : Vec Ideal S1024x128 .bf16) (v141 : Vec Ideal S1x1024 .f32)
    (v152 : Vec Ideal S128x1024 .bf16) (d : Fin 128) (r : Fin 1024) :
    k0_pay29 v5 v10 v22 acc v128 v131 v138 v141 v152 (ix2 d r)
      = acc (ix2 d r) + ∑ c : Fin 1024, v152 (ix2 d c) * k0_pay26 v5 v10 v22 v128 v131 v138 v141 (ix2 r c) :=
  congrArg (acc (ix2 d r) + ·) (mm_cols v152 (k0_pay27 v5 v10 v22 v128 v131 v138 v141) d r)

theorem pay30_at (v5 : FVec Ideal S1024x128 .bf16) (v7 : FVec Ideal S128x1024 .bf16) (v10 : FVec Ideal S1024x128 .bf16)
    (v22 : FVec Ideal S1024x1024 .f32) (v128 : Vec Ideal S1024x128 .bf16) (v131 : Vec Ideal S1x1x1024 .f32)
    (v138 : Vec Ideal S1024x128 .bf16) (v141 : Vec Ideal S1x1024 .f32) (old : Vec Ideal S128x1024 .f32) (d : Fin 128) (c : Fin 1024) :
    k0_pay30 v5 v7 v10 v22 v128 v131 v138 v141 old (ix2 d c)
      = old (ix2 d c) + (∑ r : Fin 1024, v7 (ix2 d r) * k0_pay26 v5 v10 v22 v128 v131 v138 v141 (ix2 r c)) * sc := by
  unfold k0_pay30
  rw [shapeCast_self]
  exact congrArg (fun z => old (ix2 d c) + z * sc) (mm_plain v7 (k0_pay27 v5 v10 v22 v128 v131 v138 v141) d c)

/-- The sum of a block's rows. -/
theorem rows_sum (x : FVec Ideal S1024x1024 .f32) (c : Fin 1024) :
    multiReduction .add [0] S1024 x 0x00000000#32 reduces_S1024x1024_S1024 (.inl rfl) rfl (ix1 c) = ∑ r : Fin 1024, x (ix2 r c) := by
  refine (Ideal.multiReduction_add_single x 0x00000000#32 reduces_S1024x1024_S1024 (.inl rfl) rfl (ix1 c)).trans ?_
  refine Finset.sum_congr rfl fun k _ => congrArg x (funext fun a => Fin.ext ?_)
  match a with
  | ⟨0, _⟩ => rfl
  | ⟨1, _⟩ => rfl

/-- The sum of a block's rows, as a row. -/
def rowSum (x : FVec Ideal S1024x1024 .f32) : FVec Ideal S1x1024 .f32 :=
  shapeCast S1x1024 (multiReduction .add [0] S1024 x 0x00000000#32 reduces_S1024x1024_S1024 (.inl rfl) rfl)
    shapeCasts_S1024_S1x1024

theorem row_sum (x : FVec Ideal S1024x1024 .f32) (c : Fin 1024) : rowSum x (ix2 0 c) = ∑ r : Fin 1024, x (ix2 r c) :=
  (shapeCast_apply _ _ _ (ix1 c)
    (by rw [Shape.rowMajor_val_two, Shape.rowMajor_val_one]; show c.val = 0 * 1024 + c.val; omega)).trans (rows_sum x c)

theorem pay60_at (v144 : FVec Ideal S1024x1024 .f32) (old : Vec Ideal S1x1x1024 .f32) (c : Fin 1024) :
    k0_pay60 v144 old (ix3 0 0 c) = old (ix3 0 0 c) + ∑ r : Fin 1024, v144 (ix2 r c) := by
  rw [← row_sum, ← drop_unit old]
  exact put_unit (addf (shapeCast S1x1024 old shapeCasts_S1x1x1024_S1x1024) (rowSum v144)) c

/-- A block of 128 columns cut out. -/
theorem cut_at (o : Nat) (h : S1024x1024.Slices ![0, o] S1024x128) (x : FVec Ideal S1024x1024 .f32) (r : Fin 1024) (l : Fin 128)
    (hl : o + l.val < 1024) : extractStridedSlice S1024x128 ![0, o] x h (ix2 r l) = x (ix2 r ⟨o + l.val, hl⟩) :=
  extractStridedSlice_apply _ _ _ _ _ fun a => match a with
    | ⟨0, _⟩ => (Nat.zero_add _).symm
    | ⟨1, _⟩ => rfl

/-- The eight blocks of 128 columns folded onto one. -/
def fold8 (x : FVec Ideal S1024x1024 .f32) (r : Fin 1024) (l : Fin 128) : EReal :=
  ∑ m : Fin 8, x (ix2 r ⟨128 * m.val + l.val, by omega⟩)

theorem pay61_at (acc : FVec Ideal S1024x128 .f32) (v144 : FVec Ideal S1024x1024 .f32) (r : Fin 1024) (l : Fin 128) :
    k0_pay61 acc v144 (ix2 r l) = acc (ix2 r l) + fold8 v144 r l := by
  unfold fold8
  simp only [Fin.sum_univ_eight, ← add_assoc]
  unfold k0_pay61
  simp only [addf_apply]
  congr 1; congr 1; congr 1; congr 1; congr 1; congr 1; congr 1; congr 1
  all_goals exact (cut_at _ _ _ _ _ (by omega)).trans (congrArg v144 (congrArg (ix2 r) (Fin.ext (by simp))))

/-- The lanes of the gates' logs, zero off the head's own lane. -/
def gate (i : grid0.Coords) (v11 : Vec Ideal S1024x128 .f32) : FVec Ideal S1024x128 .f32 :=
  select (cmpi .eq (iota .tc S1024x128 32 [1] iota_S1024x128_d1_w32) (broadcast S1024x128 (BitVec.ofNat 32 (i 0).val)))
    (shapeCast S1024x128 v11 shapeCasts_S1024x128_S1024x128) (broadcast S1024x128 (Scalar.ofBits .f32 0x00000000#32))

theorem gate_at (i : grid0.Coords) (v11 : Vec Ideal S1024x128 .f32) (r : Fin 1024) (l : Fin 128) :
    gate i v11 (ix2 r l) = if l.val = (i 0).val then v11 (ix2 r l) else 0 := by
  have hi : (i 0).val < 8 := (i 0).isLt
  unfold gate
  rw [shapeCast_self]
  have e : cmpi .eq (iota .tc S1024x128 32 [1] iota_S1024x128_d1_w32) (broadcast S1024x128 (BitVec.ofNat 32 (i 0).val)) (ix2 r l)
      = BitVec.ofBool (decide (l.val = (i 0).val)) := by
    show BitVec.ofBool (BitVec.ofNat 32 (0 * 128 + l.val) == BitVec.ofNat 32 (i 0).val) = _
    congr 1
    rw [Bool.eq_iff_iff, beq_iff_eq, decide_eq_true_iff, ← BitVec.toNat_inj, BitVec.toNat_ofNat, BitVec.toNat_ofNat]
    have := l.isLt
    omega
  by_cases h : l.val = (i 0).val
  · rw [if_pos h, select_apply, e, decide_eq_true h]; rfl
  · rw [if_neg h, select_apply, e, decide_eq_false h]
    exact Ideal.ofBits_zero_f32

/-- The gates' logs of one head, one for each row of the keys' block. -/
theorem pay46_at (i : grid0.Coords) (v11 : Vec Ideal S1024x128 .f32) (r c : Fin 1024) :
    k0_pay46 i v11 (ix2 r c) = ∑ l : Fin 128, if l.val = (i 0).val then v11 (ix2 r l) else 0 := by
  unfold k0_pay46
  have hc : c.val / 128 < 8 := by omega
  refine (concatenate_apply_piece 1 _ _ (ix2 r c) (c.val / 128) (by simpa using hc) S1024x128
    (broadcastTo S1024x128 (shapeCast S1024x1 (shapeCast S1024x1 (multiReduction .add [1] S1024 (gate i v11) 0x00000000#32
      reduces_S1024x128_S1024 (.inl rfl) rfl) shapeCasts_S1024_S1024x1) shapeCasts_S1024x1_S1024x1) broadcasts_S1024x1_S1024x128)
    ?_ rfl (128 * (c.val / 128)) ?_ (ix2 r ⟨c.val % 128, by omega⟩) ?_ ?_).trans ?_
  · generalize c.val / 128 = k at hc ⊢
    interval_cases k <;> rfl
  · generalize c.val / 128 = k at hc ⊢
    interval_cases k <;> rfl
  · intro b hb
    match b with
    | ⟨0, _⟩ => rfl
    | ⟨1, _⟩ => exact absurd rfl hb
  · show 128 * (c.val / 128) + c.val % 128 = c.val
    omega
  · refine (broadcastTo_apply _ _ _ (ix2 r 0) fun a => match a with
      | ⟨0, _⟩ => rfl
      | ⟨1, _⟩ => rfl).trans ?_
    rw [shapeCast_self]
    refine (shapeCast_apply _ _ _ (ix1 r) (by rw [Shape.rowMajor_val_two, Shape.rowMajor_val_one]; show r.val = r.val * 1 + 0; omega)).trans ?_
    refine (Ideal.multiReduction_add_single (gate i v11) 0x00000000#32 reduces_S1024x128_S1024 (.inl rfl) rfl (ix1 r)).trans ?_
    refine Finset.sum_congr rfl fun k _ => ?_
    refine Eq.trans ?_ (gate_at i v11 r k)
    refine congrArg (gate i v11) (funext fun a => Fin.ext ?_)
    match a with
    | ⟨0, _⟩ => rfl
    | ⟨1, _⟩ => rfl

/-- The scores on the diagonal block. -/
theorem pay49_at (i : grid0.Coords) (v3 v11 : Vec Ideal S1024x128 .f32) (v28 : Vec Ideal S1024x128 .bf16) (v31 : Vec Ideal S1x1x1024 .f32)
    (r c : Fin 1024) :
    k0_pay49 i v3 v11 v28 v31 (ix2 r c)
      = (∑ d : Fin 128, k0_pay43 v3 (ix2 r d) * v28 (ix2 c d)) + v31 (ix3 0 0 c) - k0_pay46 i v11 (ix2 r c) := by
  rw [← drop_unit v31, ← spread_row (shapeCast S1x1024 v31 _) r c, ← mm_rows]; rfl

theorem pay51_at (v35 : FVec Ideal S1024x1024 .f32) (w : EReal) (r c : Fin 1024) :
    k0_pay51 v35 k0_pay50 w (ix2 r c) = ex (if r.val ≤ c.val then v35 (ix2 r c) else w) := by
  have e : k0_pay50 (ix2 r c) = BitVec.ofBool (decide (r.val ≤ c.val)) := by
    show BitVec.ofBool (BitVec.sle (BitVec.ofNat 32 (0 * 1024 + r.val)) (BitVec.ofNat 32 (0 * 1024 + c.val))) = _
    congr 1
    have := r.isLt
    have := c.isLt
    rw [Bool.eq_iff_iff, decide_eq_true_iff, BitVec.sle_eq_decide, decide_eq_true_iff, BitVec.toInt_ofNat', BitVec.toInt_ofNat']
    simp only [Int.bmod_def]
    omega
  show ex (select k0_pay50 v35 (broadcast S1024x1024 w) (ix2 r c)) = _
  by_cases h : r.val ≤ c.val
  · rw [if_pos h, select_apply, e, decide_eq_true h]; rfl
  · rw [if_neg h, select_apply, e, decide_eq_false h]; rfl

theorem pay52_at (v10 : FVec Ideal S1024x128 .bf16) (v35 : FVec Ideal S1024x1024 .f32) (m : IVec S1024x1024 1) (w : EReal)
    (v43 : Vec Ideal S1024x128 .bf16) (v46 : Vec Ideal S1x1024 .f32) (r c : Fin 1024) :
    k0_pay52 v10 v35 m w v43 v46 (ix2 r c)
      = k0_pay51 v35 m w (ix2 r c) * ((∑ d : Fin 128, v10 (ix2 r d) * v43 (ix2 c d)) - v46 (ix2 0 c)) := by
  rw [← spread_row v46 r c, ← mm_rows]; rfl

theorem pay54_at (acc : FVec Ideal S128x1024 .f32) (v35 : FVec Ideal S1024x1024 .f32) (m : IVec S1024x1024 1) (w : EReal)
    (v53 : Vec Ideal S128x1024 .bf16) (d : Fin 128) (r : Fin 1024) :
    k0_pay54 acc v35 m w v53 (ix2 d r) = acc (ix2 d r) + ∑ c : Fin 1024, v53 (ix2 d c) * k0_pay51 v35 m w (ix2 r c) :=
  congrArg (acc (ix2 d r) + ·) (mm_cols v53 (truncf .bf16 (k0_pay51 v35 m w) bitsLt_bf16_f32) d r)

theorem pay55_at (v10 : FVec Ideal S1024x128 .bf16) (acc : FVec Ideal S128x1024 .f32) (v35 : FVec Ideal S1024x1024 .f32)
    (m : IVec S1024x1024 1) (w : EReal) (v43 : Vec Ideal S1024x128 .bf16) (v46 : Vec Ideal S1x1024 .f32)
    (v57 : Vec Ideal S128x1024 .bf16) (d : Fin 128) (r : Fin 1024) :
    k0_pay55 v10 acc v35 m w v43 v46 v57 (ix2 d r)
      = acc (ix2 d r) + ∑ c : Fin 1024, v57 (ix2 d c) * k0_pay52 v10 v35 m w v43 v46 (ix2 r c) :=
  congrArg (acc (ix2 d r) + ·) (mm_cols v57 (k0_pay53 v10 v35 m w v43 v46) d r)

theorem pay56_at (v7 : FVec Ideal S128x1024 .bf16) (v10 : FVec Ideal S1024x128 .bf16) (v35 : FVec Ideal S1024x1024 .f32)
    (m : IVec S1024x1024 1) (w : EReal) (v43 : Vec Ideal S1024x128 .bf16) (v46 : Vec Ideal S1x1024 .f32)
    (old : Vec Ideal S128x1024 .f32) (d : Fin 128) (c : Fin 1024) :
    k0_pay56 v7 v10 v35 m w v43 v46 old (ix2 d c)
      = old (ix2 d c) + (∑ r : Fin 1024, v7 (ix2 d r) * k0_pay52 v10 v35 m w v43 v46 (ix2 r c)) * sc := by
  unfold k0_pay56
  rw [shapeCast_self]
  exact congrArg (fun z => old (ix2 d c) + z * sc) (mm_plain v7 (k0_pay53 v10 v35 m w v43 v46) d c)

theorem pay57_at (v10 : FVec Ideal S1024x128 .bf16) (v35 : FVec Ideal S1024x1024 .f32)
    (m : IVec S1024x1024 1) (w : EReal) (v43 : Vec Ideal S1024x128 .bf16) (v46 : Vec Ideal S1x1024 .f32)
    (old : Vec Ideal S1x1x1024 .f32) (c : Fin 1024) :
    k0_pay57 v10 v35 m w v43 v46 old (ix3 0 0 c)
      = old (ix3 0 0 c) + ∑ r : Fin 1024, k0_pay52 v10 v35 m w v43 v46 (ix2 r c) := by
  rw [← row_sum, ← drop_unit old]
  exact put_unit (addf (shapeCast S1x1024 old shapeCasts_S1x1x1024_S1x1024) (rowSum (k0_pay52 v10 v35 m w v43 v46))) c

/-- The diagonal block's columns folded. -/
theorem pay59_at (acc : FVec Ideal S1024x128 .f32) (v10 : FVec Ideal S1024x128 .bf16) (v35 : FVec Ideal S1024x1024 .f32)
    (m : IVec S1024x1024 1) (w : EReal) (v43 : Vec Ideal S1024x128 .bf16) (v46 : Vec Ideal S1x1024 .f32) (r : Fin 1024) (l : Fin 128) :
    k0_pay59 acc (k0_pay52 v10 v35 m w v43 v46) (k0_pay58 v10 v35 m w v43 v46) (ix2 r l)
      = acc (ix2 r l) + fold8 (k0_pay52 v10 v35 m w v43 v46) r l := by
  unfold fold8
  simp only [Fin.sum_univ_eight, ← add_assoc]
  unfold k0_pay59 k0_pay58
  dsimp only
  generalize k0_pay52 v10 v35 m w v43 v46 = z
  simp only [addf_apply]
  congr 1; congr 1; congr 1; congr 1; congr 1; congr 1; congr 1; congr 1
  all_goals exact (cut_at _ _ _ _ _ (by omega)).trans (congrArg z (congrArg (ix2 r) (Fin.ext (by simp))))

/-- An operand's block turned over. -/
theorem turn_at (x : FVec Ideal S1024x128 .f32) (d : Fin 128) (r : Fin 1024) :
    transpose S128x1024 [1, 0] x transposes_S1024x128_p1_0_S128x1024 (ix2 d r) = x (ix2 r d) :=
  transpose_apply _ _ _ _ _ fun a => match a with
    | ⟨0, _⟩ => rfl
    | ⟨1, _⟩ => rfl

theorem turn_back_at (x : FVec Ideal S128x1024 .f32) (r : Fin 1024) (d : Fin 128) :
    transpose S1024x128 [1, 0] x transposes_S128x1024_p1_0_S1024x128 (ix2 r d) = x (ix2 d r) :=
  transpose_apply _ _ _ _ _ fun a => match a with
    | ⟨0, _⟩ => rfl
    | ⟨1, _⟩ => rfl

theorem pay2_at (x : Vec Ideal S1024x128 .f32) (j : S1024x128.Idx) : k0_pay2 x j = x j * sc := by
  unfold k0_pay2
  rw [shapeCast_self]; rfl

theorem pay3_at (x : Vec Ideal S1024x128 .f32) (j : S1024x128.Idx) : k0_pay3 x j = x j * sc := by
  unfold k0_pay3
  rw [shapeCast_self]; exact pay2_at x j

theorem pay9_at (x : Vec Ideal S1024x128 .f32) (j : S1024x128.Idx) : k0_pay9 x j = x j * sc := by
  show k0_pay8 x j = _
  unfold k0_pay8
  rw [shapeCast_self]; rfl

theorem pay4_at (x : Vec Ideal S1024x128 .f32) (d : Fin 128) (r : Fin 1024) : k0_pay4 x (ix2 d r) = x (ix2 r d) * sc := by
  unfold k0_pay4
  rw [shapeCast_self]; exact (turn_at _ d r).trans (pay2_at x _)

theorem pay37_at (x : Vec Ideal S1024x128 .f32) (j : S1024x128.Idx) : k0_pay37 x j = x j := by
  unfold k0_pay37
  rw [shapeCast_self]; rfl

theorem pay38_at (x : Vec Ideal S1024x128 .f32) (d : Fin 128) (r : Fin 1024) : k0_pay38 x (ix2 d r) = x (ix2 r d) := by
  unfold k0_pay38
  rw [shapeCast_self]; exact turn_at x d r

theorem pay7_at (x : Vec Ideal S1024x128 .f32) (c : Fin 1024) : k0_pay7 x (ix2 0 c) = x (ix2 c 0) := by
  unfold k0_pay7
  rw [shapeCast_self, shapeCast_self]
  refine (extractStridedSlice_apply _ _ _ _ (ix2 0 c) fun a => match a with
    | ⟨0, _⟩ => rfl
    | ⟨1, _⟩ => (Nat.zero_add _).symm).trans ?_
  exact turn_at x 0 c

theorem pay39_at (x : Vec Ideal S1024x128 .f32) (c : Fin 1024) : k0_pay39 x (ix2 0 c) = x (ix2 c 0) := pay7_at x c

theorem pay40_at (j : S128x4096.Idx) : (k0_pay40 (F := Ideal)) j = 0 := by
  unfold k0_pay40
  rw [shapeCast_self]; exact Ideal.ofBits_zero_f32

theorem pay41_at (j : S1x1x4096.Idx) : (k0_pay41 (F := Ideal)) j = 0 := by
  unfold k0_pay41
  exact Ideal.ofBits_zero_f32

theorem pay43_at (x : Vec Ideal S1024x128 .f32) (j : S1024x128.Idx) : k0_pay43 x j = x j := by
  show k0_pay42 x j = _
  unfold k0_pay42
  rw [shapeCast_self]

theorem pay44_at (x : Vec Ideal S1024x128 .f32) (d : Fin 128) (r : Fin 1024) : k0_pay44 x (ix2 d r) = x (ix2 r d) :=
  (turn_at _ d r).trans (pay43_at x _)

theorem pay45_at (x : Vec Ideal S1024x128 .f32) (j : S1024x128.Idx) : k0_pay45 x j = x j := by
  unfold k0_pay45
  rw [shapeCast_self]; rfl

theorem pay47_at (j : S128x1024.Idx) : (k0_pay47 (F := Ideal)) j = 0 := Ideal.ofBits_zero_f32

theorem pay48_at (j : S1024x128.Idx) : (k0_pay48 (F := Ideal)) j = 0 := Ideal.ofBits_zero_f32

theorem pay64_at (x : Vec Ideal S128x1024 .f32) (r : Fin 1024) (d : Fin 128) : k0_pay64 x (ix2 r d) = x (ix2 d r) := turn_back_at x r d

theorem pay65_at (x : FVec Ideal S128x1024 .f32) (r : Fin 1024) (d : Fin 128) : k0_pay65 x (ix2 r d) = x (ix2 d r) := turn_back_at x r d

theorem pay66_at (x : FVec Ideal S128x1024 .f32) (r : Fin 1024) (d : Fin 128) : k0_pay66 x (ix2 r d) = x (ix2 d r) := turn_back_at x r d

/-- The keys' gradient of the gates' logs: the folded lanes added, with the sign turned. -/
theorem pay67_at (x : FVec Ideal S1024x128 .f32) (r : Fin 1024) :
    k0_pay1 (k0_pay67 x) (ix3 0 0 r) = 0 - ∑ l : Fin 128, x (ix2 r l) := by
  refine (put_unit (k0_pay67 x) r).trans ?_
  show FloatOps.ofBits (F := Ideal) .f32 0x00000000#32 - _ = _
  refine congrArg₂ (fun a b : EReal => a - b) Ideal.ofBits_zero_f32 ?_
  refine (shapeCast_apply _ _ _ (ix1 r)
    (by rw [Shape.rowMajor_val_two, Shape.rowMajor_val_one]; show r.val = 0 * 1024 + r.val; omega)).trans ?_
  refine (Ideal.multiReduction_add_single _ 0x00000000#32 reduces_S128x1024_S1024 (.inl rfl) rfl (ix1 r)).trans ?_
  refine Finset.sum_congr rfl fun k _ => ?_
  refine Eq.trans ?_ (turn_at x k r)
  refine congrArg _ (funext fun a => Fin.ext ?_)
  match a with
  | ⟨0, _⟩ => rfl
  | ⟨1, _⟩ => rfl

end Cert.KernelIdeal.Pay

end
-- ==== Proof.LoopValue.lean ====
module

public import proofs.«01_k».proof.Proof.Gen.KernelIdeal.Loops
public import proofs.«01_k».proof.Proof.Pay
public import Idealize.ShloMosaic.Lib.Pipeline.ValueKit
public import Idealize.ShloMosaic.Lib.WritesUnit

/-! What the counted loop over the query blocks beyond the diagonal carries and writes, over the extended reals. -/

@[expose] public section

set_option maxRecDepth 16384

noncomputable section

namespace Cert.KernelIdeal.Pay

open Idealize.ShloMosaic hiding ix1 ix2 ix3
open Idealize.ShloMosaic.ValueIdx
open Cert.KernelIdeal Cert.KernelIdeal.Gen

/-- Column `c` of query block `b`. -/
def col (b : ℕ) (c : Fin 1024) : Fin 4096 := ⟨(1024 * b + c.val) % 4096, Nat.mod_lt _ (by omega)⟩

theorem col_val {b : ℕ} (hb : b < 4) (c : Fin 1024) : (col b c).val = 1024 * b + c.val := by
  have := c.isLt
  exact Nat.mod_eq_of_lt (by omega)

/-- A row's piece, read inside it. -/
theorem put_row (v : View sig .tc .vmem S1x1x4096 .f32) (f : v.ty.Contents (Elt Ideal)) {off : Fin 3 → ℕ} {o : ℕ} (h : off = ![0, 0, o])
    (inb : ∀ a, off a + S1x1x1024.size a ≤ S1x1x4096.size a) (w : S1x1x1024.Idx → EReal) (M : List (View.Piece (Elt Ideal) S1x1x4096 .f32))
    (x : Fin 4096) (c : Fin 1024) (hx : x.val = o + c.val) :
    v.read (Elt Ideal) (v.writes (Elt Ideal) f (⟨Rect.unit off S1x1x1024.size inb, w⟩ :: M)) (ix3 0 0 x) = w (ix3 0 0 c) :=
  View.read_writes_cons_unit_of_mem (s := S1x1x4096) (off' := ![0, 0, o]) (size := S1x1x1024.size) v f inb w M (ix3 0 0 x) (ix3 0 0 c) h
    (fun a => match a with
      | ⟨0, _⟩ => rfl
      | ⟨1, _⟩ => rfl
      | ⟨2, _⟩ => hx)

/-- A row's piece, read outside it. -/
theorem skip_row (v : View sig .tc .vmem S1x1x4096 .f32) (f : v.ty.Contents (Elt Ideal)) {off : Fin 3 → ℕ} {o : ℕ} (h : off = ![0, 0, o])
    (inb : ∀ a, off a + S1x1x1024.size a ≤ S1x1x4096.size a) (w : S1x1x1024.Idx → EReal) (M : List (View.Piece (Elt Ideal) S1x1x4096 .f32))
    (x : Fin 4096) (hx : x.val < o ∨ o + 1024 ≤ x.val) :
    v.read (Elt Ideal) (v.writes (Elt Ideal) f (⟨Rect.unit off S1x1x1024.size inb, w⟩ :: M)) (ix3 0 0 x)
      = v.read (Elt Ideal) (v.writes (Elt Ideal) f M) (ix3 0 0 x) :=
  View.read_writes_cons_unit_of_not_mem (s := S1x1x4096) (off' := ![0, 0, o]) (size := S1x1x1024.size) v f inb w M (ix3 0 0 x) h 2 hx

/-- A block of columns, read inside it. -/
theorem put_cols {e : EltTy} (v : View sig .tc .vmem S128x4096 e) (f : v.ty.Contents (Elt Ideal)) {off : Fin 2 → ℕ} {o : ℕ} (h : off = ![0, o])
    (inb : ∀ a, off a + S128x1024.size a ≤ S128x4096.size a) (w : S128x1024.Idx → Elt Ideal e) (M : List (View.Piece (Elt Ideal) S128x4096 e))
    (d : Fin 128) (x : Fin 4096) (c : Fin 1024) (hx : x.val = o + c.val) :
    v.read (Elt Ideal) (v.writes (Elt Ideal) f (⟨Rect.unit off S128x1024.size inb, w⟩ :: M)) (ix2 d x) = w (ix2 d c) :=
  View.read_writes_cons_unit_of_mem (s := S128x4096) (off' := ![0, o]) (size := S128x1024.size) v f inb w M (ix2 d x) (ix2 d c) h
    (fun a => match a with
      | ⟨0, _⟩ => (Nat.zero_add _).symm
      | ⟨1, _⟩ => hx)

/-- A block of columns, read outside it. -/
theorem skip_cols {e : EltTy} (v : View sig .tc .vmem S128x4096 e) (f : v.ty.Contents (Elt Ideal)) {off : Fin 2 → ℕ} {o : ℕ} (h : off = ![0, o])
    (inb : ∀ a, off a + S128x1024.size a ≤ S128x4096.size a) (w : S128x1024.Idx → Elt Ideal e) (M : List (View.Piece (Elt Ideal) S128x4096 e))
    (d : Fin 128) (x : Fin 4096) (hx : x.val < o ∨ o + 1024 ≤ x.val) :
    v.read (Elt Ideal) (v.writes (Elt Ideal) f (⟨Rect.unit off S128x1024.size inb, w⟩ :: M)) (ix2 d x)
      = v.read (Elt Ideal) (v.writes (Elt Ideal) f M) (ix2 d x) :=
  View.read_writes_cons_unit_of_not_mem (s := S128x4096) (off' := ![0, o]) (size := S128x1024.size) v f inb w M (ix2 d x) h 1 hx

/-- The loop's trip count. -/
theorem trips_eq : ∀ i : grid0.Coords, (k0_t1_loop i).trips = 3 - (i 1).val := by decide +kernel

/-- Everything the loop at one grid point starts from. -/
structure Lp where
  𝒱 : Variants
  c : Dev nD
  bd : Option 𝒱.V
  i : grid0.Coords
  arg2 : Memref sig .tc .vmem S4096x128 .f32
  harg2 : arg2.IsWhole
  arg3 : Memref sig .tc .vmem S1024x128 .f32
  harg3 : arg3.IsWhole
  arg4 : Memref sig .tc .vmem S1024x128 .f32
  harg4 : arg4.IsWhole
  arg5 : Memref sig .tc .vmem S4096x128 .f32
  harg5 : arg5.IsWhole
  arg6 : Memref sig .tc .vmem S1x1x4096 .f32
  harg6 : arg6.IsWhole
  arg7 : Memref sig .tc .vmem S4096x128 .f32
  harg7 : arg7.IsWhole
  arg8 : Memref sig .tc .vmem S1024x128 .f32
  harg8 : arg8.IsWhole
  arg9 : Memref sig .tc .hbm S4096x7680 .bf16
  harg9 : arg9.IsWhole
  arg10 : Memref sig .tc .vmem S1024x384 .bf16
  harg10 : arg10.IsWhole
  arg11 : Memref sig .tc .vmem S1x1x1024 .f32
  harg11 : arg11.IsWhole
  arg12 : Memref sig .tc .vmem S1x1x4096 .f32
  harg12 : arg12.IsWhole
  arg13 : Memref sig .tc .vmem S4096x128 .bf16
  harg13 : arg13.IsWhole
  arg14 : Memref sig .tc .vmem S128x4096 .bf16
  harg14 : arg14.IsWhole
  arg15 : Memref sig .tc .vmem S4096x128 .bf16
  harg15 : arg15.IsWhole
  arg16 : Memref sig .tc .vmem S128x4096 .bf16
  harg16 : arg16.IsWhole
  arg17 : Memref sig .tc .vmem S1x4096 .f32
  harg17 : arg17.IsWhole
  arg18 : Memref sig .tc .vmem S128x4096 .f32
  harg18 : arg18.IsWhole
  arg1 : BitVec 32
  v5 : FVec Ideal S1024x128 .bf16
  v7 : FVec Ideal S128x1024 .bf16
  v10 : FVec Ideal S1024x128 .bf16
  v22 : FVec Ideal S1024x1024 .f32
  v24 : FVec Ideal S1024x128 .f32
  v49 : FVec Ideal S1024x1024 .f32
  v55 : FVec Ideal S128x1024 .f32
  v59 : FVec Ideal S128x1024 .f32
  v80 : FVec Ideal S1024x128 .f32
  v96 : BitVec 32
  X6 : BufTy.Contents (Elt Ideal) arg6.view.ty
  X13 : BufTy.Contents (Elt Ideal) arg13.view.ty
  X14 : BufTy.Contents (Elt Ideal) arg14.view.ty
  X15 : BufTy.Contents (Elt Ideal) arg15.view.ty
  X16 : BufTy.Contents (Elt Ideal) arg16.view.ty
  X17 : BufTy.Contents (Elt Ideal) arg17.view.ty
  G12 : BufTy.Contents (Elt Ideal) arg12.view.ty
  G18 : BufTy.Contents (Elt Ideal) arg18.view.ty
  init : FVec Ideal S128x1024 .f32 × FVec Ideal S128x1024 .f32 × FVec Ideal S1024x128 .f32

namespace Lp

variable (L : Lp)

/-- The carried values and the writes before trip `n`. -/
def st (n : ℕ) := st_k0_t1 (F := Ideal) L.𝒱 L.c L.bd L.i L.arg2 L.harg2 L.arg3 L.harg3 L.arg4 L.harg4 L.arg5 L.harg5 L.arg6 L.harg6 L.arg7 L.harg7 L.arg8 L.harg8 L.arg9 L.harg9 L.arg10 L.harg10 L.arg11 L.harg11 L.arg12 L.harg12 L.arg13 L.harg13 L.arg14 L.harg14 L.arg15 L.harg15 L.arg16 L.harg16 L.arg17 L.harg17 L.arg18 L.harg18 L.arg1 L.v5 L.v7 L.v10 L.v22 L.v24 L.v49 L.v55 L.v59 L.v80 L.v96 L.X6 L.X13 L.X14 L.X15 L.X16 L.X17 L.G12 L.G18 L.init n

/-- The contents the memrefs read. -/
def E : Fin 4096 → EReal := fun x => L.arg6.view.read (Elt Ideal) L.X6 (ix3 0 0 x)
def Q : Fin 4096 → Fin 128 → EReal := fun x d => L.arg13.view.read (Elt Ideal) L.X13 (ix2 x d)
def QT : Fin 128 → Fin 4096 → EReal := fun d x => L.arg14.view.read (Elt Ideal) L.X14 (ix2 d x)
def DY : Fin 4096 → Fin 128 → EReal := fun x d => L.arg15.view.read (Elt Ideal) L.X15 (ix2 x d)
def DYT : Fin 128 → Fin 4096 → EReal := fun d x => L.arg16.view.read (Elt Ideal) L.X16 (ix2 d x)
def DL : Fin 4096 → EReal := fun x => L.arg17.view.read (Elt Ideal) L.X17 (ix2 0 x)

/-- The probabilities and the scores' gradient off the diagonal. -/
def p (cg : Fin 1024 → EReal) (r : Fin 1024) (x : Fin 4096) : EReal :=
  ex ((∑ d : Fin 128, L.v5 (ix2 r d) * L.Q x d) + L.E x - cg r)
def ds (cg : Fin 1024 → EReal) (r : Fin 1024) (x : Fin 4096) : EReal :=
  L.p cg r x * ((∑ d : Fin 128, L.v10 (ix2 r d) * L.DY x d) - L.DL x)

variable {L}

theorem rows_at {e : EltTy} (v : View sig .tc .vmem S4096x128 e) (f : v.ty.Contents (Elt Ideal)) (k : Fin (k0_t1_loop L.i).trips)
    (r : Fin 1024) (d : Fin 128) (b : ℕ) (hb : b = (L.i 1).val + 1 + k.val) :
    v.readAt (Elt Ideal) (Rect.unit (s := S4096x128) (k0_off5 L.i k) S1024x128.size (k0_off5_inb L.i k)).toLoadRect f (ix2 r d)
      = v.read (Elt Ideal) f (ix2 (col b r) d) := by
  have h4 : b < 4 := by have h1 := trips_eq L.i; have h2 := k.isLt; have h3 : (L.i 1).val < 4 := (L.i 1).isLt; omega
  rw [View.readAt_eq_ld]
  refine View.ld_unit_apply_of _ _ _ _ _ _ fun a => ?_
  have e := congrFun (k0_off5_eq L.i k) a
  match a with
  | ⟨0, _⟩ => refine Eq.trans ?_ (congrArg (· + r.val) e.symm); show (col b r).val = 1024 * (L.i 1).val + 1024 * k.val + 1024 + r.val; rw [col_val h4]; omega
  | ⟨1, _⟩ => refine Eq.trans ?_ (congrArg (· + d.val) e.symm); show d.val = 0 + d.val; omega

theorem cols_at {e : EltTy} (v : View sig .tc .vmem S128x4096 e) (f : v.ty.Contents (Elt Ideal)) (k : Fin (k0_t1_loop L.i).trips)
    (d : Fin 128) (r : Fin 1024) (b : ℕ) (hb : b = (L.i 1).val + 1 + k.val) :
    v.readAt (Elt Ideal) (Rect.unit (s := S128x4096) (k0_off8 L.i k) S128x1024.size (k0_off8_inb L.i k)).toLoadRect f (ix2 d r)
      = v.read (Elt Ideal) f (ix2 d (col b r)) := by
  have h4 : b < 4 := by have h1 := trips_eq L.i; have h2 := k.isLt; have h3 : (L.i 1).val < 4 := (L.i 1).isLt; omega
  rw [View.readAt_eq_ld]
  refine View.ld_unit_apply_of _ _ _ _ _ _ fun a => ?_
  have e := congrFun (k0_off8_eq L.i k) a
  match a with
  | ⟨0, _⟩ => refine Eq.trans ?_ (congrArg (· + d.val) e.symm); show d.val = 0 + d.val; omega
  | ⟨1, _⟩ => refine Eq.trans ?_ (congrArg (· + r.val) e.symm); show (col b r).val = 1024 * (L.i 1).val + 1024 * k.val + 1024 + r.val; rw [col_val h4]; omega

theorem row_at (v : View sig .tc .vmem S1x4096 .f32) (f : v.ty.Contents (Elt Ideal)) (k : Fin (k0_t1_loop L.i).trips)
    (r : Fin 1024) (b : ℕ) (hb : b = (L.i 1).val + 1 + k.val) :
    v.readAt (Elt Ideal) (Rect.unit (s := S1x4096) (k0_off7 L.i k) S1x1024.size (k0_off7_inb L.i k)).toLoadRect f (ix2 0 r)
      = v.read (Elt Ideal) f (ix2 0 (col b r)) := by
  have h4 : b < 4 := by have h1 := trips_eq L.i; have h2 := k.isLt; have h3 : (L.i 1).val < 4 := (L.i 1).isLt; omega
  rw [View.readAt_eq_ld]
  refine View.ld_unit_apply_of _ _ _ _ _ _ fun a => ?_
  have e := congrFun (k0_off7_eq L.i k) a
  match a with
  | ⟨0, _⟩ => exact (congrArg (· + 0) e.symm)
  | ⟨1, _⟩ => refine Eq.trans ?_ (congrArg (· + r.val) e.symm); show (col b r).val = 1024 * (L.i 1).val + 1024 * k.val + 1024 + r.val; rw [col_val h4]; omega

theorem lane_at (v : View sig .tc .vmem S1x1x4096 .f32) (f : v.ty.Contents (Elt Ideal)) (k : Fin (k0_t1_loop L.i).trips)
    (r : Fin 1024) (b : ℕ) (hb : b = (L.i 1).val + 1 + k.val) :
    v.readAt (Elt Ideal) (Rect.unit (s := S1x1x4096) (k0_off6 L.i k) S1x1x1024.size (k0_off6_inb L.i k)).toLoadRect f (ix3 0 0 r)
      = v.read (Elt Ideal) f (ix3 0 0 (col b r)) := by
  have h4 : b < 4 := by have h1 := trips_eq L.i; have h2 := k.isLt; have h3 : (L.i 1).val < 4 := (L.i 1).isLt; omega
  rw [View.readAt_eq_ld]
  refine View.ld_unit_apply_of _ _ _ _ _ _ fun a => ?_
  have e := congrFun (k0_off6_eq L.i k) a
  match a with
  | ⟨0, _⟩ => exact (congrArg (· + 0) e.symm)
  | ⟨1, _⟩ => exact (congrArg (· + 0) e.symm)
  | ⟨2, _⟩ => refine Eq.trans ?_ (congrArg (· + r.val) e.symm); show (col b r).val = 1024 * (L.i 1).val + 1024 * k.val + 1024 + r.val; rw [col_val h4]; omega

/-- One block's probabilities. -/
def bp (L : Lp) (k : Fin (k0_t1_loop L.i).trips) : FVec Ideal S1024x1024 .f32 :=
  k0_pay25 L.v5 L.v22 (L.arg13.view.readAt (Elt Ideal) (Rect.unit (s := S4096x128) (k0_off5 L.i k) S1024x128.size (k0_off5_inb L.i k)).toLoadRect L.X13)
    (L.arg6.view.readAt (Elt Ideal) (Rect.unit (s := S1x1x4096) (k0_off6 L.i k) S1x1x1024.size (k0_off6_inb L.i k)).toLoadRect L.X6)

/-- One block of the scores' gradient. -/
def bds (L : Lp) (k : Fin (k0_t1_loop L.i).trips) : FVec Ideal S1024x1024 .f32 :=
  k0_pay26 L.v5 L.v10 L.v22 (L.arg13.view.readAt (Elt Ideal) (Rect.unit (s := S4096x128) (k0_off5 L.i k) S1024x128.size (k0_off5_inb L.i k)).toLoadRect L.X13)
    (L.arg6.view.readAt (Elt Ideal) (Rect.unit (s := S1x1x4096) (k0_off6 L.i k) S1x1x1024.size (k0_off6_inb L.i k)).toLoadRect L.X6)
    (L.arg15.view.readAt (Elt Ideal) (Rect.unit (s := S4096x128) (k0_off5 L.i k) S1024x128.size (k0_off5_inb L.i k)).toLoadRect L.X15)
    (L.arg17.view.readAt (Elt Ideal) (Rect.unit (s := S1x4096) (k0_off7 L.i k) S1x1024.size (k0_off7_inb L.i k)).toLoadRect L.X17)

theorem bp_at {cg : Fin 1024 → EReal} (hg : ∀ r c, L.v22 (ix2 r c) = cg r) (k : Fin (k0_t1_loop L.i).trips) (r c : Fin 1024) :
    bp L k (ix2 r c) = L.p cg r (col ((L.i 1).val + 1 + k.val) c) := by
  rw [bp, pay25_at, hg, lane_at _ _ _ _ _ rfl]
  simp only [rows_at _ _ _ _ _ _ rfl]
  rfl

theorem bds_at {cg : Fin 1024 → EReal} (hg : ∀ r c, L.v22 (ix2 r c) = cg r) (k : Fin (k0_t1_loop L.i).trips) (r c : Fin 1024) :
    bds L k (ix2 r c) = L.ds cg r (col ((L.i 1).val + 1 + k.val) c) := by
  rw [bds, pay26_at, row_at _ _ _ _ _ rfl]
  refine congrArg₂ (· * ·) (bp_at hg k r c) ?_
  simp only [rows_at _ _ _ _ _ _ rfl]
  rfl

theorem st_zero : L.st 0 = (L.init, [], []) := by
  unfold st
  rw [st_k0_t1.eq_1]

theorem st_succ (k : Fin (k0_t1_loop L.i).trips) :
    L.st (k.val + 1) =
      (((fun j => (L.st k.val).1.1 j + matmul (φ₁ := .bf16) (φ₂ := .bf16) dot_S128x1024_S1024x1024_S128x1024_1_1_0_0_n_n none
            (L.arg14.view.readAt (Elt Ideal) (Rect.unit (s := S128x4096) (k0_off8 L.i k) S128x1024.size (k0_off8_inb L.i k)).toLoadRect L.X14)
            (bds L k : FVec Ideal S1024x1024 .bf16) (constant S128x1024 .f32 0x00000000#32) j),
        (fun j => (L.st k.val).1.2.1 j + matmul (φ₁ := .bf16) (φ₂ := .bf16) dot_S128x1024_S1024x1024_S128x1024_1_1_0_0_n_n none
            (L.arg16.view.readAt (Elt Ideal) (Rect.unit (s := S128x4096) (k0_off8 L.i k) S128x1024.size (k0_off8_inb L.i k)).toLoadRect L.X16)
            (bp L k : FVec Ideal S1024x1024 .bf16) (constant S128x1024 .f32 0x00000000#32) j),
        k0_pay61 (L.st k.val).1.2.2 (bds L k)),
       ⟨Rect.unit (k0_off6 L.i k) S1x1x1024.size (k0_off6_inb L.i k), k0_pay60 (bds L k)
          (L.arg12.view.readAt (Elt Ideal) (Rect.unit (s := S1x1x4096) (k0_off6 L.i k) S1x1x1024.size (k0_off6_inb L.i k)).toLoadRect
            (L.arg12.view.writes (Elt Ideal) L.G12 (L.st k.val).2.1))⟩ :: (L.st k.val).2.1,
       ⟨Rect.unit (k0_off8 L.i k) S128x1024.size (k0_off8_inb L.i k), shapeCast S128x1024 (fun j =>
          (L.arg18.view.readAt (Elt Ideal) (Rect.unit (s := S128x4096) (k0_off8 L.i k) S128x1024.size (k0_off8_inb L.i k)).toLoadRect
            (L.arg18.view.writes (Elt Ideal) L.G18 (L.st k.val).2.2)) j
          + matmul (φ₁ := .bf16) (φ₂ := .bf16) dot_S128x1024_S1024x1024_S128x1024_1_0_0_1_n_n none L.v7 (bds L k : FVec Ideal S1024x1024 .bf16)
              (constant S128x1024 .f32 0x00000000#32) j * sc) shapeCasts_S128x1024_S128x1024⟩ :: (L.st k.val).2.2) := by
  refine (st_k0_t1_succ ..).trans ?_
  unfold tripR_k0_t1 tripL_k0_t1 trip_k0_t1
  dsimp only [List.cons_append, List.nil_append]
  rfl

/-- What the loop has carried to trip `n`. -/
theorem carry {cg : Fin 1024 → EReal} (hg : ∀ r c, L.v22 (ix2 r c) = cg r) (n : ℕ) (hn : n ≤ (k0_t1_loop L.i).trips) :
    (∀ (d : Fin 128) (r : Fin 1024), (L.st n).1.1 (ix2 d r) = L.init.1 (ix2 d r)
        + ∑ k ∈ Finset.range n, ∑ c : Fin 1024, L.QT d (col ((L.i 1).val + 1 + k) c) * L.ds cg r (col ((L.i 1).val + 1 + k) c))
    ∧ (∀ (d : Fin 128) (r : Fin 1024), (L.st n).1.2.1 (ix2 d r) = L.init.2.1 (ix2 d r)
        + ∑ k ∈ Finset.range n, ∑ c : Fin 1024, L.DYT d (col ((L.i 1).val + 1 + k) c) * L.p cg r (col ((L.i 1).val + 1 + k) c))
    ∧ (∀ (r : Fin 1024) (l : Fin 128), (L.st n).1.2.2 (ix2 r l) = L.init.2.2 (ix2 r l)
        + ∑ k ∈ Finset.range n, ∑ m : Fin 8, L.ds cg r (col ((L.i 1).val + 1 + k) ⟨128 * m.val + l.val, by omega⟩)) := by
  induction n with
  | zero => simp [st_zero]
  | succ n ih =>
    obtain ⟨h1, h2, h3⟩ := ih (by omega)
    have e := st_succ (L := L) ⟨n, hn⟩
    refine ⟨fun d r => ?_, fun d r => ?_, fun r l => ?_⟩
    · refine (congrFun (congrArg (fun z => z.1.1) e) (ix2 d r)).trans ?_
      show (L.st n).1.1 (ix2 d r) + _ = _
      rw [h1, mm_cols, Finset.sum_range_succ, add_assoc]
      simp only [cols_at _ _ _ _ _ _ rfl, bds_at hg]
      rfl
    · refine (congrFun (congrArg (fun z => z.1.2.1) e) (ix2 d r)).trans ?_
      show (L.st n).1.2.1 (ix2 d r) + _ = _
      rw [h2, mm_cols, Finset.sum_range_succ, add_assoc]
      simp only [cols_at _ _ _ _ _ _ rfl, bp_at hg]
      rfl
    · refine (congrFun (congrArg (fun z => z.1.2.2) e) (ix2 r l)).trans ?_
      show k0_pay61 (L.st n).1.2.2 (bds L ⟨n, hn⟩) (ix2 r l) = _
      rw [pay61_at, h3, Finset.sum_range_succ, add_assoc]
      unfold fold8
      simp only [bds_at hg]

/-- What the buffer of the queries' row gradient reads before trip `n`. -/
theorem row12 {cg : Fin 1024 → EReal} (hg : ∀ r c, L.v22 (ix2 r c) = cg r) (n : ℕ) (hn : n ≤ (k0_t1_loop L.i).trips) (x : Fin 4096) :
    L.arg12.view.read (Elt Ideal) (L.arg12.view.writes (Elt Ideal) L.G12 (L.st n).2.1) (ix3 0 0 x)
      = L.arg12.view.read (Elt Ideal) L.G12 (ix3 0 0 x)
        + if 1024 * ((L.i 1).val + 1) ≤ x.val ∧ x.val < 1024 * ((L.i 1).val + 1 + n) then ∑ r : Fin 1024, L.ds cg r x else 0 := by
  induction n with
  | zero =>
    rw [if_neg (by omega), add_zero, st_zero]; rfl
  | succ n ih =>
    have h4 := trips_eq L.i
    have hi : (L.i 1).val < 4 := (L.i 1).isLt
    rw [congrArg (fun z => z.2.1) (st_succ (L := L) ⟨n, hn⟩)]
    dsimp only
    by_cases hx : 1024 * ((L.i 1).val + 1 + n) ≤ x.val ∧ x.val < 1024 * ((L.i 1).val + 1 + (n + 1))
    · have hc : x = col ((L.i 1).val + 1 + n) ⟨x.val - 1024 * ((L.i 1).val + 1 + n), by omega⟩ :=
        Fin.ext (by rw [col_val (by omega)]; show x.val = _ + (x.val - _); omega)
      refine (put_row _ _ (k0_off6_eq L.i ⟨n, hn⟩) _ _ _ x ⟨x.val - 1024 * ((L.i 1).val + 1 + n), by omega⟩
        (by show x.val = 1024 * (L.i 1).val + 1024 * n + 1024 + (x.val - 1024 * ((L.i 1).val + 1 + n)); omega)).trans ?_
      rw [pay60_at, lane_at _ _ _ _ _ rfl]
      simp only [bds_at hg]
      rw [← hc, ih (by omega), if_neg (by omega), if_pos (by omega), add_zero]
    · refine (skip_row _ _ (k0_off6_eq L.i ⟨n, hn⟩) _ _ _ x
        (by show x.val < 1024 * (L.i 1).val + 1024 * n + 1024 ∨ 1024 * (L.i 1).val + 1024 * n + 1024 + 1024 ≤ x.val; omega)).trans ?_
      rw [ih (by omega)]
      congr 1
      exact if_congr (by omega) rfl rfl

/-- What the buffer of the queries' gradient reads before trip `n`. -/
theorem acc18 {cg : Fin 1024 → EReal} (hg : ∀ r c, L.v22 (ix2 r c) = cg r) (n : ℕ) (hn : n ≤ (k0_t1_loop L.i).trips)
    (d : Fin 128) (x : Fin 4096) :
    L.arg18.view.read (Elt Ideal) (L.arg18.view.writes (Elt Ideal) L.G18 (L.st n).2.2) (ix2 d x)
      = L.arg18.view.read (Elt Ideal) L.G18 (ix2 d x)
        + if 1024 * ((L.i 1).val + 1) ≤ x.val ∧ x.val < 1024 * ((L.i 1).val + 1 + n)
          then (∑ r : Fin 1024, L.v7 (ix2 d r) * L.ds cg r x) * sc else 0 := by
  induction n with
  | zero =>
    rw [if_neg (by omega), add_zero, st_zero]; rfl
  | succ n ih =>
    have h4 := trips_eq L.i
    have hi : (L.i 1).val < 4 := (L.i 1).isLt
    rw [congrArg (fun z => z.2.2) (st_succ (L := L) ⟨n, hn⟩)]
    dsimp only
    by_cases hx : 1024 * ((L.i 1).val + 1 + n) ≤ x.val ∧ x.val < 1024 * ((L.i 1).val + 1 + (n + 1))
    · have hc : x = col ((L.i 1).val + 1 + n) ⟨x.val - 1024 * ((L.i 1).val + 1 + n), by omega⟩ :=
        Fin.ext (by rw [col_val (by omega)]; show x.val = _ + (x.val - _); omega)
      refine (put_cols _ _ (k0_off8_eq L.i ⟨n, hn⟩) _ _ _ d x ⟨x.val - 1024 * ((L.i 1).val + 1 + n), by omega⟩
        (by show x.val = 1024 * (L.i 1).val + 1024 * n + 1024 + (x.val - 1024 * ((L.i 1).val + 1 + n)); omega)).trans ?_
      refine (congrFun (shapeCast_self (s := S128x1024) _ _) _).trans ?_
      dsimp only
      rw [mm_plain, cols_at _ _ _ _ _ _ rfl]
      simp only [bds_at hg]
      rw [← hc, ih (by omega), if_neg (by omega), if_pos (by omega), add_zero]
    · refine (skip_cols _ _ (k0_off8_eq L.i ⟨n, hn⟩) _ _ _ d x
        (by show x.val < 1024 * (L.i 1).val + 1024 * n + 1024 ∨ 1024 * (L.i 1).val + 1024 * n + 1024 + 1024 ≤ x.val; omega)).trans ?_
      rw [ih (by omega)]
      congr 1
      exact if_congr (by omega) rfl rfl

end Lp

end Cert.KernelIdeal.Pay

end
-- ==== Proof.TailPieces.lean ====
module

public import proofs.«01_k».proof.Proof.Body
public import proofs.«01_k».proof.Proof.LoopValue

/-! What one grid point writes, over the extended reals: the diagonal block's values and the loop's, put together. -/

@[expose] public section

set_option maxRecDepth 16384

noncomputable section

namespace Cert.KernelIdeal.Pay

open Idealize.ShloMosaic hiding ix1 ix2 ix3
open Idealize.ShloMosaic.ValueIdx
open Cert.KernelIdeal Cert.KernelIdeal.Gen Cert.KernelIdeal.Hand

/-- The remainder loop runs no trip. -/
theorem rest_none (𝒱 : Variants) (c : Dev nD) (bd : Option 𝒱.V) (i : grid0.Coords) (arg2 : Memref sig .tc .vmem S4096x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S4096x128 .f32) (harg5 : arg5.IsWhole) (arg6 : Memref sig .tc .vmem S1x1x4096 .f32) (harg6 : arg6.IsWhole) (arg7 : Memref sig .tc .vmem S4096x128 .f32) (harg7 : arg7.IsWhole) (arg8 : Memref sig .tc .vmem S1024x128 .f32) (harg8 : arg8.IsWhole) (arg9 : Memref sig .tc .hbm S4096x7680 .bf16) (harg9 : arg9.IsWhole) (arg10 : Memref sig .tc .vmem S1024x384 .bf16) (harg10 : arg10.IsWhole) (arg11 : Memref sig .tc .vmem S1x1x1024 .f32) (harg11 : arg11.IsWhole) (arg12 : Memref sig .tc .vmem S1x1x4096 .f32) (harg12 : arg12.IsWhole) (arg13 : Memref sig .tc .vmem S4096x128 .bf16) (harg13 : arg13.IsWhole) (arg14 : Memref sig .tc .vmem S128x4096 .bf16) (harg14 : arg14.IsWhole) (arg15 : Memref sig .tc .vmem S4096x128 .bf16) (harg15 : arg15.IsWhole) (arg16 : Memref sig .tc .vmem S128x4096 .bf16) (harg16 : arg16.IsWhole) (arg17 : Memref sig .tc .vmem S1x4096 .f32) (harg17 : arg17.IsWhole) (arg18 : Memref sig .tc .vmem S128x4096 .f32) (harg18 : arg18.IsWhole) (arg1 : BitVec 32) (v5 : FVec Ideal S1024x128 .bf16) (v7 : FVec Ideal S128x1024 .bf16) (v10 : FVec Ideal S1024x128 .bf16) (v22 : FVec Ideal S1024x1024 .f32) (v24 : FVec Ideal S1024x128 .f32) (v49 : FVec Ideal S1024x1024 .f32) (v55 : FVec Ideal S128x1024 .f32) (v59 : FVec Ideal S128x1024 .f32) (v80 : FVec Ideal S1024x128 .f32) (v96 : BitVec 32)
    (X6 : BufTy.Contents (Elt Ideal) arg6.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (X17 : BufTy.Contents (Elt Ideal) arg17.view.ty) (X12 : BufTy.Contents (Elt Ideal) arg12.view.ty) (X18 : BufTy.Contents (Elt Ideal) arg18.view.ty) (init : FVec Ideal S128x1024 .f32 × FVec Ideal S128x1024 .f32 × FVec Ideal S1024x128 .f32) (n : ℕ) (hn : n = 0) :
    st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v5 v7 v10 v22 v24 v49 v55 v59 v80 v96 X6 X13 X14 X15 X16 X17 X12 X18 init n = (init, [], []) := by
  subst hn
  rw [st_k0_t2.eq_1]

/-- The remainder loop's trip count. -/
theorem trips2_eq : ∀ i : grid0.Coords, (k0_t2_loop i).trips = 0 := by decide +kernel

/-- The contents that the rest of one grid point starts from. -/
structure Tl where
  c : Dev nD
  i : grid0.Coords
  arg2 : Memref sig .tc .vmem S4096x128 .f32
  harg2 : arg2.IsWhole
  arg3 : Memref sig .tc .vmem S1024x128 .f32
  harg3 : arg3.IsWhole
  arg4 : Memref sig .tc .vmem S1024x128 .f32
  harg4 : arg4.IsWhole
  arg5 : Memref sig .tc .vmem S4096x128 .f32
  harg5 : arg5.IsWhole
  arg6 : Memref sig .tc .vmem S1x1x4096 .f32
  harg6 : arg6.IsWhole
  arg7 : Memref sig .tc .vmem S4096x128 .f32
  harg7 : arg7.IsWhole
  arg8 : Memref sig .tc .vmem S1024x128 .f32
  harg8 : arg8.IsWhole
  arg9 : Memref sig .tc .hbm S4096x7680 .bf16
  harg9 : arg9.IsWhole
  arg10 : Memref sig .tc .vmem S1024x384 .bf16
  harg10 : arg10.IsWhole
  arg11 : Memref sig .tc .vmem S1x1x1024 .f32
  harg11 : arg11.IsWhole
  arg12 : Memref sig .tc .vmem S1x1x4096 .f32
  harg12 : arg12.IsWhole
  arg13 : Memref sig .tc .vmem S4096x128 .bf16
  harg13 : arg13.IsWhole
  arg14 : Memref sig .tc .vmem S128x4096 .bf16
  harg14 : arg14.IsWhole
  arg15 : Memref sig .tc .vmem S4096x128 .bf16
  harg15 : arg15.IsWhole
  arg16 : Memref sig .tc .vmem S128x4096 .bf16
  harg16 : arg16.IsWhole
  arg17 : Memref sig .tc .vmem S1x4096 .f32
  harg17 : arg17.IsWhole
  arg18 : Memref sig .tc .vmem S128x4096 .f32
  harg18 : arg18.IsWhole
  x3 : BufTy.Contents (Elt Ideal) arg3.view.ty
  x4 : BufTy.Contents (Elt Ideal) arg4.view.ty
  x6 : BufTy.Contents (Elt Ideal) arg6.view.ty
  x8 : BufTy.Contents (Elt Ideal) arg8.view.ty
  f12 : BufTy.Contents (Elt Ideal) arg12.view.ty
  x13 : BufTy.Contents (Elt Ideal) arg13.view.ty
  x14 : BufTy.Contents (Elt Ideal) arg14.view.ty
  x15 : BufTy.Contents (Elt Ideal) arg15.view.ty
  x16 : BufTy.Contents (Elt Ideal) arg16.view.ty
  x17 : BufTy.Contents (Elt Ideal) arg17.view.ty
  f18 : BufTy.Contents (Elt Ideal) arg18.view.ty

namespace Tl

variable (T : Tl)

/-- The blocks the point loads. -/
def k := T.arg3.view.readAt (Elt Ideal) (Rect.unit (s := S1024x128) ![0, 0] S1024x128.size inb_S1024x128_S1024x128_0_0).toLoadRect T.x3
def v := T.arg4.view.readAt (Elt Ideal) (Rect.unit (s := S1024x128) ![0, 0] S1024x128.size inb_S1024x128_S1024x128_0_0).toLoadRect T.x4
def g := T.arg8.view.readAt (Elt Ideal) (Rect.unit (s := S1024x128) ![0, 0] S1024x128.size inb_S1024x128_S1024x128_0_0).toLoadRect T.x8
def q := T.arg13.view.readAt (Elt Ideal) (Rect.unit (s := S4096x128) (k0_off1 T.i) S1024x128.size (k0_off1_inb T.i)).toLoadRect T.x13
def e := T.arg6.view.readAt (Elt Ideal) (Rect.unit (s := S1x1x4096) (k0_off2 T.i) S1x1x1024.size (k0_off2_inb T.i)).toLoadRect T.x6
def dy := T.arg15.view.readAt (Elt Ideal) (Rect.unit (s := S4096x128) (k0_off1 T.i) S1024x128.size (k0_off1_inb T.i)).toLoadRect T.x15
def dl := T.arg17.view.readAt (Elt Ideal) (Rect.unit (s := S1x4096) (k0_off3 T.i) S1x1024.size (k0_off3_inb T.i)).toLoadRect T.x17
def qt := T.arg14.view.readAt (Elt Ideal) (Rect.unit (s := S128x4096) (k0_off4 T.i) S128x1024.size (k0_off4_inb T.i)).toLoadRect T.x14
def dyt := T.arg16.view.readAt (Elt Ideal) (Rect.unit (s := S128x4096) (k0_off4 T.i) S128x1024.size (k0_off4_inb T.i)).toLoadRect T.x16
def o12 := T.arg12.view.readAt (Elt Ideal) (Rect.unit (s := S1x1x4096) (k0_off2 T.i) S1x1x1024.size (k0_off2_inb T.i)).toLoadRect T.f12
def o18 := T.arg18.view.readAt (Elt Ideal) (Rect.unit (s := S128x4096) (k0_off4 T.i) S128x1024.size (k0_off4_inb T.i)).toLoadRect T.f18

/-- The constant that stands for masked scores. -/
abbrev mask : EReal := Named.named (F := Ideal) κ "mask" (φ := .f32) 0xF149F2CA#32

/-- The scores of the diagonal block. -/
def s : FVec Ideal S1024x1024 .f32 := k0_pay49 T.i T.k T.g T.q T.e

def pc12 : View.Piece (Elt Ideal) S1x1x4096 .f32 :=
  ⟨Rect.unit (k0_off2 T.i) S1x1x1024.size (k0_off2_inb T.i), k0_pay57 (k0_pay45 T.v) T.s k0_pay50 mask T.dy T.dl T.o12⟩

def pc18 : View.Piece (Elt Ideal) S128x4096 .f32 :=
  ⟨Rect.unit (k0_off4 T.i) S128x1024.size (k0_off4_inb T.i), k0_pay56 (k0_pay44 T.k) (k0_pay45 T.v) T.s k0_pay50 mask T.dy T.dl T.o18⟩

/-- What the loop starts from. -/
def lp : Lp :=
  { 𝒱 := Variants.none, c := T.c, bd := none, i := T.i,
    arg2 := T.arg2, harg2 := T.harg2, arg3 := T.arg3, harg3 := T.harg3, arg4 := T.arg4, harg4 := T.harg4, arg5 := T.arg5, harg5 := T.harg5, arg6 := T.arg6, harg6 := T.harg6, arg7 := T.arg7, harg7 := T.harg7, arg8 := T.arg8, harg8 := T.harg8, arg9 := T.arg9, harg9 := T.harg9, arg10 := T.arg10, harg10 := T.harg10, arg11 := T.arg11, harg11 := T.harg11, arg12 := T.arg12, harg12 := T.harg12, arg13 := T.arg13, harg13 := T.harg13, arg14 := T.arg14, harg14 := T.harg14, arg15 := T.arg15, harg15 := T.harg15, arg16 := T.arg16, harg16 := T.harg16, arg17 := T.arg17, harg17 := T.harg17, arg18 := T.arg18, harg18 := T.harg18,
    arg1 := BitVec.ofNat 32 (T.i 1).val, v5 := k0_pay43 T.k, v7 := k0_pay44 T.k, v10 := k0_pay45 T.v, v22 := k0_pay46 T.i T.g, v24 := k0_pay48,
    v49 := k0_pay52 (k0_pay45 T.v) T.s k0_pay50 mask T.dy T.dl, v55 := k0_pay54 k0_pay47 T.s k0_pay50 mask T.dyt,
    v59 := k0_pay55 (k0_pay45 T.v) k0_pay47 T.s k0_pay50 mask T.dy T.dl T.qt, v80 := k0_pay58 (k0_pay45 T.v) T.s k0_pay50 mask T.dy T.dl,
    v96 := tailRun.sl.v96 T.i,
    X6 := T.x6, X13 := T.x13, X14 := T.x14, X15 := T.x15, X16 := T.x16, X17 := T.x17,
    G12 := T.arg12.view.writes (Elt Ideal) T.f12 [T.pc12], G18 := T.arg18.view.writes (Elt Ideal) T.f18 [T.pc18],
    init := (k0_pay55 (k0_pay45 T.v) k0_pay47 T.s k0_pay50 mask T.dy T.dl T.qt, k0_pay54 k0_pay47 T.s k0_pay50 mask T.dyt,
      k0_pay59 k0_pay48 (k0_pay52 (k0_pay45 T.v) T.s k0_pay50 mask T.dy T.dl) (k0_pay58 (k0_pay45 T.v) T.s k0_pay50 mask T.dy T.dl)) }

/-- What the loop ends with. -/
def fin := T.lp.st (k0_t1_loop T.i).trips

theorem r0 : tailRun.sl.r T.i T.arg3 T.arg4 T.arg6 T.arg8 T.arg13 T.arg15 T.arg17 T.x3 T.x4 T.x6 T.x8 T.x13 T.x15 T.x17 = k0_pay52 (k0_pay45 T.v) T.s k0_pay50 mask T.dy T.dl := rfl
theorem r1 : tailRun.sl.r_1 T.i T.arg3 T.arg4 T.arg6 T.arg8 T.arg13 T.arg16 T.x3 T.x4 T.x6 T.x8 T.x13 T.x16 = k0_pay54 k0_pay47 T.s k0_pay50 mask T.dyt := rfl
theorem r2 : tailRun.sl.r_2 T.i T.arg3 T.arg4 T.arg6 T.arg8 T.arg13 T.arg14 T.arg15 T.arg17 T.x3 T.x4 T.x6 T.x8 T.x13 T.x14 T.x15 T.x17 = k0_pay55 (k0_pay45 T.v) k0_pay47 T.s k0_pay50 mask T.dy T.dl T.qt := rfl
theorem r3 : tailRun.sl.r_3 T.i T.arg3 T.arg4 T.arg6 T.arg8 T.arg13 T.arg15 T.arg17 T.x3 T.x4 T.x6 T.x8 T.x13 T.x15 T.x17 = k0_pay58 (k0_pay45 T.v) T.s k0_pay50 mask T.dy T.dl := rfl
theorem tr : Scf.trips (Scalar.addi (BitVec.ofNat 32 (T.i 1).val) 1#32) (Scalar.addi (Scalar.addi (BitVec.ofNat 32 (T.i 1).val) 1#32)
    (Scalar.muli (Scalar.divsi (Scalar.subi 4#32 (Scalar.addi (BitVec.ofNat 32 (T.i 1).val) 1#32)) 1#32) 1#32)) 1#32
    = (k0_t1_loop T.i).trips := rfl

/-- The pieces that one point writes. -/
def run := tailRun (F := Ideal) T.c T.i T.arg2 T.harg2 T.arg3 T.harg3 T.arg4 T.harg4 T.arg5 T.harg5 T.arg6 T.harg6 T.arg7 T.harg7 T.arg8 T.harg8 T.arg9 T.harg9 T.arg10 T.harg10 T.arg11 T.harg11 T.arg12 T.harg12 T.arg13 T.harg13 T.arg14 T.harg14 T.arg15 T.harg15 T.arg16 T.harg16 T.arg17 T.harg17 T.arg18 T.harg18 T.x3 T.x4 T.x6 T.x8 T.f12 T.x13 T.x14 T.x15 T.x16 T.x17 T.f18

theorem pieces10 : T.run.1 =
    [⟨Rect.unit ![0, 256] S1024x128.size inb_S1024x384_S1024x128_0_256, k0_pay66 T.fin.1.2.1⟩,
     ⟨Rect.unit ![0, 128] S1024x128.size inb_S1024x384_S1024x128_0_128, k0_pay65 T.fin.1.1⟩,
     ⟨Rect.unit ![0, 0] S1024x128.size inb_S1024x384_S1024x128_0_0,
       k0_pay64 (T.arg18.view.readAt (Elt Ideal) (Rect.unit (s := S128x4096) (k0_off4 T.i) S128x1024.size (k0_off4_inb T.i)).toLoadRect
         (T.arg18.view.writes (Elt Ideal) T.f18 (T.fin.2.2 ++ [T.pc18])))⟩] := by
  unfold run tailRun
  dsimp only
  unfold tailRun.sl.v107
  rw [rest_none (hn := trips2_eq T.i)]
  dsimp only
  rw [r0 T, r1 T, r2 T, r3 T, tr T]
  simp only [List.nil_append, fin, Lp.st, lp, pc12, pc18, s, k, v, g, q, e, dy, dl, qt, dyt, o12, o18, mask]

theorem pieces11 : T.run.2.1 =
    [⟨Rect.unit ![0, 0, 0] S1x1x1024.size inb_S1x1x1024_S1x1x1024_0_0_0, k0_pay1 (k0_pay67 T.fin.1.2.2)⟩] := by
  unfold run tailRun
  dsimp only
  unfold tailRun.sl.r_4
  rw [rest_none (hn := trips2_eq T.i)]
  dsimp only
  rw [r0 T, r1 T, r2 T, r3 T, tr T]
  simp only [List.nil_append, fin, Lp.st, lp, pc12, pc18, s, k, v, g, q, e, dy, dl, qt, dyt, o12, o18, mask]

theorem pieces12 : T.run.2.2.1 = T.fin.2.1 ++ [T.pc12] := by
  unfold run tailRun
  dsimp only
  rw [rest_none (hn := trips2_eq T.i)]
  dsimp only
  rw [r0 T, r1 T, r2 T, r3 T, tr T]
  simp only [List.nil_append, fin, Lp.st, lp, pc12, pc18, s, k, v, g, q, e, dy, dl, qt, dyt, o12, o18, mask]

theorem pieces18 : T.run.2.2.2.1 = T.fin.2.2 ++ [T.pc18] := by
  unfold run tailRun
  dsimp only
  rw [rest_none (hn := trips2_eq T.i)]
  dsimp only
  rw [r0 T, r1 T, r2 T, r3 T, tr T]
  simp only [List.nil_append, fin, Lp.st, lp, pc12, pc18, s, k, v, g, q, e, dy, dl, qt, dyt, o12, o18, mask]

end Tl

end Cert.KernelIdeal.Pay

end
-- ==== Proof.TailValue.lean ====
module

public import proofs.«01_k».proof.Proof.TailPieces

/-! What one grid point writes, in terms of the probabilities and the scores' gradient over all keys and queries of one head. -/

@[expose] public section

set_option maxRecDepth 16384

noncomputable section

namespace Cert.KernelIdeal.Pay

open Idealize.ShloMosaic hiding ix1 ix2 ix3
open Idealize.ShloMosaic.ValueIdx
open Cert.KernelIdeal Cert.KernelIdeal.Gen Cert.KernelIdeal.Hand

/-- One head: the scaled queries, the keys, the values, the gradient of the outputs, the row terms, the rows' dot products and the keys' gates. -/
structure Hd where
  Q : Fin 4096 → Fin 128 → EReal
  K : Fin 4096 → Fin 128 → EReal
  V : Fin 4096 → Fin 128 → EReal
  DY : Fin 4096 → Fin 128 → EReal
  E : Fin 4096 → EReal
  DL : Fin 4096 → EReal
  CG : Fin 4096 → EReal

namespace Hd

/-- The probability of key `g` at query `x`; a key later than the query has none. -/
def p (H : Hd) (g x : Fin 4096) : EReal :=
  ex (if g.val ≤ x.val then (∑ d : Fin 128, H.K g d * H.Q x d) + H.E x - H.CG g else ⊥)

/-- The scores' gradient. -/
def ds (H : Hd) (g x : Fin 4096) : EReal :=
  H.p g x * ((∑ d : Fin 128, H.V g d * H.DY x d) - H.DL x)

theorem p_late (H : Hd) {g x : Fin 4096} (h : x.val < g.val) : H.p g x = 0 := by
  unfold p
  rw [if_neg (by omega)]
  exact Ideal.exp_bot

theorem ds_late (H : Hd) {g x : Fin 4096} (h : x.val < g.val) : H.ds g x = 0 := by
  unfold ds
  rw [p_late H h, zero_mul]

end Hd

/-- The queries' index, split into a block and a column of it. -/
theorem sum_blocks (f : Fin 4096 → EReal) : ∑ x : Fin 4096, f x = ∑ b ∈ Finset.range 4, ∑ c : Fin 1024, f (col b c) := by
  rw [← Fin.sum_univ_eq_sum_range (fun b => ∑ c : Fin 1024, f (col b c)) 4, ← Fintype.sum_prod_type' (fun (b : Fin 4) c => f (col b.val c)),
    ← Equiv.sum_comp (finProdFinEquiv (m := 4) (n := 1024)) f]
  refine Finset.sum_congr rfl fun y _ => congrArg f (Fin.ext ?_)
  rw [col_val y.1.isLt]
  show y.2.val + 1024 * y.1.val = _
  omega

/-- A sum over the blocks of which the first `j` give nothing. -/
theorem sum_from {f : ℕ → EReal} {j : ℕ} (hj : j < 4) (h : ∀ b < j, f b = 0) :
    ∑ b ∈ Finset.range 4, f b = f j + ∑ k ∈ Finset.range (3 - j), f (j + 1 + k) := by
  have e : ∑ b ∈ Finset.range 4, f b = f 0 + f 1 + f 2 + f 3 := by simp [Finset.sum_range_succ]
  rw [e]
  interval_cases j
  · simp [Finset.sum_range_succ, add_assoc]
  · simp [Finset.sum_range_succ, add_assoc, h 0]
  · simp [Finset.sum_range_succ, h 0, h 1]
  · simp [h 0, h 1, h 2]

/-- A block's columns, split into a lane and a group of lanes. -/
theorem sum_lanes (f : Fin 1024 → EReal) :
    ∑ l : Fin 128, ∑ m : Fin 8, f ⟨128 * m.val + l.val, by omega⟩ = ∑ c : Fin 1024, f c := by
  rw [Finset.sum_comm, ← Fintype.sum_prod_type' (fun (m : Fin 8) (l : Fin 128) => f ⟨128 * m.val + l.val, by omega⟩),
    ← Equiv.sum_comp (finProdFinEquiv (m := 8) (n := 128)) f]
  refine Finset.sum_congr rfl fun y _ => congrArg f (Fin.ext ?_)
  show 128 * y.1.val + y.2.val = y.2.val + 128 * y.1.val
  omega

namespace Tl

variable {T : Tl}

/-- The key block of the point. -/
abbrev j (T : Tl) : ℕ := (T.i 1).val

theorem j_lt : T.j < 4 := (T.i 1).isLt

/-- The point's contents are those of the head `H`. -/
structure Is (T : Tl) (H : Hd) : Prop where
  k : ∀ r d, T.arg3.view.read (Elt Ideal) T.x3 (ix2 r d) = H.K (col T.j r) d
  v : ∀ r d, T.arg4.view.read (Elt Ideal) T.x4 (ix2 r d) = H.V (col T.j r) d
  g : ∀ r, (∑ l : Fin 128, if l.val = (T.i 0).val then T.arg8.view.read (Elt Ideal) T.x8 (ix2 r l) else 0) = H.CG (col T.j r)
  q : ∀ x d, T.arg13.view.read (Elt Ideal) T.x13 (ix2 x d) = H.Q x d
  qt : ∀ d x, T.arg14.view.read (Elt Ideal) T.x14 (ix2 d x) = H.Q x d
  dy : ∀ x d, T.arg15.view.read (Elt Ideal) T.x15 (ix2 x d) = H.DY x d
  dyt : ∀ d x, T.arg16.view.read (Elt Ideal) T.x16 (ix2 d x) = H.DY x d
  e : ∀ x, T.arg6.view.read (Elt Ideal) T.x6 (ix3 0 0 x) = H.E x
  dl : ∀ x, T.arg17.view.read (Elt Ideal) T.x17 (ix2 0 x) = H.DL x

theorem mask_eq : Tl.mask = ⊥ := rfl

theorem rows_at {e : EltTy} (v : View sig .tc .vmem S4096x128 e) (f : v.ty.Contents (Elt Ideal)) (r : Fin 1024) (d : Fin 128) :
    v.readAt (Elt Ideal) (Rect.unit (s := S4096x128) (k0_off1 T.i) S1024x128.size (k0_off1_inb T.i)).toLoadRect f (ix2 r d)
      = v.read (Elt Ideal) f (ix2 (col T.j r) d) := by
  rw [View.readAt_eq_ld]
  refine View.ld_unit_apply_of _ _ _ _ _ _ fun a => ?_
  have e := congrFun (k0_off1_eq T.i) a
  match a with
  | ⟨0, _⟩ => refine Eq.trans ?_ (congrArg (· + r.val) e.symm); exact col_val j_lt r
  | ⟨1, _⟩ => refine Eq.trans ?_ (congrArg (· + d.val) e.symm); show d.val = 0 + d.val; omega

theorem cols_at {e : EltTy} (v : View sig .tc .vmem S128x4096 e) (f : v.ty.Contents (Elt Ideal)) (d : Fin 128) (r : Fin 1024) :
    v.readAt (Elt Ideal) (Rect.unit (s := S128x4096) (k0_off4 T.i) S128x1024.size (k0_off4_inb T.i)).toLoadRect f (ix2 d r)
      = v.read (Elt Ideal) f (ix2 d (col T.j r)) := by
  rw [View.readAt_eq_ld]
  refine View.ld_unit_apply_of _ _ _ _ _ _ fun a => ?_
  have e := congrFun (k0_off4_eq T.i) a
  match a with
  | ⟨0, _⟩ => refine Eq.trans ?_ (congrArg (· + d.val) e.symm); show d.val = 0 + d.val; omega
  | ⟨1, _⟩ => refine Eq.trans ?_ (congrArg (· + r.val) e.symm); exact col_val j_lt r

theorem row_at (v : View sig .tc .vmem S1x4096 .f32) (f : v.ty.Contents (Elt Ideal)) (r : Fin 1024) :
    v.readAt (Elt Ideal) (Rect.unit (s := S1x4096) (k0_off3 T.i) S1x1024.size (k0_off3_inb T.i)).toLoadRect f (ix2 0 r)
      = v.read (Elt Ideal) f (ix2 0 (col T.j r)) := by
  rw [View.readAt_eq_ld]
  refine View.ld_unit_apply_of _ _ _ _ _ _ fun a => ?_
  have e := congrFun (k0_off3_eq T.i) a
  match a with
  | ⟨0, _⟩ => exact (congrArg (· + 0) e.symm)
  | ⟨1, _⟩ => refine Eq.trans ?_ (congrArg (· + r.val) e.symm); exact col_val j_lt r

theorem lane_at (v : View sig .tc .vmem S1x1x4096 .f32) (f : v.ty.Contents (Elt Ideal)) (r : Fin 1024) :
    v.readAt (Elt Ideal) (Rect.unit (s := S1x1x4096) (k0_off2 T.i) S1x1x1024.size (k0_off2_inb T.i)).toLoadRect f (ix3 0 0 r)
      = v.read (Elt Ideal) f (ix3 0 0 (col T.j r)) := by
  rw [View.readAt_eq_ld]
  refine View.ld_unit_apply_of _ _ _ _ _ _ fun a => ?_
  have e := congrFun (k0_off2_eq T.i) a
  match a with
  | ⟨0, _⟩ => exact (congrArg (· + 0) e.symm)
  | ⟨1, _⟩ => exact (congrArg (· + 0) e.symm)
  | ⟨2, _⟩ => refine Eq.trans ?_ (congrArg (· + r.val) e.symm); exact col_val j_lt r

theorem whole_at (v : View sig .tc .vmem S1024x128 .f32) (f : v.ty.Contents (Elt Ideal)) (r : Fin 1024) (d : Fin 128) :
    v.readAt (Elt Ideal) (Rect.unit (s := S1024x128) ![0, 0] S1024x128.size inb_S1024x128_S1024x128_0_0).toLoadRect f (ix2 r d)
      = v.read (Elt Ideal) f (ix2 r d) := by
  rw [View.readAt_eq_ld]
  refine View.ld_unit_apply_of _ _ _ _ _ _ fun a => ?_
  match a with
  | ⟨0, _⟩ => show r.val = 0 + r.val; omega
  | ⟨1, _⟩ => show d.val = 0 + d.val; omega

variable {H : Hd}

theorem k_at (h : T.Is H) (r : Fin 1024) (d : Fin 128) : T.k (ix2 r d) = H.K (col T.j r) d := (whole_at _ _ r d).trans (h.k r d)
theorem v_at (h : T.Is H) (r : Fin 1024) (d : Fin 128) : T.v (ix2 r d) = H.V (col T.j r) d := (whole_at _ _ r d).trans (h.v r d)
theorem q_at (h : T.Is H) (r : Fin 1024) (d : Fin 128) : T.q (ix2 r d) = H.Q (col T.j r) d := (rows_at _ _ r d).trans (h.q _ d)
theorem dy_at (h : T.Is H) (r : Fin 1024) (d : Fin 128) : T.dy (ix2 r d) = H.DY (col T.j r) d := (rows_at _ _ r d).trans (h.dy _ d)
theorem qt_at (h : T.Is H) (d : Fin 128) (r : Fin 1024) : T.qt (ix2 d r) = H.Q (col T.j r) d := (cols_at _ _ d r).trans (h.qt d _)
theorem dyt_at (h : T.Is H) (d : Fin 128) (r : Fin 1024) : T.dyt (ix2 d r) = H.DY (col T.j r) d := (cols_at _ _ d r).trans (h.dyt d _)
theorem e_at (h : T.Is H) (r : Fin 1024) : T.e (ix3 0 0 r) = H.E (col T.j r) := (lane_at _ _ r).trans (h.e _)
theorem dl_at (h : T.Is H) (r : Fin 1024) : T.dl (ix2 0 r) = H.DL (col T.j r) := (row_at _ _ r).trans (h.dl _)

theorem gate_at (h : T.Is H) (r c : Fin 1024) : k0_pay46 T.i T.g (ix2 r c) = H.CG (col T.j r) := by
  rw [pay46_at, ← h.g r]
  exact Finset.sum_congr rfl fun l _ => if_congr Iff.rfl (whole_at _ _ r l) rfl

/-- The diagonal block's probabilities. -/
theorem p_diag (h : T.Is H) (r c : Fin 1024) : k0_pay51 T.s k0_pay50 mask (ix2 r c) = H.p (col T.j r) (col T.j c) := by
  rw [pay51_at]
  unfold Hd.p
  have hs : T.s (ix2 r c) = (∑ d : Fin 128, H.K (col T.j r) d * H.Q (col T.j c) d) + H.E (col T.j c) - H.CG (col T.j r) := by
    unfold s
    rw [pay49_at, gate_at h, e_at h]
    congr 2
    exact Finset.sum_congr rfl fun d _ => by rw [pay43_at, k_at h, q_at h]
  rw [hs, mask_eq]
  refine congrArg ex (if_congr ?_ rfl rfl)
  rw [col_val j_lt, col_val j_lt]
  omega

/-- The diagonal block of the scores' gradient. -/
theorem ds_diag (h : T.Is H) (r c : Fin 1024) :
    k0_pay52 (k0_pay45 T.v) T.s k0_pay50 mask T.dy T.dl (ix2 r c) = H.ds (col T.j r) (col T.j c) := by
  rw [pay52_at, p_diag h, dl_at h]
  unfold Hd.ds
  congr 2
  exact Finset.sum_congr rfl fun d _ => by rw [pay45_at, v_at h, dy_at h]

/-- The later blocks' probabilities. -/
theorem p_off (h : T.Is H) (r : Fin 1024) {x : Fin 4096} (hx : 1024 * (T.j + 1) ≤ x.val) :
    T.lp.p (fun r => H.CG (col T.j r)) r x = H.p (col T.j r) x := by
  have := r.isLt
  unfold Hd.p
  rw [if_pos (by rw [col_val j_lt]; omega)]
  refine congrArg ex ?_
  refine congrArg₂ (fun a b : EReal => a + b - _) (Finset.sum_congr rfl fun d _ => ?_) (h.e x)
  exact congrArg₂ (fun a b : EReal => a * b) ((pay43_at T.k _).trans (k_at h r d)) (h.q x d)

/-- The later blocks of the scores' gradient. -/
theorem ds_off (h : T.Is H) (r : Fin 1024) {x : Fin 4096} (hx : 1024 * (T.j + 1) ≤ x.val) :
    T.lp.ds (fun r => H.CG (col T.j r)) r x = H.ds (col T.j r) x := by
  refine congrArg₂ (fun a b : EReal => a * b) (p_off h r hx) ?_
  refine congrArg₂ (fun a b : EReal => a - b) (Finset.sum_congr rfl fun d _ => ?_) (h.dl x)
  exact congrArg₂ (fun a b : EReal => a * b) ((pay45_at T.v _).trans (v_at h r d)) (h.dy x d)

theorem off_le {k : ℕ} (hk : T.j + 1 + k < 4) (c : Fin 1024) : 1024 * (T.j + 1) ≤ (col (T.j + 1 + k) c).val := by
  rw [col_val hk]
  omega

theorem hg (h : T.Is H) (r c : Fin 1024) : T.lp.v22 (ix2 r c) = H.CG (col T.j r) := gate_at h r c

theorem trips_le : (k0_t1_loop T.i).trips ≤ (k0_t1_loop T.lp.i).trips := le_of_eq rfl

theorem lp_G12 : T.lp.G12 = T.arg12.view.writes (Elt Ideal) T.f12 [T.pc12] := by
  simp only [lp]

theorem lp_G18 : T.lp.G18 = T.arg18.view.writes (Elt Ideal) T.f18 [T.pc18] := by
  simp only [lp]

/-- What the loop adds to the queries' row gradient. -/
theorem row_loop (h : T.Is H) (x : Fin 4096) :
    T.arg12.view.read (Elt Ideal) (T.arg12.view.writes (Elt Ideal) (T.arg12.view.writes (Elt Ideal) T.f12 [T.pc12]) T.fin.2.1) (ix3 0 0 x)
      = T.arg12.view.read (Elt Ideal) (T.arg12.view.writes (Elt Ideal) T.f12 [T.pc12]) (ix3 0 0 x)
        + (if 1024 * (T.j + 1) ≤ x.val ∧ x.val < 1024 * (T.j + 1 + (k0_t1_loop T.i).trips)
            then ∑ r : Fin 1024, T.lp.ds (fun r => H.CG (col T.j r)) r x else 0) := by
  have e := Lp.row12 (L := T.lp) (hg h) (k0_t1_loop T.i).trips trips_le x
  rw [lp_G12] at e
  exact e

/-- What the loop adds to the sum of the queries' gradient. -/
theorem acc_loop (h : T.Is H) (d : Fin 128) (x : Fin 4096) :
    T.arg18.view.read (Elt Ideal) (T.arg18.view.writes (Elt Ideal) (T.arg18.view.writes (Elt Ideal) T.f18 [T.pc18]) T.fin.2.2) (ix2 d x)
      = T.arg18.view.read (Elt Ideal) (T.arg18.view.writes (Elt Ideal) T.f18 [T.pc18]) (ix2 d x)
        + (if 1024 * (T.j + 1) ≤ x.val ∧ x.val < 1024 * (T.j + 1 + (k0_t1_loop T.i).trips)
            then (∑ r : Fin 1024, k0_pay44 T.k (ix2 d r) * T.lp.ds (fun r => H.CG (col T.j r)) r x) * sc else 0) := by
  have e := Lp.acc18 (L := T.lp) (hg h) (k0_t1_loop T.i).trips trips_le d x
  rw [lp_G18] at e
  exact e

/-- The queries' row gradient after the point. -/
theorem row_value (h : T.Is H) (x : Fin 4096) :
    T.arg12.view.read (Elt Ideal) (T.arg12.view.writes (Elt Ideal) T.f12 T.run.2.2.1) (ix3 0 0 x)
      = T.arg12.view.read (Elt Ideal) T.f12 (ix3 0 0 x) + ∑ r : Fin 1024, H.ds (col T.j r) x := by
  rw [pieces12, View.writes_append]
  have hj : T.j < 4 := j_lt
  have hx4 := x.isLt
  have ht : (k0_t1_loop T.i).trips = 3 - T.j := trips_eq T.i
  refine (row_loop h x).trans ?_
  by_cases hx : 1024 * T.j ≤ x.val ∧ x.val < 1024 * T.j + 1024
  · have hc : x = col T.j ⟨x.val - 1024 * T.j, by omega⟩ :=
      Fin.ext (by rw [col_val hj]; show x.val = _ + (x.val - _); omega)
    rw [if_neg (by omega), add_zero]
    refine (put_row _ _ (k0_off2_eq T.i) _ _ _ x ⟨x.val - 1024 * T.j, by omega⟩ (by show x.val = 1024 * T.j + (x.val - 1024 * T.j); omega)).trans ?_
    rw [pay57_at]
    unfold o12
    rw [lane_at, ← hc]
    refine congrArg (_ + ·) (Finset.sum_congr rfl fun r _ => ?_)
    rw [ds_diag h, ← hc]
  · have e := skip_row T.arg12.view T.f12 (k0_off2_eq T.i) (k0_off2_inb T.i) (k0_pay57 (k0_pay45 T.v) T.s k0_pay50 mask T.dy T.dl T.o12) [] x
      (by show x.val < 1024 * T.j ∨ 1024 * T.j + 1024 ≤ x.val; omega)
    refine congrArg₂ (fun a b : EReal => a + b) e ?_
    split
    · exact Finset.sum_congr rfl fun r _ => ds_off h r (by omega)
    · refine (Finset.sum_eq_zero fun r _ => H.ds_late ?_).symm
      have := r.isLt
      rw [col_val hj]
      omega

/-- The sum of the queries' gradient after the point. -/
theorem acc_value (h : T.Is H) (d : Fin 128) (x : Fin 4096) :
    T.arg18.view.read (Elt Ideal) (T.arg18.view.writes (Elt Ideal) T.f18 T.run.2.2.2.1) (ix2 d x)
      = T.arg18.view.read (Elt Ideal) T.f18 (ix2 d x) + (∑ r : Fin 1024, H.K (col T.j r) d * H.ds (col T.j r) x) * sc := by
  rw [pieces18, View.writes_append]
  have hj : T.j < 4 := j_lt
  have hx4 := x.isLt
  have ht : (k0_t1_loop T.i).trips = 3 - T.j := trips_eq T.i
  have hk : ∀ r : Fin 1024, k0_pay44 T.k (ix2 d r) = H.K (col T.j r) d := fun r => (pay44_at T.k d r).trans (k_at h r d)
  refine (acc_loop h d x).trans ?_
  by_cases hx : 1024 * T.j ≤ x.val ∧ x.val < 1024 * T.j + 1024
  · have hc : x = col T.j ⟨x.val - 1024 * T.j, by omega⟩ :=
      Fin.ext (by rw [col_val hj]; show x.val = _ + (x.val - _); omega)
    rw [if_neg (by omega), add_zero]
    refine (put_cols _ _ (k0_off4_eq T.i) _ _ _ d x ⟨x.val - 1024 * T.j, by omega⟩ (by show x.val = 1024 * T.j + (x.val - 1024 * T.j); omega)).trans ?_
    rw [pay56_at]
    unfold o18
    rw [cols_at, ← hc]
    refine congrArg (fun z : EReal => _ + z * sc) (Finset.sum_congr rfl fun r _ => ?_)
    rw [ds_diag h, hk, ← hc]
  · have e := skip_cols T.arg18.view T.f18 (k0_off4_eq T.i) (k0_off4_inb T.i) (k0_pay56 (k0_pay44 T.k) (k0_pay45 T.v) T.s k0_pay50 mask T.dy T.dl T.o18) [] d x
      (by show x.val < 1024 * T.j ∨ 1024 * T.j + 1024 ≤ x.val; omega)
    refine congrArg₂ (fun a b : EReal => a + b) e ?_
    split
    · refine congrArg (fun z : EReal => z * sc) (Finset.sum_congr rfl fun r _ => ?_)
      rw [hk, ds_off h r (by omega)]
    · rw [Finset.sum_eq_zero, zero_mul]
      intro r _
      have := r.isLt
      rw [H.ds_late (by rw [col_val hj]; omega), mul_zero]

/-- The keys' gradient that the loop ends with. -/
theorem dk_value (h : T.Is H) (d : Fin 128) (r : Fin 1024) :
    T.fin.1.1 (ix2 d r) = ∑ x : Fin 4096, H.Q x d * H.ds (col T.j r) x := by
  have hj : T.j < 4 := j_lt
  have hr := r.isLt
  have ht : (k0_t1_loop T.i).trips = 3 - T.j := trips_eq T.i
  refine ((Lp.carry (L := T.lp) (hg h) _ trips_le).1 d r).trans ?_
  rw [sum_blocks, sum_from hj (f := fun b => ∑ c : Fin 1024, H.Q (col b c) d * H.ds (col T.j r) (col b c))
    (fun b hb => Finset.sum_eq_zero fun c _ => by
      have := c.isLt
      rw [H.ds_late (by rw [col_val hj, col_val (by omega)]; omega), mul_zero])]
  refine congrArg₂ (fun a b : EReal => a + b) ?_ ?_
  · refine (pay55_at ..).trans ?_
    rw [pay47_at, zero_add]
    exact Finset.sum_congr rfl fun c _ => by rw [ds_diag h, qt_at h]
  · refine (congrArg (fun n => Finset.sum (Finset.range n) _) ht).trans ?_
    refine Finset.sum_congr rfl fun k hk => Finset.sum_congr rfl fun c _ => ?_
    have hk := Finset.mem_range.mp hk
    exact congrArg₂ (fun a b : EReal => a * b) (h.qt d _) (ds_off h r (off_le (by omega) c))

/-- The values' gradient that the loop ends with. -/
theorem dv_value (h : T.Is H) (d : Fin 128) (r : Fin 1024) :
    T.fin.1.2.1 (ix2 d r) = ∑ x : Fin 4096, H.DY x d * H.p (col T.j r) x := by
  have hj : T.j < 4 := j_lt
  have hr := r.isLt
  have ht : (k0_t1_loop T.i).trips = 3 - T.j := trips_eq T.i
  refine ((Lp.carry (L := T.lp) (hg h) _ trips_le).2.1 d r).trans ?_
  rw [sum_blocks, sum_from hj (f := fun b => ∑ c : Fin 1024, H.DY (col b c) d * H.p (col T.j r) (col b c))
    (fun b hb => Finset.sum_eq_zero fun c _ => by
      have := c.isLt
      rw [H.p_late (by rw [col_val hj, col_val (by omega)]; omega), mul_zero])]
  refine congrArg₂ (fun a b : EReal => a + b) ?_ ?_
  · refine (pay54_at ..).trans ?_
    rw [pay47_at, zero_add]
    exact Finset.sum_congr rfl fun c _ => by rw [p_diag h, dyt_at h]
  · refine (congrArg (fun n => Finset.sum (Finset.range n) _) ht).trans ?_
    refine Finset.sum_congr rfl fun k hk => Finset.sum_congr rfl fun c _ => ?_
    have hk := Finset.mem_range.mp hk
    exact congrArg₂ (fun a b : EReal => a * b) (h.dyt d _) (p_off h r (off_le (by omega) c))

/-- The folded lanes that the loop ends with. -/
theorem fold_value (h : T.Is H) (r : Fin 1024) :
    ∑ l : Fin 128, T.fin.1.2.2 (ix2 r l) = ∑ x : Fin 4096, H.ds (col T.j r) x := by
  have hj : T.j < 4 := j_lt
  have hr := r.isLt
  have ht : (k0_t1_loop T.i).trips = 3 - T.j := trips_eq T.i
  have e : ∀ l : Fin 128, T.fin.1.2.2 (ix2 r l)
      = (∑ m : Fin 8, H.ds (col T.j r) (col T.j ⟨128 * m.val + l.val, by omega⟩))
        + ∑ k ∈ Finset.range (3 - T.j), ∑ m : Fin 8, H.ds (col T.j r) (col (T.j + 1 + k) ⟨128 * m.val + l.val, by omega⟩) := fun l => by
    refine ((Lp.carry (L := T.lp) (hg h) _ trips_le).2.2 r l).trans ?_
    refine congrArg₂ (fun a b : EReal => a + b) ?_ ?_
    · refine (pay59_at ..).trans ?_
      rw [pay48_at, zero_add]
      unfold fold8
      exact Finset.sum_congr rfl fun c _ => by rw [ds_diag h]
    · refine (congrArg (fun n => Finset.sum (Finset.range n) _) ht).trans ?_
      refine Finset.sum_congr rfl fun k hk => Finset.sum_congr rfl fun m _ => ?_
      have hk := Finset.mem_range.mp hk
      exact ds_off h r (off_le (by omega) _)
  rw [sum_blocks, sum_from hj (f := fun b => ∑ c : Fin 1024, H.ds (col T.j r) (col b c))
    (fun b hb => Finset.sum_eq_zero fun c _ => by
      have := c.isLt
      exact H.ds_late (by rw [col_val hj, col_val (by omega)]; omega))]
  simp only [e]
  rw [Finset.sum_add_distrib, Finset.sum_comm,
    Finset.sum_comm (s := (Finset.univ : Finset (Fin 128))) (t := Finset.range (3 - T.j))]
  refine congrArg₂ (fun a b : EReal => a + b) ?_ (Finset.sum_congr rfl fun k _ => sum_lanes fun c => H.ds (col T.j r) (col (T.j + 1 + k) c))
  rw [Finset.sum_comm]
  exact sum_lanes fun c => H.ds (col T.j r) (col T.j c)

/-- The gates' gradient at the keys. -/
theorem keys_value (h : T.Is H) (f : BufTy.Contents (Elt Ideal) T.arg11.view.ty) (r : Fin 1024) :
    T.arg11.view.read (Elt Ideal) (T.arg11.view.writes (Elt Ideal) f T.run.2.1) (ix3 0 0 r)
      = 0 - ∑ x : Fin 4096, H.ds (col T.j r) x := by
  rw [pieces11]
  refine (View.read_writes_cons_unit_of_mem (s := S1x1x1024) (off' := ![0, 0, 0]) (size := S1x1x1024.size) _ f _ _ [] (ix3 0 0 r) (ix3 0 0 r) rfl
    (fun a => match a with
      | ⟨0, _⟩ => rfl
      | ⟨1, _⟩ => rfl
      | ⟨2, _⟩ => (Nat.zero_add _).symm)).trans ?_
  rw [pay67_at, fold_value h]

/-- The written block of the three gradients: its first 128 columns are the queries', then the keys', then the values'. -/
theorem out_q (h : T.Is H) (f : BufTy.Contents (Elt Ideal) T.arg10.view.ty) (r : Fin 1024) (d : Fin 128) :
    T.arg10.view.read (Elt Ideal) (T.arg10.view.writes (Elt Ideal) f T.run.1) (ix2 r ⟨d.val, by omega⟩)
      = T.arg18.view.read (Elt Ideal) T.f18 (ix2 d (col T.j r)) + (∑ r' : Fin 1024, H.K (col T.j r') d * H.ds (col T.j r') (col T.j r)) * sc := by
  have hd := d.isLt
  rw [← acc_value h, pieces18, pieces10]
  refine (View.read_writes_cons_unit_of_not_mem (s := S1024x384) (off' := ![0, 256]) (size := S1024x128.size) _ f _ _ _ (ix2 r ⟨d.val, by omega⟩) rfl 1
    (.inl (by show d.val < 256; omega))).trans ?_
  refine (View.read_writes_cons_unit_of_not_mem (s := S1024x384) (off' := ![0, 128]) (size := S1024x128.size) _ f _ _ _ (ix2 r ⟨d.val, by omega⟩) rfl 1
    (.inl (by show d.val < 128; omega))).trans ?_
  refine (View.read_writes_cons_unit_of_mem (s := S1024x384) (off' := ![0, 0]) (size := S1024x128.size) _ f _ _ [] (ix2 r ⟨d.val, by omega⟩) (ix2 r d) rfl
    (fun a => match a with
      | ⟨0, _⟩ => (Nat.zero_add _).symm
      | ⟨1, _⟩ => (Nat.zero_add _).symm)).trans ?_
  refine (pay64_at _ r d).trans ?_
  exact cols_at T.arg18.view _ d r

theorem out_k (h : T.Is H) (f : BufTy.Contents (Elt Ideal) T.arg10.view.ty) (r : Fin 1024) (d : Fin 128) :
    T.arg10.view.read (Elt Ideal) (T.arg10.view.writes (Elt Ideal) f T.run.1) (ix2 r ⟨128 + d.val, by omega⟩)
      = ∑ x : Fin 4096, H.Q x d * H.ds (col T.j r) x := by
  have hd := d.isLt
  rw [pieces10]
  refine (View.read_writes_cons_unit_of_not_mem (s := S1024x384) (off' := ![0, 256]) (size := S1024x128.size) _ f _ _ _ (ix2 r ⟨128 + d.val, by omega⟩) rfl 1
    (.inl (by show 128 + d.val < 256; omega))).trans ?_
  refine (View.read_writes_cons_unit_of_mem (s := S1024x384) (off' := ![0, 128]) (size := S1024x128.size) _ f _ _ _ (ix2 r ⟨128 + d.val, by omega⟩) (ix2 r d) rfl
    (fun a => match a with
      | ⟨0, _⟩ => (Nat.zero_add _).symm
      | ⟨1, _⟩ => rfl)).trans ?_
  exact (pay65_at _ r d).trans (dk_value h d r)

theorem out_v (h : T.Is H) (f : BufTy.Contents (Elt Ideal) T.arg10.view.ty) (r : Fin 1024) (d : Fin 128) :
    T.arg10.view.read (Elt Ideal) (T.arg10.view.writes (Elt Ideal) f T.run.1) (ix2 r ⟨256 + d.val, by omega⟩)
      = ∑ x : Fin 4096, H.DY x d * H.p (col T.j r) x := by
  have hd := d.isLt
  rw [pieces10]
  refine (View.read_writes_cons_unit_of_mem (s := S1024x384) (off' := ![0, 256]) (size := S1024x128.size) _ f _ _ _ (ix2 r ⟨256 + d.val, by omega⟩) (ix2 r d) rfl
    (fun a => match a with
      | ⟨0, _⟩ => (Nat.zero_add _).symm
      | ⟨1, _⟩ => rfl)).trans ?_
  exact (pay66_at _ r d).trans (dv_value h d r)

end Tl

end Cert.KernelIdeal.Pay

end
-- ==== Proof.FillValue.lean ====
module

public import proofs.«01_k».proof.Proof.Body
public import proofs.«01_k».proof.Proof.LoopValue

/-! What the first grid point of a head leaves in the scratch buffers, over the extended reals. -/

@[expose] public section

set_option maxRecDepth 16384

noncomputable section

namespace Cert.KernelIdeal.Pay

open Idealize.ShloMosaic hiding ix1 ix2 ix3
open Idealize.ShloMosaic.ValueIdx
open Cert.KernelIdeal Cert.KernelIdeal.Gen Cert.KernelIdeal.Hand

/-- Every query is a column of one of the four blocks. -/
theorem col_cases (P : Fin 4096 → Prop) (h0 : ∀ c, P (col 0 c)) (h1 : ∀ c, P (col 1 c)) (h2 : ∀ c, P (col 2 c)) (h3 : ∀ c, P (col 3 c))
    (x : Fin 4096) : P x := by
  have hx := x.isLt
  have e : ∀ b, b < 4 → ∀ hb : x.val - 1024 * b < 1024, 1024 * b ≤ x.val → col b ⟨x.val - 1024 * b, hb⟩ = x := fun b hb hc hl =>
    Fin.ext (by rw [col_val hb]; show 1024 * b + (x.val - 1024 * b) = x.val; omega)
  by_cases a0 : x.val < 1024
  · exact e 0 (by omega) (by omega) (by omega) ▸ h0 _
  by_cases a1 : x.val < 2048
  · exact e 1 (by omega) (by omega) (by omega) ▸ h1 _
  by_cases a2 : x.val < 3072
  · exact e 2 (by omega) (by omega) (by omega) ▸ h2 _
  exact e 3 (by omega) (by omega) (by omega) ▸ h3 _

section
variable {e : EltTy}

/-- A block of rows, read inside it. -/
theorem put_rows (v : View sig .tc .vmem S4096x128 e) (f : v.ty.Contents (Elt Ideal)) {o : ℕ}
    (inb : ∀ a, (![o, 0] : Fin 2 → ℕ) a + S1024x128.size a ≤ S4096x128.size a) (w : S1024x128.Idx → Elt Ideal e)
    (M : List (View.Piece (Elt Ideal) S4096x128 e)) (x : Fin 4096) (d : Fin 128) (c : Fin 1024) (hx : x.val = o + c.val) :
    v.read (Elt Ideal) (v.writes (Elt Ideal) f (⟨Rect.unit ![o, 0] S1024x128.size inb, w⟩ :: M)) (ix2 x d) = w (ix2 c d) :=
  View.read_writes_cons_unit_of_mem (s := S4096x128) (off' := ![o, 0]) (size := S1024x128.size) v f inb w M (ix2 x d) (ix2 c d) rfl
    (fun a => match a with
      | ⟨0, _⟩ => hx
      | ⟨1, _⟩ => (Nat.zero_add _).symm)

/-- A block of rows, read outside it. -/
theorem skip_rows (v : View sig .tc .vmem S4096x128 e) (f : v.ty.Contents (Elt Ideal)) {o : ℕ}
    (inb : ∀ a, (![o, 0] : Fin 2 → ℕ) a + S1024x128.size a ≤ S4096x128.size a) (w : S1024x128.Idx → Elt Ideal e)
    (M : List (View.Piece (Elt Ideal) S4096x128 e)) (x : Fin 4096) (d : Fin 128) (hx : x.val < o ∨ o + 1024 ≤ x.val) :
    v.read (Elt Ideal) (v.writes (Elt Ideal) f (⟨Rect.unit ![o, 0] S1024x128.size inb, w⟩ :: M)) (ix2 x d)
      = v.read (Elt Ideal) (v.writes (Elt Ideal) f M) (ix2 x d) :=
  View.read_writes_cons_unit_of_not_mem (s := S4096x128) (off' := ![o, 0]) (size := S1024x128.size) v f inb w M (ix2 x d) rfl 0 hx

/-- A piece of the single row, read inside it. -/
theorem put_lane (v : View sig .tc .vmem S1x4096 e) (f : v.ty.Contents (Elt Ideal)) {o : ℕ}
    (inb : ∀ a, (![0, o] : Fin 2 → ℕ) a + S1x1024.size a ≤ S1x4096.size a) (w : S1x1024.Idx → Elt Ideal e)
    (M : List (View.Piece (Elt Ideal) S1x4096 e)) (x : Fin 4096) (c : Fin 1024) (hx : x.val = o + c.val) :
    v.read (Elt Ideal) (v.writes (Elt Ideal) f (⟨Rect.unit ![0, o] S1x1024.size inb, w⟩ :: M)) (ix2 0 x) = w (ix2 0 c) :=
  View.read_writes_cons_unit_of_mem (s := S1x4096) (off' := ![0, o]) (size := S1x1024.size) v f inb w M (ix2 0 x) (ix2 0 c) rfl
    (fun a => match a with
      | ⟨0, _⟩ => rfl
      | ⟨1, _⟩ => hx)

/-- A piece of the single row, read outside it. -/
theorem skip_lane (v : View sig .tc .vmem S1x4096 e) (f : v.ty.Contents (Elt Ideal)) {o : ℕ}
    (inb : ∀ a, (![0, o] : Fin 2 → ℕ) a + S1x1024.size a ≤ S1x4096.size a) (w : S1x1024.Idx → Elt Ideal e)
    (M : List (View.Piece (Elt Ideal) S1x4096 e)) (x : Fin 4096) (hx : x.val < o ∨ o + 1024 ≤ x.val) :
    v.read (Elt Ideal) (v.writes (Elt Ideal) f (⟨Rect.unit ![0, o] S1x1024.size inb, w⟩ :: M)) (ix2 0 x)
      = v.read (Elt Ideal) (v.writes (Elt Ideal) f M) (ix2 0 x) :=
  View.read_writes_cons_unit_of_not_mem (s := S1x4096) (off' := ![0, o]) (size := S1x1024.size) v f inb w M (ix2 0 x) rfl 1 hx

/-- Four blocks of rows that hold the rows of `G`. -/
theorem fill_rows (v : View sig .tc .vmem S4096x128 e) (f : v.ty.Contents (Elt Ideal)) (w3 w2 w1 w0 : S1024x128.Idx → Elt Ideal e)
    (G : Fin 4096 → Fin 128 → Elt Ideal e)
    (h3 : ∀ r d, w3 (ix2 r d) = G (col 3 r) d) (h2 : ∀ r d, w2 (ix2 r d) = G (col 2 r) d)
    (h1 : ∀ r d, w1 (ix2 r d) = G (col 1 r) d) (h0 : ∀ r d, w0 (ix2 r d) = G (col 0 r) d) (x : Fin 4096) (d : Fin 128) :
    v.read (Elt Ideal) (v.writes (Elt Ideal) f
      [⟨Rect.unit ![3072, 0] S1024x128.size inb_S4096x128_S1024x128_3072_0, w3⟩, ⟨Rect.unit ![2048, 0] S1024x128.size inb_S4096x128_S1024x128_2048_0, w2⟩,
       ⟨Rect.unit ![1024, 0] S1024x128.size inb_S4096x128_S1024x128_1024_0, w1⟩, ⟨Rect.unit ![0, 0] S1024x128.size inb_S4096x128_S1024x128_0_0, w0⟩]) (ix2 x d)
      = G x d := by
  refine col_cases (fun x => v.read (Elt Ideal) (v.writes (Elt Ideal) f _) (ix2 x d) = G x d) (fun c => ?_) (fun c => ?_) (fun c => ?_) (fun c => ?_) x
  all_goals have hc := c.isLt
  · have e := col_val (b := 0) (by omega) c
    refine (skip_rows v f _ _ _ _ d (.inl (by omega))).trans ?_
    refine (skip_rows v f _ _ _ _ d (.inl (by omega))).trans ?_
    refine (skip_rows v f _ _ _ _ d (.inl (by omega))).trans ?_
    exact (put_rows v f _ _ _ _ d c (by omega)).trans (h0 c d)
  · have e := col_val (b := 1) (by omega) c
    refine (skip_rows v f _ _ _ _ d (.inl (by omega))).trans ?_
    refine (skip_rows v f _ _ _ _ d (.inl (by omega))).trans ?_
    exact (put_rows v f _ _ _ _ d c (by omega)).trans (h1 c d)
  · have e := col_val (b := 2) (by omega) c
    refine (skip_rows v f _ _ _ _ d (.inl (by omega))).trans ?_
    exact (put_rows v f _ _ _ _ d c (by omega)).trans (h2 c d)
  · have e := col_val (b := 3) (by omega) c
    exact (put_rows v f _ _ _ _ d c (by omega)).trans (h3 c d)

/-- Four blocks of columns that hold the columns of `G`. -/
theorem fill_cols (v : View sig .tc .vmem S128x4096 e) (f : v.ty.Contents (Elt Ideal)) (w3 w2 w1 w0 : S128x1024.Idx → Elt Ideal e)
    (G : Fin 4096 → Fin 128 → Elt Ideal e)
    (h3 : ∀ d r, w3 (ix2 d r) = G (col 3 r) d) (h2 : ∀ d r, w2 (ix2 d r) = G (col 2 r) d)
    (h1 : ∀ d r, w1 (ix2 d r) = G (col 1 r) d) (h0 : ∀ d r, w0 (ix2 d r) = G (col 0 r) d) (d : Fin 128) (x : Fin 4096) :
    v.read (Elt Ideal) (v.writes (Elt Ideal) f
      [⟨Rect.unit ![0, 3072] S128x1024.size inb_S128x4096_S128x1024_0_3072, w3⟩, ⟨Rect.unit ![0, 2048] S128x1024.size inb_S128x4096_S128x1024_0_2048, w2⟩,
       ⟨Rect.unit ![0, 1024] S128x1024.size inb_S128x4096_S128x1024_0_1024, w1⟩, ⟨Rect.unit ![0, 0] S128x1024.size inb_S128x4096_S128x1024_0_0, w0⟩]) (ix2 d x)
      = G x d := by
  refine col_cases (fun x => v.read (Elt Ideal) (v.writes (Elt Ideal) f _) (ix2 d x) = G x d) (fun c => ?_) (fun c => ?_) (fun c => ?_) (fun c => ?_) x
  all_goals have hc := c.isLt
  · have e := col_val (b := 0) (by omega) c
    refine (skip_cols v f rfl _ _ _ d _ (.inl (by omega))).trans ?_
    refine (skip_cols v f rfl _ _ _ d _ (.inl (by omega))).trans ?_
    refine (skip_cols v f rfl _ _ _ d _ (.inl (by omega))).trans ?_
    exact (put_cols v f rfl _ _ _ d _ c (by omega)).trans (h0 d c)
  · have e := col_val (b := 1) (by omega) c
    refine (skip_cols v f rfl _ _ _ d _ (.inl (by omega))).trans ?_
    refine (skip_cols v f rfl _ _ _ d _ (.inl (by omega))).trans ?_
    exact (put_cols v f rfl _ _ _ d _ c (by omega)).trans (h1 d c)
  · have e := col_val (b := 2) (by omega) c
    refine (skip_cols v f rfl _ _ _ d _ (.inl (by omega))).trans ?_
    exact (put_cols v f rfl _ _ _ d _ c (by omega)).trans (h2 d c)
  · have e := col_val (b := 3) (by omega) c
    exact (put_cols v f rfl _ _ _ d _ c (by omega)).trans (h3 d c)

/-- Four pieces of the single row that hold the entries of `G`. -/
theorem fill_lane (v : View sig .tc .vmem S1x4096 e) (f : v.ty.Contents (Elt Ideal)) (w3 w2 w1 w0 : S1x1024.Idx → Elt Ideal e)
    (G : Fin 4096 → Elt Ideal e)
    (h3 : ∀ r, w3 (ix2 0 r) = G (col 3 r)) (h2 : ∀ r, w2 (ix2 0 r) = G (col 2 r))
    (h1 : ∀ r, w1 (ix2 0 r) = G (col 1 r)) (h0 : ∀ r, w0 (ix2 0 r) = G (col 0 r)) (x : Fin 4096) :
    v.read (Elt Ideal) (v.writes (Elt Ideal) f
      [⟨Rect.unit ![0, 3072] S1x1024.size inb_S1x4096_S1x1024_0_3072, w3⟩, ⟨Rect.unit ![0, 2048] S1x1024.size inb_S1x4096_S1x1024_0_2048, w2⟩,
       ⟨Rect.unit ![0, 1024] S1x1024.size inb_S1x4096_S1x1024_0_1024, w1⟩, ⟨Rect.unit ![0, 0] S1x1024.size inb_S1x4096_S1x1024_0_0, w0⟩]) (ix2 0 x)
      = G x := by
  refine col_cases (fun x => v.read (Elt Ideal) (v.writes (Elt Ideal) f _) (ix2 0 x) = G x) (fun c => ?_) (fun c => ?_) (fun c => ?_) (fun c => ?_) x
  all_goals have hc := c.isLt
  · have e := col_val (b := 0) (by omega) c
    refine (skip_lane v f _ _ _ _ (.inl (by omega))).trans ?_
    refine (skip_lane v f _ _ _ _ (.inl (by omega))).trans ?_
    refine (skip_lane v f _ _ _ _ (.inl (by omega))).trans ?_
    exact (put_lane v f _ _ _ _ c (by omega)).trans (h0 c)
  · have e := col_val (b := 1) (by omega) c
    refine (skip_lane v f _ _ _ _ (.inl (by omega))).trans ?_
    refine (skip_lane v f _ _ _ _ (.inl (by omega))).trans ?_
    exact (put_lane v f _ _ _ _ c (by omega)).trans (h1 c)
  · have e := col_val (b := 2) (by omega) c
    refine (skip_lane v f _ _ _ _ (.inl (by omega))).trans ?_
    exact (put_lane v f _ _ _ _ c (by omega)).trans (h2 c)
  · have e := col_val (b := 3) (by omega) c
    exact (put_lane v f _ _ _ _ c (by omega)).trans (h3 c)

/-- A block of rows, loaded. -/
theorem load_rows (v : View sig .tc .vmem S4096x128 e) (f : v.ty.Contents (Elt Ideal)) {o : ℕ}
    (inb : ∀ a, (![o, 0] : Fin 2 → ℕ) a + S1024x128.size a ≤ S4096x128.size a) (b : ℕ) (hb : b < 4) (ho : o = 1024 * b) (r : Fin 1024) (d : Fin 128) :
    v.readAt (Elt Ideal) (Rect.unit (s := S4096x128) ![o, 0] S1024x128.size inb).toLoadRect f (ix2 r d)
      = v.read (Elt Ideal) f (ix2 (col b r) d) := by
  rw [View.readAt_eq_ld]
  refine View.ld_unit_apply_of _ _ _ _ _ _ fun a => ?_
  match a with
  | ⟨0, _⟩ => show (col b r).val = o + r.val; rw [col_val hb, ho]
  | ⟨1, _⟩ => show d.val = 0 + d.val; omega

end

/-- The contents that the first grid point of a head starts from. -/
structure Fl where
  c : Dev nD
  i : grid0.Coords
  arg2 : Memref sig .tc .vmem S4096x128 .f32
  harg2 : arg2.IsWhole
  arg3 : Memref sig .tc .vmem S1024x128 .f32
  harg3 : arg3.IsWhole
  arg4 : Memref sig .tc .vmem S1024x128 .f32
  harg4 : arg4.IsWhole
  arg5 : Memref sig .tc .vmem S4096x128 .f32
  harg5 : arg5.IsWhole
  arg6 : Memref sig .tc .vmem S1x1x4096 .f32
  harg6 : arg6.IsWhole
  arg7 : Memref sig .tc .vmem S4096x128 .f32
  harg7 : arg7.IsWhole
  arg8 : Memref sig .tc .vmem S1024x128 .f32
  harg8 : arg8.IsWhole
  arg9 : Memref sig .tc .hbm S4096x7680 .bf16
  harg9 : arg9.IsWhole
  arg10 : Memref sig .tc .vmem S1024x384 .bf16
  harg10 : arg10.IsWhole
  arg11 : Memref sig .tc .vmem S1x1x1024 .f32
  harg11 : arg11.IsWhole
  arg12 : Memref sig .tc .vmem S1x1x4096 .f32
  harg12 : arg12.IsWhole
  arg13 : Memref sig .tc .vmem S4096x128 .bf16
  harg13 : arg13.IsWhole
  arg14 : Memref sig .tc .vmem S128x4096 .bf16
  harg14 : arg14.IsWhole
  arg15 : Memref sig .tc .vmem S4096x128 .bf16
  harg15 : arg15.IsWhole
  arg16 : Memref sig .tc .vmem S128x4096 .bf16
  harg16 : arg16.IsWhole
  arg17 : Memref sig .tc .vmem S1x4096 .f32
  harg17 : arg17.IsWhole
  arg18 : Memref sig .tc .vmem S128x4096 .f32
  harg18 : arg18.IsWhole
  x2 : BufTy.Contents (Elt Ideal) arg2.view.ty
  x5 : BufTy.Contents (Elt Ideal) arg5.view.ty
  x7 : BufTy.Contents (Elt Ideal) arg7.view.ty

namespace Fl

variable (T : Fl)

/-- The pieces that filling the scratch buffers writes. -/
def run := fillRun (F := Ideal) T.c T.i T.arg2 T.harg2 T.arg3 T.harg3 T.arg4 T.harg4 T.arg5 T.harg5 T.arg6 T.harg6 T.arg7 T.harg7 T.arg8 T.harg8 T.arg9 T.harg9 T.arg10 T.harg10 T.arg11 T.harg11 T.arg12 T.harg12 T.arg13 T.harg13 T.arg14 T.harg14 T.arg15 T.harg15 T.arg16 T.harg16 T.arg17 T.harg17 T.arg18 T.harg18 T.x2 T.x5 T.x7

/-- The scratch rows of the queries. -/
theorem q_value (f : BufTy.Contents (Elt Ideal) T.arg13.view.ty) (x : Fin 4096) (d : Fin 128) :
    T.arg13.view.read (Elt Ideal) (T.arg13.view.writes (Elt Ideal) f T.run.2.1) (ix2 x d) = T.arg2.view.read (Elt Ideal) T.x2 (ix2 x d) * sc := by
  unfold run fillRun
  dsimp only
  exact fill_rows T.arg13.view f _ _ _ _ (fun x d => (T.arg2.view.read (Elt Ideal) T.x2 (ix2 x d) * sc : EReal))
    (fun r d => (pay3_at _ _).trans (congrArg (fun z : EReal => z * sc) (load_rows T.arg2.view T.x2 inb_S4096x128_S1024x128_3072_0 3 (by omega) rfl r d)))
    (fun r d => (pay3_at _ _).trans (congrArg (fun z : EReal => z * sc) (load_rows T.arg2.view T.x2 inb_S4096x128_S1024x128_2048_0 2 (by omega) rfl r d)))
    (fun r d => (pay3_at _ _).trans (congrArg (fun z : EReal => z * sc) (load_rows T.arg2.view T.x2 inb_S4096x128_S1024x128_1024_0 1 (by omega) rfl r d)))
    (fun r d => (pay3_at _ _).trans (congrArg (fun z : EReal => z * sc) (load_rows T.arg2.view T.x2 inb_S4096x128_S1024x128_0_0 0 (by omega) rfl r d))) x d

/-- The scratch columns of the queries. -/
theorem qt_value (f : BufTy.Contents (Elt Ideal) T.arg14.view.ty) (d : Fin 128) (x : Fin 4096) :
    T.arg14.view.read (Elt Ideal) (T.arg14.view.writes (Elt Ideal) f T.run.2.2.1) (ix2 d x) = T.arg2.view.read (Elt Ideal) T.x2 (ix2 x d) * sc := by
  unfold run fillRun
  dsimp only
  exact fill_cols T.arg14.view f _ _ _ _ (fun x d => (T.arg2.view.read (Elt Ideal) T.x2 (ix2 x d) * sc : EReal))
    (fun d r => (pay4_at _ _ _).trans (congrArg (fun z : EReal => z * sc) (load_rows T.arg2.view T.x2 inb_S4096x128_S1024x128_3072_0 3 (by omega) rfl r d)))
    (fun d r => (pay4_at _ _ _).trans (congrArg (fun z : EReal => z * sc) (load_rows T.arg2.view T.x2 inb_S4096x128_S1024x128_2048_0 2 (by omega) rfl r d)))
    (fun d r => (pay4_at _ _ _).trans (congrArg (fun z : EReal => z * sc) (load_rows T.arg2.view T.x2 inb_S4096x128_S1024x128_1024_0 1 (by omega) rfl r d)))
    (fun d r => (pay4_at _ _ _).trans (congrArg (fun z : EReal => z * sc) (load_rows T.arg2.view T.x2 inb_S4096x128_S1024x128_0_0 0 (by omega) rfl r d))) d x

/-- The scratch rows of the outputs' gradient. -/
theorem dy_value (f : BufTy.Contents (Elt Ideal) T.arg15.view.ty) (x : Fin 4096) (d : Fin 128) :
    T.arg15.view.read (Elt Ideal) (T.arg15.view.writes (Elt Ideal) f T.run.2.2.2.1) (ix2 x d) = (T.arg5.view.read (Elt Ideal) T.x5 (ix2 x d) : EReal) := by
  unfold run fillRun
  dsimp only
  exact fill_rows T.arg15.view f _ _ _ _ (fun x d => (T.arg5.view.read (Elt Ideal) T.x5 (ix2 x d) : EReal))
    (fun r d => (pay37_at _ _).trans (load_rows T.arg5.view T.x5 inb_S4096x128_S1024x128_3072_0 3 (by omega) rfl r d))
    (fun r d => (pay37_at _ _).trans (load_rows T.arg5.view T.x5 inb_S4096x128_S1024x128_2048_0 2 (by omega) rfl r d))
    (fun r d => (pay37_at _ _).trans (load_rows T.arg5.view T.x5 inb_S4096x128_S1024x128_1024_0 1 (by omega) rfl r d))
    (fun r d => (pay37_at _ _).trans (load_rows T.arg5.view T.x5 inb_S4096x128_S1024x128_0_0 0 (by omega) rfl r d)) x d

/-- The scratch columns of the outputs' gradient. -/
theorem dyt_value (f : BufTy.Contents (Elt Ideal) T.arg16.view.ty) (d : Fin 128) (x : Fin 4096) :
    T.arg16.view.read (Elt Ideal) (T.arg16.view.writes (Elt Ideal) f T.run.2.2.2.2.1) (ix2 d x) = (T.arg5.view.read (Elt Ideal) T.x5 (ix2 x d) : EReal) := by
  unfold run fillRun
  dsimp only
  exact fill_cols T.arg16.view f _ _ _ _ (fun x d => (T.arg5.view.read (Elt Ideal) T.x5 (ix2 x d) : EReal))
    (fun d r => (pay38_at _ _ _).trans (load_rows T.arg5.view T.x5 inb_S4096x128_S1024x128_3072_0 3 (by omega) rfl r d))
    (fun d r => (pay38_at _ _ _).trans (load_rows T.arg5.view T.x5 inb_S4096x128_S1024x128_2048_0 2 (by omega) rfl r d))
    (fun d r => (pay38_at _ _ _).trans (load_rows T.arg5.view T.x5 inb_S4096x128_S1024x128_1024_0 1 (by omega) rfl r d))
    (fun d r => (pay38_at _ _ _).trans (load_rows T.arg5.view T.x5 inb_S4096x128_S1024x128_0_0 0 (by omega) rfl r d)) d x

/-- The scratch row of the rows' dot products. -/
theorem dl_value (f : BufTy.Contents (Elt Ideal) T.arg17.view.ty) (x : Fin 4096) :
    T.arg17.view.read (Elt Ideal) (T.arg17.view.writes (Elt Ideal) f T.run.2.2.2.2.2.1) (ix2 0 x) = T.arg7.view.read (Elt Ideal) T.x7 (ix2 x 0) := by
  unfold run fillRun
  dsimp only
  exact fill_lane T.arg17.view f _ _ _ _ (fun x => T.arg7.view.read (Elt Ideal) T.x7 (ix2 x 0))
    (fun r => (pay7_at _ _).trans (load_rows T.arg7.view T.x7 inb_S4096x128_S1024x128_3072_0 3 (by omega) rfl r 0))
    (fun r => (pay7_at _ _).trans (load_rows T.arg7.view T.x7 inb_S4096x128_S1024x128_2048_0 2 (by omega) rfl r 0))
    (fun r => (pay7_at _ _).trans (load_rows T.arg7.view T.x7 inb_S4096x128_S1024x128_1024_0 1 (by omega) rfl r 0))
    (fun r => (pay7_at _ _).trans (load_rows T.arg7.view T.x7 inb_S4096x128_S1024x128_0_0 0 (by omega) rfl r 0)) x

/-- The queries' row gradient starts at zero. -/
theorem row_value (f : BufTy.Contents (Elt Ideal) T.arg12.view.ty) (x : Fin 4096) :
    T.arg12.view.read (Elt Ideal) (T.arg12.view.writes (Elt Ideal) f T.run.1) (ix3 0 0 x) = 0 := by
  unfold run fillRun
  dsimp only
  refine (View.read_writes_cons_unit_of_mem (s := S1x1x4096) (off' := ![0, 0, 0]) (size := S1x1x4096.size) _ f _ _ [] (ix3 0 0 x) (ix3 0 0 x) rfl
    (fun a => match a with
      | ⟨0, _⟩ => rfl
      | ⟨1, _⟩ => rfl
      | ⟨2, _⟩ => (Nat.zero_add _).symm)).trans ?_
  exact pay41_at _

/-- The sum of the queries' gradient starts at zero. -/
theorem acc_value (f : BufTy.Contents (Elt Ideal) T.arg18.view.ty) (d : Fin 128) (x : Fin 4096) :
    T.arg18.view.read (Elt Ideal) (T.arg18.view.writes (Elt Ideal) f T.run.2.2.2.2.2.2.1) (ix2 d x) = 0 := by
  unfold run fillRun
  dsimp only
  refine (View.read_writes_cons_unit_of_mem (s := S128x4096) (off' := ![0, 0]) (size := S128x4096.size) _ f _ _ [] (ix2 d x) (ix2 d x) rfl
    (fun a => match a with
      | ⟨0, _⟩ => (Nat.zero_add _).symm
      | ⟨1, _⟩ => (Nat.zero_add _).symm)).trans ?_
  exact pay40_at _

end Fl

end Cert.KernelIdeal.Pay

end
-- ==== Proof.PointValue.lean ====
module

public import proofs.«01_k».proof.Proof.Body
public import proofs.«01_k».proof.Proof.TailValue
public import proofs.«01_k».proof.Proof.FillValue

/-! One grid point of the attention backward call over the extended reals, with the values it leaves. -/

@[expose] public section

set_option maxRecDepth 16384
set_option maxHeartbeats 1000000

noncomputable section

namespace Cert.KernelIdeal.Pay

open Idealize.ShloMosaic hiding ix1 ix2 ix3
open Idealize.ShloMosaic.ValueIdx
open Cert.KernelIdeal Cert.KernelIdeal.Gen Cert.KernelIdeal.Hand

namespace Hd

variable (H : Hd)

/-- The queries' gradient from the first `n` blocks of keys. -/
def dq (n : ℕ) (x : Fin 4096) (d : Fin 128) : EReal :=
  ∑ b ∈ Finset.range n, (∑ r : Fin 1024, H.K (col b r) d * H.ds (col b r) x) * sc
/-- The keys' gradient. -/
def dk (g : Fin 4096) (d : Fin 128) : EReal := ∑ x : Fin 4096, H.Q x d * H.ds g x
/-- The values' gradient. -/
def dv (g : Fin 4096) (d : Fin 128) : EReal := ∑ x : Fin 4096, H.DY x d * H.p g x
/-- The gradient of the gate a query adds, from the first `n` blocks of keys. -/
def dcq (n : ℕ) (x : Fin 4096) : EReal := ∑ b ∈ Finset.range n, ∑ r : Fin 1024, H.ds (col b r) x
/-- The gradient of the gate a key takes away. -/
def dck (g : Fin 4096) : EReal := 0 - ∑ x : Fin 4096, H.ds g x

/-- The block of the three gradients a point of key block `j` writes. -/
def outBlock (j : ℕ) (y : S1024x384.Idx) : EReal :=
  if h : (y 1).val < 128 then H.dq (j + 1) (col j (y 0)) ⟨(y 1).val, h⟩
  else if h : (y 1).val < 256 then H.dk (col j (y 0)) ⟨(y 1).val - 128, by omega⟩
  else H.dv (col j (y 0)) ⟨((y 1).val - 256) % 128, Nat.mod_lt _ (by omega)⟩
/-- The block of the keys' gate gradient. -/
def keyBlock (j : ℕ) (y : S1x1x1024.Idx) : EReal := H.dck (col j (y 2))
/-- The block of the queries' gate gradient after `n` blocks of keys. -/
def rowBlock (n : ℕ) (y : S1x1x4096.Idx) : EReal := H.dcq n (y 2)

end Hd

/-- What a head's scratch buffers and its row of results hold after `n` of its blocks of keys. -/
structure Held (H : Hd) (n : ℕ) (arg12 : Memref sig .tc .vmem S1x1x4096 .f32) (arg13 : Memref sig .tc .vmem S4096x128 .bf16) (arg14 : Memref sig .tc .vmem S128x4096 .bf16) (arg15 : Memref sig .tc .vmem S4096x128 .bf16) (arg16 : Memref sig .tc .vmem S128x4096 .bf16) (arg17 : Memref sig .tc .vmem S1x4096 .f32) (arg18 : Memref sig .tc .vmem S128x4096 .f32)
    (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) : Prop where
  row : ∀ x, arg12.view.read (Elt Ideal) f12 (ix3 0 0 x) = H.dcq n x
  q : ∀ x d, arg13.view.read (Elt Ideal) f13 (ix2 x d) = H.Q x d
  qt : ∀ d x, arg14.view.read (Elt Ideal) f14 (ix2 d x) = H.Q x d
  dy : ∀ x d, arg15.view.read (Elt Ideal) f15 (ix2 x d) = H.DY x d
  dyt : ∀ d x, arg16.view.read (Elt Ideal) f16 (ix2 d x) = H.DY x d
  dl : ∀ x, arg17.view.read (Elt Ideal) f17 (ix2 0 x) = H.DL x
  acc : ∀ d x, arg18.view.read (Elt Ideal) f18 (ix2 d x) = H.dq n x d

/-- The blocks a head's first point fills its scratch buffers from. -/
structure First (H : Hd) (arg2 : Memref sig .tc .vmem S4096x128 .f32) (arg5 : Memref sig .tc .vmem S4096x128 .f32) (arg7 : Memref sig .tc .vmem S4096x128 .f32) (x2 : BufTy.Contents (Elt Ideal) arg2.view.ty) (x5 : BufTy.Contents (Elt Ideal) arg5.view.ty) (x7 : BufTy.Contents (Elt Ideal) arg7.view.ty) : Prop where
  q : ∀ x d, arg2.view.read (Elt Ideal) x2 (ix2 x d) * sc = H.Q x d
  dy : ∀ x d, arg5.view.read (Elt Ideal) x5 (ix2 x d) = H.DY x d
  dl : ∀ x, arg7.view.read (Elt Ideal) x7 (ix2 x 0) = H.DL x

/-- The blocks every point reads. -/
structure Block (H : Hd) (i : grid0.Coords) (arg3 : Memref sig .tc .vmem S1024x128 .f32) (arg4 : Memref sig .tc .vmem S1024x128 .f32) (arg6 : Memref sig .tc .vmem S1x1x4096 .f32) (arg8 : Memref sig .tc .vmem S1024x128 .f32) (x3 : BufTy.Contents (Elt Ideal) arg3.view.ty) (x4 : BufTy.Contents (Elt Ideal) arg4.view.ty) (x6 : BufTy.Contents (Elt Ideal) arg6.view.ty) (x8 : BufTy.Contents (Elt Ideal) arg8.view.ty) : Prop where
  k : ∀ r d, arg3.view.read (Elt Ideal) x3 (ix2 r d) = H.K (col (i 1).val r) d
  v : ∀ r d, arg4.view.read (Elt Ideal) x4 (ix2 r d) = H.V (col (i 1).val r) d
  g : ∀ r, (∑ l : Fin 128, if l.val = (i 0).val then arg8.view.read (Elt Ideal) x8 (ix2 r l) else 0) = H.CG (col (i 1).val r)
  e : ∀ x, arg6.view.read (Elt Ideal) x6 (ix3 0 0 x) = H.E x

/-- The two results a point writes whole. -/
structure Out (H : Hd) (j : ℕ) (arg10 : Memref sig .tc .vmem S1024x384 .bf16) (arg11 : Memref sig .tc .vmem S1x1x1024 .f32) (f10 : BufTy.Contents (Elt Ideal) arg10.view.ty) (f11 : BufTy.Contents (Elt Ideal) arg11.view.ty) : Prop where
  out : arg10.view.read (Elt Ideal) f10 = H.outBlock j
  key : arg11.view.read (Elt Ideal) f11 = H.keyBlock j

section

variable (c : Dev nD) (i : grid0.Coords) (arg2 : Memref sig .tc .vmem S4096x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S4096x128 .f32) (harg5 : arg5.IsWhole) (arg6 : Memref sig .tc .vmem S1x1x4096 .f32) (harg6 : arg6.IsWhole) (arg7 : Memref sig .tc .vmem S4096x128 .f32) (harg7 : arg7.IsWhole) (arg8 : Memref sig .tc .vmem S1024x128 .f32) (harg8 : arg8.IsWhole) (arg9 : Memref sig .tc .hbm S4096x7680 .bf16) (harg9 : arg9.IsWhole) (arg10 : Memref sig .tc .vmem S1024x384 .bf16) (harg10 : arg10.IsWhole) (arg11 : Memref sig .tc .vmem S1x1x1024 .f32) (harg11 : arg11.IsWhole) (arg12 : Memref sig .tc .vmem S1x1x4096 .f32) (harg12 : arg12.IsWhole) (arg13 : Memref sig .tc .vmem S4096x128 .bf16) (harg13 : arg13.IsWhole) (arg14 : Memref sig .tc .vmem S128x4096 .bf16) (harg14 : arg14.IsWhole) (arg15 : Memref sig .tc .vmem S4096x128 .bf16) (harg15 : arg15.IsWhole) (arg16 : Memref sig .tc .vmem S128x4096 .bf16) (harg16 : arg16.IsWhole) (arg17 : Memref sig .tc .vmem S1x4096 .f32) (harg17 : arg17.IsWhole) (arg18 : Memref sig .tc .vmem S128x4096 .f32) (harg18 : arg18.IsWhole)
  (x2 : BufTy.Contents (Elt Ideal) arg2.view.ty) (x3 : BufTy.Contents (Elt Ideal) arg3.view.ty) (x4 : BufTy.Contents (Elt Ideal) arg4.view.ty) (x5 : BufTy.Contents (Elt Ideal) arg5.view.ty) (x6 : BufTy.Contents (Elt Ideal) arg6.view.ty) (x7 : BufTy.Contents (Elt Ideal) arg7.view.ty) (x8 : BufTy.Contents (Elt Ideal) arg8.view.ty)
  (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (H : Hd)

/-- The first point's fill. -/
theorem held_fill (h : First H arg2 arg5 arg7 x2 x5 x7) :
    Held H 0 arg12 arg13 arg14 arg15 arg16 arg17 arg18
      (arg12.view.writes (Elt Ideal) f12 (⟨c, i, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, x2, x5, x7⟩ : Fl).run.1) (arg13.view.writes (Elt Ideal) f13 (⟨c, i, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, x2, x5, x7⟩ : Fl).run.2.1) (arg14.view.writes (Elt Ideal) f14 (⟨c, i, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, x2, x5, x7⟩ : Fl).run.2.2.1) (arg15.view.writes (Elt Ideal) f15 (⟨c, i, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, x2, x5, x7⟩ : Fl).run.2.2.2.1) (arg16.view.writes (Elt Ideal) f16 (⟨c, i, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, x2, x5, x7⟩ : Fl).run.2.2.2.2.1) (arg17.view.writes (Elt Ideal) f17 (⟨c, i, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, x2, x5, x7⟩ : Fl).run.2.2.2.2.2.1) (arg18.view.writes (Elt Ideal) f18 (⟨c, i, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, x2, x5, x7⟩ : Fl).run.2.2.2.2.2.2.1) where
  row x := (Fl.row_value (⟨c, i, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, x2, x5, x7⟩ : Fl) f12 x).trans (Finset.sum_range_zero _).symm
  q x d := (Fl.q_value (⟨c, i, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, x2, x5, x7⟩ : Fl) f13 x d).trans (h.q x d)
  qt d x := (Fl.qt_value (⟨c, i, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, x2, x5, x7⟩ : Fl) f14 d x).trans (h.q x d)
  dy x d := (Fl.dy_value (⟨c, i, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, x2, x5, x7⟩ : Fl) f15 x d).trans (h.dy x d)
  dyt d x := (Fl.dyt_value (⟨c, i, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, x2, x5, x7⟩ : Fl) f16 d x).trans (h.dy x d)
  dl x := (Fl.dl_value (⟨c, i, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, x2, x5, x7⟩ : Fl) f17 x).trans (h.dl x)
  acc d x := (Fl.acc_value (⟨c, i, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, x2, x5, x7⟩ : Fl) f18 d x).trans (Finset.sum_range_zero _).symm

/-- The contents at a point, as the tail's. -/
theorem tail_is (n : ℕ) (hn : n = (i 1).val) (h : Held H n arg12 arg13 arg14 arg15 arg16 arg17 arg18 f12 f13 f14 f15 f16 f17 f18)
    (hb : Block H i arg3 arg4 arg6 arg8 x3 x4 x6 x8) : Tl.Is (⟨c, i, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, x3, x4, x6, x8, f12, f13, f14, f15, f16, f17, f18⟩ : Tl) H where
  k := hb.k
  v := hb.v
  g := hb.g
  q := h.q
  qt := h.qt
  dy := h.dy
  dyt := h.dyt
  e := hb.e
  dl := h.dl

/-- The rest of a point, on the scratch buffers and the row. -/
theorem held_tail (n : ℕ) (hn : n = (i 1).val) (h : Held H n arg12 arg13 arg14 arg15 arg16 arg17 arg18 f12 f13 f14 f15 f16 f17 f18)
    (hb : Block H i arg3 arg4 arg6 arg8 x3 x4 x6 x8) :
    Held H (n + 1) arg12 arg13 arg14 arg15 arg16 arg17 arg18
      (arg12.view.writes (Elt Ideal) f12 (⟨c, i, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, x3, x4, x6, x8, f12, f13, f14, f15, f16, f17, f18⟩ : Tl).run.2.2.1) f13 f14 f15 f16 f17
      (arg18.view.writes (Elt Ideal) f18 (⟨c, i, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, x3, x4, x6, x8, f12, f13, f14, f15, f16, f17, f18⟩ : Tl).run.2.2.2.1) where
  row x := by
    refine (Tl.row_value (tail_is c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x6 x8 f12 f13 f14 f15 f16 f17 f18 H n hn h hb) x).trans ?_
    refine (congrArg (fun z : EReal => z + _) (h.row x)).trans ?_
    unfold Hd.dcq
    rw [Finset.sum_range_succ, hn]
  q := h.q
  qt := h.qt
  dy := h.dy
  dyt := h.dyt
  dl := h.dl
  acc d x := by
    refine (Tl.acc_value (tail_is c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x6 x8 f12 f13 f14 f15 f16 f17 f18 H n hn h hb) d x).trans ?_
    refine (congrArg (fun z : EReal => z + _) (h.acc d x)).trans ?_
    unfold Hd.dq
    rw [Finset.sum_range_succ, hn]

/-- The rest of a point, on the two results it writes whole. -/
theorem out_tail (n : ℕ) (hn : n = (i 1).val) (h : Held H n arg12 arg13 arg14 arg15 arg16 arg17 arg18 f12 f13 f14 f15 f16 f17 f18)
    (hb : Block H i arg3 arg4 arg6 arg8 x3 x4 x6 x8) (f10 : BufTy.Contents (Elt Ideal) arg10.view.ty) (f11 : BufTy.Contents (Elt Ideal) arg11.view.ty) :
    Out H n arg10 arg11 (arg10.view.writes (Elt Ideal) f10 (⟨c, i, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, x3, x4, x6, x8, f12, f13, f14, f15, f16, f17, f18⟩ : Tl).run.1)
      (arg11.view.writes (Elt Ideal) f11 (⟨c, i, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, x3, x4, x6, x8, f12, f13, f14, f15, f16, f17, f18⟩ : Tl).run.2.1) := by
  have hi := tail_is c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x6 x8 f12 f13 f14 f15 f16 f17 f18 H n hn h hb
  constructor
  · funext y
    obtain ⟨r, l, rfl⟩ : ∃ (r : Fin 1024) (l : Fin 384), y = ix2 r l := ⟨y 0, y 1, (ix2_eta y).symm⟩
    unfold Hd.outBlock
    have hl := l.isLt
    by_cases h0 : l.val < 128
    · rw [dif_pos (show (ix2 r l 1).val < 128 from h0)]
      refine (Tl.out_q hi f10 r ⟨l.val, h0⟩).trans ?_
      refine (congrArg (fun z : EReal => z + _) (h.acc _ _)).trans ?_
      unfold Hd.dq
      rw [Finset.sum_range_succ, hn]
    · rw [dif_neg (show ¬ (ix2 r l 1).val < 128 from h0)]
      by_cases h1 : l.val < 256
      · rw [dif_pos (show (ix2 r l 1).val < 256 from h1)]
        have e : l = ⟨128 + (l.val - 128), by omega⟩ := Fin.ext (by show l.val = 128 + (l.val - 128); omega)
        refine (congrArg (fun z : Fin 384 => (arg10.view.read (Elt Ideal) _ (ix2 r z) : EReal)) e).trans ?_
        refine (Tl.out_k hi f10 r ⟨l.val - 128, by omega⟩).trans ?_
        rw [hn]
        rfl
      · rw [dif_neg (show ¬ (ix2 r l 1).val < 256 from h1)]
        have e : l = ⟨256 + (l.val - 256), by omega⟩ := Fin.ext (by show l.val = 256 + (l.val - 256); omega)
        refine (congrArg (fun z : Fin 384 => (arg10.view.read (Elt Ideal) _ (ix2 r z) : EReal)) e).trans ?_
        refine (Tl.out_v hi f10 r ⟨l.val - 256, by omega⟩).trans ?_
        have e2 : (⟨((ix2 r l 1).val - 256) % 128, Nat.mod_lt _ (by omega)⟩ : Fin 128) = ⟨l.val - 256, by omega⟩ :=
          Fin.ext (Nat.mod_eq_of_lt (by show l.val - 256 < 128; omega))
        rw [e2, hn]
        rfl
  · funext y
    obtain ⟨r, rfl⟩ : ∃ r : Fin 1024, y = ix3 0 0 r := ⟨y 2, funext fun a => match a with
      | ⟨0, _⟩ => Fin.ext (by have : (y 0).val < 1 := (y 0).isLt; show (y 0).val = 0; omega)
      | ⟨1, _⟩ => Fin.ext (by have : (y 1).val < 1 := (y 1).isLt; show (y 1).val = 0; omega)
      | ⟨2, _⟩ => rfl⟩
    refine (Tl.keys_value hi f11 r).trans ?_
    unfold Hd.keyBlock Hd.dck
    rw [hn]

end

end Cert.KernelIdeal.Pay

end
-- ==== Proof.PointTrack.lean ====
module

public import proofs.«01_k».proof.Proof.PointValue

/-! One grid point of the attention backward call run over the extended reals, its results named. -/

@[expose] public section

set_option maxRecDepth 16384
set_option maxHeartbeats 1000000

noncomputable section

namespace Cert.KernelIdeal.Track

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.KernelIdeal Cert.KernelIdeal.Gen Cert.KernelIdeal.Hand Cert.KernelIdeal.Pay

local notation "𝕄" => MT nD τ sig Unit (Elt Ideal) ℕ (UR sig nD τ) ℕ

section

variable (c : Dev nD) (i : grid0.Coords) (arg2 : Memref sig .tc .vmem S4096x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S4096x128 .f32) (harg5 : arg5.IsWhole) (arg6 : Memref sig .tc .vmem S1x1x4096 .f32) (harg6 : arg6.IsWhole) (arg7 : Memref sig .tc .vmem S4096x128 .f32) (harg7 : arg7.IsWhole) (arg8 : Memref sig .tc .vmem S1024x128 .f32) (harg8 : arg8.IsWhole) (arg9 : Memref sig .tc .hbm S4096x7680 .bf16) (harg9 : arg9.IsWhole) (arg10 : Memref sig .tc .vmem S1024x384 .bf16) (harg10 : arg10.IsWhole) (arg11 : Memref sig .tc .vmem S1x1x1024 .f32) (harg11 : arg11.IsWhole) (arg12 : Memref sig .tc .vmem S1x1x4096 .f32) (harg12 : arg12.IsWhole) (arg13 : Memref sig .tc .vmem S4096x128 .bf16) (harg13 : arg13.IsWhole) (arg14 : Memref sig .tc .vmem S128x4096 .bf16) (harg14 : arg14.IsWhole) (arg15 : Memref sig .tc .vmem S4096x128 .bf16) (harg15 : arg15.IsWhole) (arg16 : Memref sig .tc .vmem S128x4096 .bf16) (harg16 : arg16.IsWhole) (arg17 : Memref sig .tc .vmem S1x4096 .f32) (harg17 : arg17.IsWhole) (arg18 : Memref sig .tc .vmem S128x4096 .f32) (harg18 : arg18.IsWhole)

/-- The rest of a point, its results named. -/
theorem tail_track (x3 : BufTy.Contents (Elt Ideal) arg3.view.ty) (x4 : BufTy.Contents (Elt Ideal) arg4.view.ty) (x6 : BufTy.Contents (Elt Ideal) arg6.view.ty) (x8 : BufTy.Contents (Elt Ideal) arg8.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (H : Hd) (n : ℕ) (hn : n = (i 1).val)
    (hH : Held H n arg12 arg13 arg14 arg15 arg16 arg17 arg18 f12 f13 f14 f15 f16 f17 f18) (hb : Block H i arg3 arg4 arg6 arg8 x3 x4 x6 x8) (E : Set ℕ) (K : PUnit → sProp 𝕄) :
    iprop(pt (F := Ideal) c arg3 x3 ∗ pt (F := Ideal) c arg4 x4 ∗ pt (F := Ideal) c arg6 x6 ∗ pt (F := Ideal) c arg8 x8 ∗ pt (F := Ideal) c arg10 f10 ∗ pt (F := Ideal) c arg11 f11 ∗ pt (F := Ideal) c arg12 f12 ∗ pt (F := Ideal) c arg13 f13 ∗ pt (F := Ideal) c arg14 f14 ∗ pt (F := Ideal) c arg15 f15 ∗ pt (F := Ideal) c arg16 f16 ∗ pt (F := Ideal) c arg17 f17 ∗ pt (F := Ideal) c arg18 f18
      ∗ (iprop(pt (F := Ideal) c arg3 x3 ∗ pt (F := Ideal) c arg4 x4 ∗ pt (F := Ideal) c arg6 x6 ∗ pt (F := Ideal) c arg8 x8 ∗ (∃ g10 g11 g12 g13 g14 g15 g16 g17 g18,
          ⌜Held H (n + 1) arg12 arg13 arg14 arg15 arg16 arg17 arg18 g12 g13 g14 g15 g16 g17 g18 ∧ Out H n arg10 arg11 g10 g11⌝ ∗ pt (F := Ideal) c arg10 g10 ∗ pt (F := Ideal) c arg11 g11 ∗ pt (F := Ideal) c arg12 g12 ∗ pt (F := Ideal) c arg13 g13 ∗ pt (F := Ideal) c arg14 g14 ∗ pt (F := Ideal) c arg15 g15 ∗ pt (F := Ideal) c arg16 g16 ∗ pt (F := Ideal) c arg17 g17 ∗ pt (F := Ideal) c arg18 g18)) -∗ K ⟨⟩))
    ⊢ wp frame (wpE (defs₀ (F := Ideal)) Variants.none c none) E (tailProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  have e1 := held_tail c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x6 x8 f12 f13 f14 f15 f16 f17 f18 H n hn hH hb
  have e2 := out_tail c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x6 x8 f12 f13 f14 f15 f16 f17 f18 H n hn hH hb f10 f11
  have r := (tailRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x6 x8 f12 f13 f14 f15 f16 f17 f18).2.2.2.2 E f10 f11 K
  unfold Tl.run at e1 e2
  dsimp only at e1 e2
  generalize (tailRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x6 x8 f12 f13 f14 f15 f16 f17 f18) = R at e1 e2 r
  obtain ⟨L10, L11, L12, L18, _⟩ := R
  dsimp only at e1 e2 r
  iintro ⟨H3, H4, H6, H8, H10, H11, H12, H13, H14, H15, H16, H17, H18, HK⟩
  iapply r
  isplitl [H3]; · iexact H3
  isplitl [H4]; · iexact H4
  isplitl [H6]; · iexact H6
  isplitl [H8]; · iexact H8
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iintro ⟨H3, H4, H6, H8, H10, H11, H12, H13, H14, H15, H16, H17, H18⟩
  iapply HK
  isplitl [H3]; · iexact H3
  isplitl [H4]; · iexact H4
  isplitl [H6]; · iexact H6
  isplitl [H8]; · iexact H8
  iexists (arg10.view.writes (Elt Ideal) f10 L10), (arg11.view.writes (Elt Ideal) f11 L11), (arg12.view.writes (Elt Ideal) f12 L12), f13, f14, f15, f16, f17, (arg18.view.writes (Elt Ideal) f18 L18)
  isplitr
  · ipureintro; exact ⟨e1, e2⟩
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

set_option maxHeartbeats 6000000 in
/-- The first point's fill, its results named. -/
theorem fill_track (x2 : BufTy.Contents (Elt Ideal) arg2.view.ty) (x5 : BufTy.Contents (Elt Ideal) arg5.view.ty) (x7 : BufTy.Contents (Elt Ideal) arg7.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (H : Hd)
    (h : First H arg2 arg5 arg7 x2 x5 x7) (E : Set ℕ) (kk : Unit → Prog (TpuEff nD τ sig (Elt Ideal) Λ₀ .tc) PUnit) (K : PUnit → sProp 𝕄) :
    iprop(pt (F := Ideal) c arg2 x2 ∗ pt (F := Ideal) c arg5 x5 ∗ pt (F := Ideal) c arg7 x7 ∗ pt (F := Ideal) c arg12 f12 ∗ pt (F := Ideal) c arg13 f13 ∗ pt (F := Ideal) c arg14 f14 ∗ pt (F := Ideal) c arg15 f15 ∗ pt (F := Ideal) c arg16 f16 ∗ pt (F := Ideal) c arg17 f17 ∗ pt (F := Ideal) c arg18 f18
      ∗ (iprop(pt (F := Ideal) c arg2 x2 ∗ pt (F := Ideal) c arg5 x5 ∗ pt (F := Ideal) c arg7 x7 ∗ (∃ g12 g13 g14 g15 g16 g17 g18,
          ⌜Held H 0 arg12 arg13 arg14 arg15 arg16 arg17 arg18 g12 g13 g14 g15 g16 g17 g18⌝ ∗ pt (F := Ideal) c arg12 g12 ∗ pt (F := Ideal) c arg13 g13 ∗ pt (F := Ideal) c arg14 g14 ∗ pt (F := Ideal) c arg15 g15 ∗ pt (F := Ideal) c arg16 g16 ∗ pt (F := Ideal) c arg17 g17 ∗ pt (F := Ideal) c arg18 g18))
          -∗ wp frame (wpE (defs₀ (F := Ideal)) Variants.none c none) E (kk ⟨⟩) K))
    ⊢ wp frame (wpE (defs₀ (F := Ideal)) Variants.none c none) E (do fillProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18; kk ⟨⟩) K := by
  have e1 := held_fill c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x2 x5 x7 f12 f13 f14 f15 f16 f17 f18 H h
  have r := (fillRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x2 x5 x7).2.2.2.2.2.2.2 E f12 f13 f14 f15 f16 f17 f18 kk K
  unfold Fl.run at e1
  dsimp only at e1
  generalize (fillRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x2 x5 x7) = R at e1 r
  obtain ⟨L12, L13, L14, L15, L16, L17, L18, _⟩ := R
  dsimp only at e1 r
  iintro ⟨H2, H5, H7, H12, H13, H14, H15, H16, H17, H18, HK⟩
  iapply r
  isplitl [H2]; · iexact H2
  isplitl [H5]; · iexact H5
  isplitl [H7]; · iexact H7
  isplitl [H12]; · iexact H12
  isplitl [H13]; · iexact H13
  isplitl [H14]; · iexact H14
  isplitl [H15]; · iexact H15
  isplitl [H16]; · iexact H16
  isplitl [H17]; · iexact H17
  isplitl [H18]; · iexact H18
  iintro ⟨H2, H5, H7, H12, H13, H14, H15, H16, H17, H18⟩
  iapply HK
  isplitl [H2]; · iexact H2
  isplitl [H5]; · iexact H5
  isplitl [H7]; · iexact H7
  iexists (arg12.view.writes (Elt Ideal) f12 L12), (arg13.view.writes (Elt Ideal) f13 L13), (arg14.view.writes (Elt Ideal) f14 L14), (arg15.view.writes (Elt Ideal) f15 L15), (arg16.view.writes (Elt Ideal) f16 L16), (arg17.view.writes (Elt Ideal) f17 L17), (arg18.view.writes (Elt Ideal) f18 L18)
  isplitr
  · ipureintro; exact e1
  isplitl [H12]; · iexact H12
  isplitl [H13]; · iexact H13
  isplitl [H14]; · iexact H14
  isplitl [H15]; · iexact H15
  isplitl [H16]; · iexact H16
  isplitl [H17]; · iexact H17
  iexact H18

end

/-- One grid point of a head: a first point finds the head's blocks, a later one what the point before left; either
leaves its results and the scratch buffers one block of keys further. -/
theorem body_track (c : Dev nD) (i : grid0.Coords) (arg2 : Memref sig .tc .vmem S4096x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S4096x128 .f32) (harg5 : arg5.IsWhole) (arg6 : Memref sig .tc .vmem S1x1x4096 .f32) (harg6 : arg6.IsWhole) (arg7 : Memref sig .tc .vmem S4096x128 .f32) (harg7 : arg7.IsWhole) (arg8 : Memref sig .tc .vmem S1024x128 .f32) (harg8 : arg8.IsWhole) (arg9 : Memref sig .tc .hbm S4096x7680 .bf16) (harg9 : arg9.IsWhole) (arg10 : Memref sig .tc .vmem S1024x384 .bf16) (harg10 : arg10.IsWhole) (arg11 : Memref sig .tc .vmem S1x1x1024 .f32) (harg11 : arg11.IsWhole) (arg12 : Memref sig .tc .vmem S1x1x4096 .f32) (harg12 : arg12.IsWhole) (arg13 : Memref sig .tc .vmem S4096x128 .bf16) (harg13 : arg13.IsWhole) (arg14 : Memref sig .tc .vmem S128x4096 .bf16) (harg14 : arg14.IsWhole) (arg15 : Memref sig .tc .vmem S4096x128 .bf16) (harg15 : arg15.IsWhole) (arg16 : Memref sig .tc .vmem S128x4096 .bf16) (harg16 : arg16.IsWhole) (arg17 : Memref sig .tc .vmem S1x4096 .f32) (harg17 : arg17.IsWhole) (arg18 : Memref sig .tc .vmem S128x4096 .f32) (harg18 : arg18.IsWhole)
    (x2 : BufTy.Contents (Elt Ideal) arg2.view.ty) (x3 : BufTy.Contents (Elt Ideal) arg3.view.ty) (x4 : BufTy.Contents (Elt Ideal) arg4.view.ty) (x5 : BufTy.Contents (Elt Ideal) arg5.view.ty) (x6 : BufTy.Contents (Elt Ideal) arg6.view.ty) (x7 : BufTy.Contents (Elt Ideal) arg7.view.ty) (x8 : BufTy.Contents (Elt Ideal) arg8.view.ty)
    (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (H : Hd)
    (h1 : condJ i → First H arg2 arg5 arg7 x2 x5 x7 ∧ (i 1).val = 0)
    (h2 : ¬ condJ i → Held H (i 1).val arg12 arg13 arg14 arg15 arg16 arg17 arg18 f12 f13 f14 f15 f16 f17 f18)
    (hb : Block H i arg3 arg4 arg6 arg8 x3 x4 x6 x8) (E : Set ℕ) (K : PUnit → sProp 𝕄) :
    iprop(pt (F := Ideal) c arg2 x2 ∗ pt (F := Ideal) c arg3 x3 ∗ pt (F := Ideal) c arg4 x4 ∗ pt (F := Ideal) c arg5 x5 ∗ pt (F := Ideal) c arg6 x6 ∗ pt (F := Ideal) c arg7 x7 ∗ pt (F := Ideal) c arg8 x8 ∗ pt (F := Ideal) c arg10 f10 ∗ pt (F := Ideal) c arg11 f11 ∗ pt (F := Ideal) c arg12 f12 ∗ pt (F := Ideal) c arg13 f13 ∗ pt (F := Ideal) c arg14 f14 ∗ pt (F := Ideal) c arg15 f15 ∗ pt (F := Ideal) c arg16 f16 ∗ pt (F := Ideal) c arg17 f17 ∗ pt (F := Ideal) c arg18 f18
      ∗ (iprop(pt (F := Ideal) c arg2 x2 ∗ pt (F := Ideal) c arg3 x3 ∗ pt (F := Ideal) c arg4 x4 ∗ pt (F := Ideal) c arg5 x5 ∗ pt (F := Ideal) c arg6 x6 ∗ pt (F := Ideal) c arg7 x7 ∗ pt (F := Ideal) c arg8 x8 ∗ (∃ g10 g11 g12 g13 g14 g15 g16 g17 g18,
          ⌜Held H ((i 1).val + 1) arg12 arg13 arg14 arg15 arg16 arg17 arg18 g12 g13 g14 g15 g16 g17 g18 ∧ Out H (i 1).val arg10 arg11 g10 g11⌝ ∗ pt (F := Ideal) c arg10 g10 ∗ pt (F := Ideal) c arg11 g11 ∗ pt (F := Ideal) c arg12 g12 ∗ pt (F := Ideal) c arg13 g13 ∗ pt (F := Ideal) c arg14 g14 ∗ pt (F := Ideal) c arg15 g15 ∗ pt (F := Ideal) c arg16 g16 ∗ pt (F := Ideal) c arg17 g17 ∗ pt (F := Ideal) c arg18 g18)) -∗ K ⟨⟩))
    ⊢ wp frame (wpE (defs₀ (F := Ideal)) Variants.none c none) E (cc0_attn_bwd (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  by_cases hi : condJ i
  · rw [body_first i hi, (h1 hi).2]
    iintro ⟨H2, H3, H4, H5, H6, H7, H8, H10, H11, H12, H13, H14, H15, H16, H17, H18, HK⟩
    iapply (fill_track c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x2 x5 x7 f12 f13 f14 f15 f16 f17 f18 H (h1 hi).1 E (fun _ => tailProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K)
    isplitl [H2]; · iexact H2
    isplitl [H5]; · iexact H5
    isplitl [H7]; · iexact H7
    isplitl [H12]; · iexact H12
    isplitl [H13]; · iexact H13
    isplitl [H14]; · iexact H14
    isplitl [H15]; · iexact H15
    isplitl [H16]; · iexact H16
    isplitl [H17]; · iexact H17
    isplitl [H18]; · iexact H18
    iintro ⟨H2, H5, H7, ⟨%g12, %g13, %g14, %g15, %g16, %g17, %g18, %hH, H12, H13, H14, H15, H16, H17, H18⟩⟩
    iapply (tail_track c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x6 x8 f10 f11 g12 g13 g14 g15 g16 g17 g18 H 0 (h1 hi).2.symm hH hb E K)
    isplitl [H3]; · iexact H3
    isplitl [H4]; · iexact H4
    isplitl [H6]; · iexact H6
    isplitl [H8]; · iexact H8
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iintro ⟨H3, H4, H6, H8, HR⟩
    iapply HK
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HR
  · rw [body_later i hi]
    iintro ⟨H2, H3, H4, H5, H6, H7, H8, H10, H11, H12, H13, H14, H15, H16, H17, H18, HK⟩
    iapply (tail_track c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x6 x8 f10 f11 f12 f13 f14 f15 f16 f17 f18 H (i 1).val rfl (h2 hi) hb E K)
    isplitl [H3]; · iexact H3
    isplitl [H4]; · iexact H4
    isplitl [H6]; · iexact H6
    isplitl [H8]; · iexact H8
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iintro ⟨H3, H4, H6, H8, HR⟩
    iapply HK
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HR

end Cert.KernelIdeal.Track

end
-- ==== Proof.HeadValue.lean ====
module

public import proofs.«01_k».proof.Proof.PointValue
public import Idealize.ShloMosaic.Lib.Pipeline.ValueKit

/-! The blocks the windows of the attention backward call hold at a grid point, as one head's arrays. -/

@[expose] public section

set_option maxRecDepth 16384

noncomputable section

namespace Cert.KernelIdeal.Pay

open Idealize.ShloMosaic hiding ix1 ix2 ix3
open Idealize.ShloMosaic.ValueIdx Idealize.ShloMosaic.Pipeline
open Cert.KernelIdeal Cert.KernelIdeal.Gen Cert.KernelIdeal.Hand

/-- A head's column `k` of the projection: the heads' queries, keys and values are stacked after 4608 columns. -/
def pcol (h k : ℕ) : Fin 7680 := ⟨(4608 + 384 * h + k) % 7680, Nat.mod_lt _ (by omega)⟩
/-- A head's column of an array of eight heads side by side. -/
def hcol (h k : ℕ) : Fin 1024 := ⟨(128 * h + k) % 1024, Nat.mod_lt _ (by omega)⟩
/-- A head's index. -/
def hidx (h : ℕ) : Fin 8 := ⟨h % 8, Nat.mod_lt _ (by omega)⟩

theorem pcol_val {h k : ℕ} (hh : h < 8) (hk : k < 384) : (pcol h k).val = 4608 + 384 * h + k := Nat.mod_eq_of_lt (by omega)
theorem hcol_val {h k : ℕ} (hh : h < 8) (hk : k < 128) : (hcol h k).val = 128 * h + k := Nat.mod_eq_of_lt (by omega)
theorem hidx_val {h : ℕ} (hh : h < 8) : (hidx h).val = h := Nat.mod_eq_of_lt hh

variable (m : (ℓ : Loc nD τ sig) → Buf (Elt Ideal) ℓ)

/-- The projection the call is launched on. -/
def aP (c : Dev nD) : S4096x7680.Idx → EReal := V m c main_v53
/-- The gradient of the outputs. -/
def aDY (c : Dev nD) : S4096x1024.Idx → EReal := V m c main_arg4
/-- The rows' terms. -/
def aE (c : Dev nD) : S8x1x4096.Idx → EReal := V m c main_v40
/-- The rows' dot products. -/
def aDL (c : Dev nD) : S4096x1024.Idx → EReal := V m c main_v46
/-- The keys' gates, the heads side by side. -/
def aG (c : Dev nD) : S4096x128.Idx → EReal := V m c main_v54

/-- Head `h` of the arrays the call is launched on. -/
def head (c : Dev nD) (h : ℕ) : Hd where
  Q x d := aP m c (ix2 x (pcol h d.val)) * sc
  K x d := aP m c (ix2 x (pcol h (128 + d.val)))
  V x d := aP m c (ix2 x (pcol h (256 + d.val)))
  DY x d := aDY m c (ix2 x (hcol h d.val))
  E x := aE m c (ix3 (hidx h) 0 x)
  DL x := aDL m c (ix2 x (hcol h 0))
  CG g := ∑ l : Fin 128, if l.val = h then aG m c (ix2 g l) else 0

theorem coord0 : ∀ t : Fin cfg0.N, (grid0.coords t 0).val = t.val / 4 := (by decide +kernel : ∀ t : Fin grid0.N, (grid0.coords t 0).val = t.val / 4)
theorem coord1 : ∀ t : Fin cfg0.N, (grid0.coords t 1).val = t.val % 4 := (by decide +kernel : ∀ t : Fin grid0.N, (grid0.coords t 1).val = t.val % 4)
theorem pt_lt (t : Fin cfg0.N) : t.val < 32 := t.isLt

theorem index0 : ∀ t : Fin cfg0.N, win0_0.index t = ![0, 36 + 3 * (t.val / 4)] := (by decide +kernel : ∀ t : Fin grid0.N, win0_0.index t = ![0, 36 + 3 * (t.val / 4)])
theorem index1 : ∀ t : Fin cfg0.N, win0_1.index t = ![t.val % 4, 37 + 3 * (t.val / 4)] := (by decide +kernel : ∀ t : Fin grid0.N, win0_1.index t = ![t.val % 4, 37 + 3 * (t.val / 4)])
theorem index2 : ∀ t : Fin cfg0.N, win0_2.index t = ![t.val % 4, 38 + 3 * (t.val / 4)] := (by decide +kernel : ∀ t : Fin grid0.N, win0_2.index t = ![t.val % 4, 38 + 3 * (t.val / 4)])
theorem index3 : ∀ t : Fin cfg0.N, win0_3.index t = ![0, t.val / 4] := (by decide +kernel : ∀ t : Fin grid0.N, win0_3.index t = ![0, t.val / 4])
theorem index4 : ∀ t : Fin cfg0.N, win0_4.index t = ![t.val / 4, 0, 0] := (by decide +kernel : ∀ t : Fin grid0.N, win0_4.index t = ![t.val / 4, 0, 0])
theorem index5 : ∀ t : Fin cfg0.N, win0_5.index t = ![0, t.val / 4] := (by decide +kernel : ∀ t : Fin grid0.N, win0_5.index t = ![0, t.val / 4])
theorem index6 : ∀ t : Fin cfg0.N, win0_6.index t = ![t.val % 4, 0] := (by decide +kernel : ∀ t : Fin grid0.N, win0_6.index t = ![t.val % 4, 0])
theorem index7 : ∀ t : Fin cfg0.N, win0_7.index t = ![t.val % 4, 12 + t.val / 4] := (by decide +kernel : ∀ t : Fin grid0.N, win0_7.index t = ![t.val % 4, 12 + t.val / 4])
theorem index8 : ∀ t : Fin cfg0.N, win0_8.index t = ![t.val / 4, 0, t.val % 4] := (by decide +kernel : ∀ t : Fin grid0.N, win0_8.index t = ![t.val / 4, 0, t.val % 4])
theorem index9 : ∀ t : Fin cfg0.N, win0_9.index t = ![t.val / 4, 0, 0] := (by decide +kernel : ∀ t : Fin grid0.N, win0_9.index t = ![t.val / 4, 0, 0])

variable (c : Dev nD) (t : Fin cfg0.N)

/-- The queries of a head. -/
theorem block_q (x : Fin 4096) (d : Fin 128) : iblk m c 0 t (ix2 x d) = V m c main_v53 (ix2 x (pcol (t.val / 4) d.val)) := by
  have h1 := pt_lt t
  have h2 := d.isLt
  have e := pcol_val (h := t.val / 4) (k := d.val) (by omega) (by omega)
  blk_simp [iblk]
  refine congrArg (V m c main_v53) ?_
  funext a
  match a with
  | ⟨0, _⟩ => refine Fin.ext ?_; blk_simp [index0]
  | ⟨1, _⟩ => refine Fin.ext ?_; blk_simp [index0]; show (36 + 3 * (t.val / 4)) * 128 + d.val = (pcol (t.val / 4) d.val).val; omega
/-- A block of keys. -/
theorem block_k (r : Fin 1024) (d : Fin 128) : iblk m c 1 t (ix2 r d) = V m c main_v53 (ix2 (col (t.val % 4) r) (pcol (t.val / 4) (128 + d.val))) := by
  have h1 := pt_lt t
  have h2 := d.isLt
  have e := pcol_val (h := t.val / 4) (k := 128 + d.val) (by omega) (by omega)
  have e2 := col_val (b := t.val % 4) (by omega) r
  blk_simp [iblk]
  refine congrArg (V m c main_v53) ?_
  funext a
  match a with
  | ⟨0, _⟩ => refine Fin.ext ?_; blk_simp [index1]; show t.val % 4 * 1024 + r.val = (col (t.val % 4) r).val; omega
  | ⟨1, _⟩ => refine Fin.ext ?_; blk_simp [index1]; show (37 + 3 * (t.val / 4)) * 128 + d.val = (pcol (t.val / 4) (128 + d.val)).val; omega
/-- A block of values. -/
theorem block_v (r : Fin 1024) (d : Fin 128) : iblk m c 2 t (ix2 r d) = V m c main_v53 (ix2 (col (t.val % 4) r) (pcol (t.val / 4) (256 + d.val))) := by
  have h1 := pt_lt t
  have h2 := d.isLt
  have e := pcol_val (h := t.val / 4) (k := 256 + d.val) (by omega) (by omega)
  have e2 := col_val (b := t.val % 4) (by omega) r
  blk_simp [iblk]
  refine congrArg (V m c main_v53) ?_
  funext a
  match a with
  | ⟨0, _⟩ => refine Fin.ext ?_; blk_simp [index2]; show t.val % 4 * 1024 + r.val = (col (t.val % 4) r).val; omega
  | ⟨1, _⟩ => refine Fin.ext ?_; blk_simp [index2]; show (38 + 3 * (t.val / 4)) * 128 + d.val = (pcol (t.val / 4) (256 + d.val)).val; omega
/-- The gradient of a head's outputs. -/
theorem block_dy (x : Fin 4096) (d : Fin 128) : iblk m c 3 t (ix2 x d) = V m c main_arg4 (ix2 x (hcol (t.val / 4) d.val)) := by
  have h1 := pt_lt t
  have h2 := d.isLt
  have e := hcol_val (h := t.val / 4) (k := d.val) (by omega) (by omega)
  blk_simp [iblk]
  refine congrArg (V m c main_arg4) ?_
  funext a
  match a with
  | ⟨0, _⟩ => refine Fin.ext ?_; blk_simp [index3]
  | ⟨1, _⟩ => refine Fin.ext ?_; blk_simp [index3]; show t.val / 4 * 128 + d.val = (hcol (t.val / 4) d.val).val; omega
/-- The rows' dot products of a head. -/
theorem block_dl (x : Fin 4096) : iblk m c 5 t (ix2 x 0) = V m c main_v46 (ix2 x (hcol (t.val / 4) 0)) := by
  have h1 := pt_lt t
  have e := hcol_val (h := t.val / 4) (k := 0) (by omega) (by omega)
  blk_simp [iblk]
  refine congrArg (V m c main_v46) ?_
  funext a
  match a with
  | ⟨0, _⟩ => refine Fin.ext ?_; blk_simp [index5]
  | ⟨1, _⟩ => refine Fin.ext ?_; blk_simp [index5]; show t.val / 4 * 128 + 0 = (hcol (t.val / 4) 0).val; omega
/-- The keys' gates. -/
theorem block_g (r : Fin 1024) (l : Fin 128) : iblk m c 6 t (ix2 r l) = V m c main_v54 (ix2 (col (t.val % 4) r) l) := by
  have h1 := pt_lt t
  have e2 := col_val (b := t.val % 4) (by omega) r
  blk_simp [iblk]
  refine congrArg (V m c main_v54) ?_
  funext a
  match a with
  | ⟨0, _⟩ => refine Fin.ext ?_; blk_simp [index6]; show t.val % 4 * 1024 + r.val = (col (t.val % 4) r).val; omega
  | ⟨1, _⟩ => refine Fin.ext ?_; blk_simp [index6]
/-- The rows' terms of a head. -/
theorem block_e (x : Fin 4096) : iblk m c 4 t (ix3 0 0 x) = V m c main_v40 (ix3 (hidx (t.val / 4)) 0 x) := by
  have h1 := pt_lt t
  have e := hidx_val (h := t.val / 4) (by omega)
  blk_simp [iblk]
  refine congrArg (V m c main_v40) ?_
  funext a
  match a with
  | ⟨0, _⟩ => refine Fin.ext ?_; blk_simp [index4]; exact e.symm
  | ⟨1, _⟩ => refine Fin.ext ?_; blk_simp [index4]
  | ⟨2, _⟩ => refine Fin.ext ?_; blk_simp [index4]

section

variable {c t}

/-- A head's first point finds its queries, its outputs' gradient and its rows' dot products. -/
theorem first_of (arg2 : Memref sig .tc .vmem S4096x128 .f32) (arg5 : Memref sig .tc .vmem S4096x128 .f32) (arg7 : Memref sig .tc .vmem S4096x128 .f32)
    (x2 : BufTy.Contents (Elt Ideal) arg2.view.ty) (x5 : BufTy.Contents (Elt Ideal) arg5.view.ty) (x7 : BufTy.Contents (Elt Ideal) arg7.view.ty)
    (e2 : arg2.view.read (Elt Ideal) x2 = iblk m c 0 t) (e5 : arg5.view.read (Elt Ideal) x5 = iblk m c 3 t) (e7 : arg7.view.read (Elt Ideal) x7 = iblk m c 5 t) :
    First (head m c (t.val / 4)) arg2 arg5 arg7 x2 x5 x7 where
  q x d := by
    have e : (arg2.view.read (Elt Ideal) x2 (ix2 x d) : EReal) = V m c main_v53 (ix2 x (pcol (t.val / 4) d.val)) := (congrFun e2 _).trans (block_q m c t x d)
    exact congrArg (fun z : EReal => z * sc) e
  dy x d := (congrFun e5 _).trans (block_dy m c t x d)
  dl x := (congrFun e7 _).trans (block_dl m c t x)

/-- Every point finds its keys, its values, its keys' gates and its rows' terms. -/
theorem block_of (arg3 : Memref sig .tc .vmem S1024x128 .f32) (arg4 : Memref sig .tc .vmem S1024x128 .f32) (arg6 : Memref sig .tc .vmem S1x1x4096 .f32) (arg8 : Memref sig .tc .vmem S1024x128 .f32)
    (x3 : BufTy.Contents (Elt Ideal) arg3.view.ty) (x4 : BufTy.Contents (Elt Ideal) arg4.view.ty) (x6 : BufTy.Contents (Elt Ideal) arg6.view.ty) (x8 : BufTy.Contents (Elt Ideal) arg8.view.ty)
    (e3 : arg3.view.read (Elt Ideal) x3 = iblk m c 1 t) (e4 : arg4.view.read (Elt Ideal) x4 = iblk m c 2 t) (e6 : arg6.view.read (Elt Ideal) x6 = iblk m c 4 t)
    (e8 : arg8.view.read (Elt Ideal) x8 = iblk m c 6 t) :
    Block (head m c (t.val / 4)) (grid0.coords t) arg3 arg4 arg6 arg8 x3 x4 x6 x8 where
  k r d := by rw [coord1 t]; exact (congrFun e3 _).trans (block_k m c t r d)
  v r d := by rw [coord1 t]; exact (congrFun e4 _).trans (block_v m c t r d)
  g r := by
    rw [coord1 t, coord0 t]
    show _ = ∑ l : Fin 128, if l.val = t.val / 4 then aG m c (ix2 (col (t.val % 4) r) l) else 0
    refine Finset.sum_congr rfl fun l _ => ?_
    by_cases hl : l.val = t.val / 4
    · rw [if_pos hl, if_pos hl]
      exact (congrFun e8 _).trans (block_g m c t r l)
    · rw [if_neg hl, if_neg hl]
  e x := (congrFun e6 _).trans (block_e m c t x)

end

end Cert.KernelIdeal.Pay

end
-- ==== Proof.FrameTrack.lean ====
module

public import proofs.«01_k».proof.Proof.PointTrack
public import proofs.«01_k».proof.Proof.HeadValue

/-! The attention backward call's run over the extended reals with the values of its three results: what every window
and every scratch buffer holds between the grid points. -/

@[expose] public section

set_option maxRecDepth 16384
set_option maxHeartbeats 1000000

noncomputable section

namespace Cert.KernelIdeal.Track

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.KernelIdeal Cert.KernelIdeal.Gen Cert.KernelIdeal.Pay
open Cert.KernelIdeal.Hand (pt condJ)

local notation "𝕄" => MT nD τ sig Unit (Elt Ideal) ℕ (UR sig nD τ) ℕ

variable (m : (ℓ : Loc nD τ sig) → Buf (Elt Ideal) ℓ) (ρ : Dev nD → PrngReg)

/-- What a head's scratch buffers hold after `n` of its blocks of keys. -/
structure Scr (H : Hd) (n : ℕ) (g13 : BufTy.Contents (Elt Ideal) (Memref.whole cc0_scratch0).view.ty) (g14 : BufTy.Contents (Elt Ideal) (Memref.whole cc0_scratch1).view.ty) (g15 : BufTy.Contents (Elt Ideal) (Memref.whole cc0_scratch2).view.ty) (g16 : BufTy.Contents (Elt Ideal) (Memref.whole cc0_scratch3).view.ty) (g17 : BufTy.Contents (Elt Ideal) (Memref.whole cc0_scratch4).view.ty) (g18 : BufTy.Contents (Elt Ideal) (Memref.whole cc0_scratch5).view.ty) : Prop where
  q : ∀ x d, (Memref.whole cc0_scratch0).view.read (Elt Ideal) g13 (ValueIdx.ix2 x d) = H.Q x d
  qt : ∀ d x, (Memref.whole cc0_scratch1).view.read (Elt Ideal) g14 (ValueIdx.ix2 d x) = H.Q x d
  dy : ∀ x d, (Memref.whole cc0_scratch2).view.read (Elt Ideal) g15 (ValueIdx.ix2 x d) = H.DY x d
  dyt : ∀ d x, (Memref.whole cc0_scratch3).view.read (Elt Ideal) g16 (ValueIdx.ix2 d x) = H.DY x d
  dl : ∀ x, (Memref.whole cc0_scratch4).view.read (Elt Ideal) g17 (ValueIdx.ix2 0 x) = H.DL x
  acc : ∀ d x, (Memref.whole cc0_scratch5).view.read (Elt Ideal) g18 (ValueIdx.ix2 d x) = H.dq n x d

/-- The scratch buffers before point `n`: a head's partial results, anything before a head's first point. -/
def phi (c : Dev nD) (n : ℕ) : sProp 𝕄 :=
  iprop((∃ g13 g14 g15 g16 g17 g18, ⌜n % 4 ≠ 0 → Scr (head m c (n / 4)) (n % 4) g13 g14 g15 g16 g17 g18⌝ ∗ pt (F := Ideal) c (Memref.whole cc0_scratch0) g13 ∗ pt (F := Ideal) c (Memref.whole cc0_scratch1) g14 ∗ pt (F := Ideal) c (Memref.whole cc0_scratch2) g15 ∗ pt (F := Ideal) c (Memref.whole cc0_scratch3) g16 ∗ pt (F := Ideal) c (Memref.whole cc0_scratch4) g17 ∗ pt (F := Ideal) c (Memref.whole cc0_scratch5) g18) ∗ ∃ r, prngReg c r)

/-- Proof data: every input window holds its block, every output window the head's results so far. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (head m c (t.val / 4)).outBlock (t.val % 4)
    | ⟨8, _⟩ => (head m c (t.val / 4)).keyBlock (t.val % 4)
    | ⟨9, _⟩ => (head m c (t.val / 4)).rowBlock (t.val % 4 + 1)
  Φ t := phi m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d

theorem after0_7 (c : Dev nD) (t : Fin cfg0.N) : (dats m 0 c).after 7 t = (head m c (t.val / 4)).outBlock (t.val % 4) := by dsimp only [dats]
theorem after0_8 (c : Dev nD) (t : Fin cfg0.N) : (dats m 0 c).after 8 t = (head m c (t.val / 4)).keyBlock (t.val % 4) := by dsimp only [dats]
theorem after0_9 (c : Dev nD) (t : Fin cfg0.N) : (dats m 0 c).after 9 t = (head m c (t.val / 4)).rowBlock (t.val % 4 + 1) := by dsimp only [dats]

/-- Between two points of a head the row of results holds what the point before left. -/
theorem before0_9 (c : Dev nD) (t : Fin cfg0.N) (h : t.val % 4 ≠ 0) (d) : (dats m 0 c).before 9 t d = (head m c (t.val / 4)).rowBlock (t.val % 4) := by
  have ht : t.val ≠ 0 := fun e => h (by rw [e])
  have e1 : (t.val - 1) / 4 = t.val / 4 := by omega
  have e2 : (t.val - 1) % 4 + 1 = t.val % 4 := by omega
  refine ((dats m 0 c).before_out_kept 9 rfl t ht ?_ (fun _ => rfl) (fun _ _ => rfl) d).trans ?_
  · refine Bool.eq_false_iff.mpr fun hf => ?_
    have := (flush0_9 _).mp hf
    change (t.val - 1) % 4 = 3 at this
    omega
  · rw [after0_9]
    show (head m c ((t.val - 1) / 4)).rowBlock ((t.val - 1) % 4 + 1) = _
    rw [e1, e2]

/-- A head's first point. -/
theorem first_iff : ∀ t : Fin cfg0.N, condJ (grid0.coords t) ↔ t.val % 4 = 0 := by
  unfold condJ
  exact (by decide +kernel : ∀ t : Fin grid0.N, Scalar.cmpi .ne (Scalar.extui (Scalar.cmpi .eq (BitVec.ofNat 32 (grid0.coords t 1).val) 0#32) : BitVec 32) 0#32 = 1#1 ↔ t.val % 4 = 0)

/-- What a point's body is given. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)))
/-- What a point's body gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = phi m c (t.val + 1) from rfl,
    show (dats m 0 c).Φ t.castSucc = phi m c t.val from rfl]
  unfold phi
  unfold Dat.owesAt Pipeline.owesWithin
  rw [show (dats m 0 c).owed t.castSucc = 0 from rfl, show (dats m 0 c).owed t.succ = 0 from rfl]
  simp only [before0_0 m c t, after0_0 m c t, before0_1 m c t, after0_1 m c t, before0_2 m c t, after0_2 m c t, before0_3 m c t, after0_3 m c t, before0_4 m c t, after0_4 m c t, before0_5 m c t, after0_5 m c t, before0_6 m c t, after0_6 m c t, after0_7 m c t, after0_8 m c t, after0_9 m c t]
  unfold owns
  iintro ⟨⟨⟨%g13, %g14, %g15, %g16, %g17, %g18, %hs, S13, S14, S15, S16, S17, S18⟩, Hg⟩, ⟨%W, -, HW⟩, ⟨%d2, %x2, %e2, H2⟩, ⟨%d3, %x3, %e3, H3⟩, ⟨%d4, %x4, %e4, H4⟩, ⟨%d5, %x5, %e5, H5⟩, ⟨%d6, %x6, %e6, H6⟩, ⟨%d7, %x7, %e7, H7⟩, ⟨%d8, %x8, %e8, H8⟩, ⟨%d10, %x10, %e10, H10⟩, ⟨%d11, %x11, %e11, H11⟩, ⟨%d12, %x12, %e12, H12⟩⟩
  have hj := coord1 t
  have hr : t.val % 4 ≠ 0 → ∀ x : Fin 4096, (st0_9 t).view.read (Elt Ideal) x12 (ValueIdx.ix3 0 0 x) = (head m c (t.val / 4)).dcq (t.val % 4) x := fun h x => by
    rw [e12, before0_9 m c t h]; rfl
  iapply (body_track c (grid0.coords t) _ _ _ _ _ _ _ _ _ _ _ _ _ _ _ _ _ _ _ _ _ _ (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) x2 x3 x4 x5 x6 x7 x8 x10 x11 x12 g13 g14 g15 g16 g17 g18 (head m c (t.val / 4))
    (fun h => ⟨first_of m _ _ _ x2 x5 x7 e2 e5 e7, hj.trans ((first_iff t).mp h)⟩)
    (fun h => by
      have h4 : t.val % 4 ≠ 0 := fun e => h ((first_iff t).mpr e)
      rw [hj]
      exact ⟨hr h4, (hs h4).q, (hs h4).qt, (hs h4).dy, (hs h4).dyt, (hs h4).dl, (hs h4).acc⟩)
    (block_of m _ _ _ _ x3 x4 x6 x8 e3 e4 e6 e8) Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]; · iexact H10
  isplitl [H11]; · iexact H11
  isplitl [H12]; · iexact H12
  isplitl [S13]; · iexact S13
  isplitl [S14]; · iexact S14
  isplitl [S15]; · iexact S15
  isplitl [S16]; · iexact S16
  isplitl [S17]; · iexact S17
  isplitl [S18]; · iexact S18
  iintro ⟨H2, H3, H4, H5, H6, H7, H8, ⟨%y10, %y11, %y12, %y13, %y14, %y15, %y16, %y17, %y18, %hy, H10, H11, H12, S13, S14, S15, S16, S17, S18⟩⟩
  obtain ⟨hh, ho⟩ := hy
  rw [hj] at hh ho
  isplitl [S13 S14 S15 S16 S17 S18 Hg]
  · isplitl [S13 S14 S15 S16 S17 S18]
    · iexists y13, y14, y15, y16, y17, y18
      isplitr
      · ipureintro
        intro h
        have e1 : (t.val + 1) / 4 = t.val / 4 := by omega
        have e2 : (t.val + 1) % 4 = t.val % 4 + 1 := by omega
        rw [e1, e2]
        exact ⟨hh.q, hh.qt, hh.dy, hh.dyt, hh.dl, hh.acc⟩
      isplitl [S13]; · iexact S13
      isplitl [S14]; · iexact S14
      isplitl [S15]; · iexact S15
      isplitl [S16]; · iexact S16
      isplitl [S17]; · iexact S17
      iexact S18
    iexact Hg
  isplitl [HW]
  · iexists W; isplitr; · ipureintro; exact fun _ _ => Or.inl trivial
    iexact HW
  isplitl [H2]
  · iexists x2; isplitr; · ipureintro; exact e2
    iexact H2
  isplitl [H3]
  · iexists x3; isplitr; · ipureintro; exact e3
    iexact H3
  isplitl [H4]
  · iexists x4; isplitr; · ipureintro; exact e4
    iexact H4
  isplitl [H5]
  · iexists x5; isplitr; · ipureintro; exact e5
    iexact H5
  isplitl [H6]
  · iexists x6; isplitr; · ipureintro; exact e6
    iexact H6
  isplitl [H7]
  · iexists x7; isplitr; · ipureintro; exact e7
    iexact H7
  isplitl [H8]
  · iexists x8; isplitr; · ipureintro; exact e8
    iexact H8
  isplitl [H10]
  · iexists y10; isplitr; · ipureintro; exact ho.out
    iexact H10
  isplitl [H11]
  · iexists y11; isplitr; · ipureintro; exact ho.key
    iexact H11
  iexists y12; isplitr
  · ipureintro
    funext y
    have e : y = ValueIdx.ix3 0 0 (y 2) := funext fun a => match a with
      | ⟨0, _⟩ => Fin.ext (by have : (y 0).val < 1 := (y 0).isLt; show (y 0).val = 0; omega)
      | ⟨1, _⟩ => Fin.ext (by have : (y 1).val < 1 := (y 1).isLt; show (y 1).val = 0; omega)
      | ⟨2, _⟩ => rfl
    rw [e]
    exact hh.row (y 2)
  iexact H12

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligationLoose (dats m 0 c) (defs₀ (F := Ideal)) Variants.none () Set.univ := fun t => by
  rw [bigSep_W0, bigSep_W0, defs₀_row]
  exact triple_restated (sound_body m c t) rfl .rfl fun _ => .rfl

/-- A whole buffer at contents `f`, said of the memref that spans it. -/
theorem pt_whole (c : Dev nD) (b : Ref sig .tc) (f : Buf (Elt Ideal) ((c.tc : Thread nD τ).loc b)) :
    (iprop((Memref.whole b).view.loc (c : Thread nD τ) ↦[(Memref.whole b).view.set]{fullShare} f) : sProp 𝕄)
      = iprop(((c : Thread nD τ).loc b) ↦{fullShare} f) := by
  rw [show (Memref.whole b).view.set = Finset.univ from View.set_whole b]

/-- The six scratch buffers at anything. -/
theorem scoped_pt (c : Dev nD) :
    (Pipeline.scopedRest (Ix := Unit) (Name := ℕ) (U := UR sig nD τ) (Lvl := ℕ) (Val := Elt Ideal) spec0 c : sProp 𝕄)
      = iprop((∃ f, pt (F := Ideal) c (Memref.whole cc0_scratch0) f) ∗ (∃ f, pt (F := Ideal) c (Memref.whole cc0_scratch1) f) ∗ (∃ f, pt (F := Ideal) c (Memref.whole cc0_scratch2) f) ∗ (∃ f, pt (F := Ideal) c (Memref.whole cc0_scratch3) f) ∗ (∃ f, pt (F := Ideal) c (Memref.whole cc0_scratch4) f) ∗ (∃ f, pt (F := Ideal) c (Memref.whole cc0_scratch5) f)) := by
  rw [scopedRest0_eq]
  unfold pt
  have h0 := fun f => pt_whole c cc0_scratch0 f
  have h1 := fun f => pt_whole c cc0_scratch1 f
  have h2 := fun f => pt_whole c cc0_scratch2 f
  have h3 := fun f => pt_whole c cc0_scratch3 f
  have h4 := fun f => pt_whole c cc0_scratch4 f
  have h5 := fun f => pt_whole c cc0_scratch5 f
  simp only [h0, h1, h2, h3, h4, h5]

/-- The scratch buffers of the launch are those before the first point. -/
theorem phi_in (c : Dev nD) : Pipeline.ΦA spec0 c ⊢ phi m c 0 := by
  unfold Pipeline.ΦA phi
  rw [scoped_pt]
  iintro ⟨⟨⟨%g13, S13⟩, ⟨%g14, S14⟩, ⟨%g15, S15⟩, ⟨%g16, S16⟩, ⟨%g17, S17⟩, ⟨%g18, S18⟩⟩, Hg⟩
  isplitl [S13 S14 S15 S16 S17 S18]
  · iexists g13, g14, g15, g16, g17, g18
    isplitr
    · ipureintro; intro h; exact absurd rfl h
    isplitl [S13]; · iexact S13
    isplitl [S14]; · iexact S14
    isplitl [S15]; · iexact S15
    isplitl [S16]; · iexact S16
    isplitl [S17]; · iexact S17
    iexact S18
  iexact Hg

/-- The scratch buffers after any point are buffers at something. -/
theorem phi_out (c : Dev nD) (n : ℕ) : phi m c n ⊢ Pipeline.ΦA spec0 c := by
  unfold Pipeline.ΦA phi
  rw [scoped_pt]
  iintro ⟨⟨%g13, %g14, %g15, %g16, %g17, %g18, -, S13, S14, S15, S16, S17, S18⟩, Hg⟩
  isplitl [S13 S14 S15 S16 S17 S18]
  · isplitl [S13]; · iexists g13; iexact S13
    isplitl [S14]; · iexists g14; iexact S14
    isplitl [S15]; · iexists g15; iexact S15
    isplitl [S16]; · iexists g16; iexact S16
    isplitl [S17]; · iexists g17; iexact S17
    iexists g18; iexact S18
  iexact Hg

set_option backward.isDefEq.respectTransparency.types false in
/-- The run of the whole program, every window's array named. -/
theorem run_main : θ_run defs (onTc (τ := τ) (main (F := Ideal))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => body_obligation m c) (hq := fun _ _ _ => rfl)
    (howed := fun _ _ => rfl) (V := V m) (hmain := hmain m Variants.none) (hA := A_eq m)
    (hin := phi_in m) (hout := fun c => phi_out m c _)

end Cert.KernelIdeal.Track

end
-- ==== Proof.OutValue.lean ====
module

public import proofs.«01_k».proof.Proof.FrameTrack
public import Idealize.ShloMosaic.Lib.Pipeline.ValueKit

/-! The three arrays the attention backward call leaves, as functions of the heads' arrays. -/

@[expose] public section

set_option maxRecDepth 16384

noncomputable section

namespace Cert.KernelIdeal.Track

open Idealize.ShloMosaic hiding ix1 ix2 ix3
open Idealize.ShloMosaic.ValueIdx Idealize.ShloMosaic.Pipeline Idealize.SL.Sem
open Cert.KernelIdeal Cert.KernelIdeal.Gen Cert.KernelIdeal.Pay

variable (m : (ℓ : Loc nD τ sig) → Buf (Elt Ideal) ℓ) (c : Dev nD)

/-- A row of a head's three gradients side by side: the queries', the keys' and the values'. -/
def outAt (H : Hd) (x : Fin 4096) (k : ℕ) : EReal :=
  if h : k < 128 then H.dq (x.val / 1024 + 1) x ⟨k, h⟩
  else if h : k < 256 then H.dk x ⟨k - 128, by omega⟩
  else H.dv x ⟨(k - 256) % 128, Nat.mod_lt _ (by omega)⟩

/-- A block of rows of the three gradients. -/
theorem outBlock_eq (H : Hd) {j : ℕ} (hj : j < 4) (y : S1024x384.Idx) : H.outBlock j y = outAt H (col j (y 0)) (y 1).val := by
  have h0 : (y 0).val < 1024 := (y 0).isLt
  have e : (col j (y 0)).val / 1024 + 1 = j + 1 := by have := col_val hj (y 0); omega
  unfold Hd.outBlock outAt
  rw [e]

/-- The projection's gradient: the columns of the earlier parts as they came, then the heads' gradients. -/
def outArr : S4096x7680.Idx → EReal := fun i =>
  if (i 1).val < 4608 then V m c main_v55_0 i else outAt (head m c (((i 1).val - 4608) / 384)) (i 0) (((i 1).val - 4608) % 384)
/-- The keys' gates' gradient. -/
def keyArr : S8x1x4096.Idx → EReal := fun i => (head m c (i 0).val).dck (i 2)
/-- The queries' gates' gradient. -/
def rowArr : S8x1x4096.Idx → EReal := fun i => (head m c (i 0).val).dcq 4 (i 2)

/-- The projection's gradient after the call. -/
theorem arr7 : (dats m 0 c).arrAt 7 cfg0.N = outArr m c := by
  refine Dat.arrAt_eq_of_coversWhere_of_agree (dat := dats m 0 c) 7 (outArr m c) (Q := fun β => 12 ≤ β 1) (by decide +kernel) (fun t hf y => ?_) (fun j hj => ?_)
  · have ht := pt_lt t
    have h0 : (y 0).val < 1024 := (y 0).isLt
    have h1 : (y 1).val < 384 := (y 1).isLt
    have e0 : ((win0_7.blk t).view.emb y 0).val = t.val % 4 * 1024 + (y 0).val := by blk_simp [index7]
    have e1 : ((win0_7.blk t).view.emb y 1).val = (12 + t.val / 4) * 384 + (y 1).val := by blk_simp [index7]
    blk_simp
    rw [after0_7]
    refine (outBlock_eq _ (by omega) _).trans ?_
    have ec := col_val (b := t.val % 4) (by omega) (y 0)
    unfold outArr
    rw [if_neg (by rw [e1]; omega)]
    have a1 : t.val / 4 = (((win0_7.blk t).view.emb y 1).val - 4608) / 384 := by rw [e1]; omega
    have a2 : (y 1).val = (((win0_7.blk t).view.emb y 1).val - 4608) % 384 := by rw [e1]; omega
    have a3 : col (t.val % 4) (y 0) = (win0_7.blk t).view.emb y 0 := Fin.ext (by rw [e0]; omega)
    exact (congrArg (fun n => outAt (head m c n) _ _) a1).trans ((congrArg (fun x => outAt _ x _) a3).trans (congrArg (fun k => outAt _ _ k) a2))
  · have h1 : (j 1).val < 7680 := (j 1).isLt
    blk_simp [Pipeline.Window.cell_apply] at hj
    have e : (((cfg0.win 7).arr.view.emb j) 1).val = (j 1).val := by blk_simp
    unfold outArr
    rw [if_pos (by rw [e]; omega)]
    exact congrFun (A_eq m c 7) _

/-- The keys' gates' gradient after the call. -/
theorem arr8 : (dats m 0 c).arrAt 8 cfg0.N = keyArr m c := by
  refine Dat.arrAt_eq_of_covers (dat := dats m 0 c) 8 (keyArr m c) (by decide +kernel) (fun t hf y => ?_)
  have ht := pt_lt t
  have h0 : (y 0).val < 1 := (y 0).isLt
  have e0 : ((win0_8.blk t).view.emb y 0).val = t.val / 4 + (y 0).val := by blk_simp [index8]
  have e2 : ((win0_8.blk t).view.emb y 2).val = t.val % 4 * 1024 + (y 2).val := by blk_simp [index8]
  have ec := col_val (b := t.val % 4) (by omega) (y 2)
  blk_simp
  rw [after0_8]
  unfold Hd.keyBlock keyArr
  have a1 : t.val / 4 = ((win0_8.blk t).view.emb y 0).val := by rw [e0]; omega
  have a2 : col (t.val % 4) (y 2) = (win0_8.blk t).view.emb y 2 := Fin.ext (by rw [e2]; omega)
  exact (congrArg (fun n => (head m c n).dck _) a1).trans (congrArg (fun x => Hd.dck _ x) a2)

/-- A head's row of results leaves its window at the head's last point. -/
theorem flush9 : ∀ t : Fin cfg0.N, (cfg0.win 9).flush t = true → t.val % 4 = 3 := by decide +kernel

/-- The queries' gates' gradient after the call. -/
theorem arr9 : (dats m 0 c).arrAt 9 cfg0.N = rowArr m c := by
  refine Dat.arrAt_eq_of_covers (dat := dats m 0 c) 9 (rowArr m c) (by decide +kernel) (fun t hf y => ?_)
  have ht := pt_lt t
  have h3 := flush9 t hf
  have h0 : (y 0).val < 1 := (y 0).isLt
  have e0 : ((win0_9.blk t).view.emb y 0).val = t.val / 4 + (y 0).val := by blk_simp [index9]
  have e2 : ((win0_9.blk t).view.emb y 2).val = (y 2).val := by blk_simp [index9]
  blk_simp
  rw [after0_9, h3]
  unfold Hd.rowBlock rowArr
  have a1 : t.val / 4 = ((win0_9.blk t).view.emb y 0).val := by rw [e0]; omega
  have a2 : (y 2 : Fin 4096) = (win0_9.blk t).view.emb y 2 := Fin.ext e2.symm
  exact (congrArg (fun n => (head m c n).dcq _ _) a1).trans (congrArg (fun x => Hd.dcq _ _ x) a2)

end Cert.KernelIdeal.Track

end
-- ==== Proof.RealHead.lean ====
module

public import proofs.«01_k».proof.Proof.PointValue

/-! One attention head over the real numbers: what the kernel's rows of probabilities and score gradients are, and that
the plain backward pass gives the same ones. -/

@[expose] public section

noncomputable section

namespace Cert.KernelIdeal.Pay

open Idealize.ShloMosaic

/-- A sum of reals is the sum of the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of reals by a positive real. -/
theorem div_real {y : ℝ} (h : 0 < y) (x : ℝ) : Ideal.div (x : EReal) (y : EReal) = ((x / y : ℝ) : EReal) := by
  rw [Ideal.div_coe h.ne', ← EReal.coe_mul, mul_one_div]

/-- One head's inputs as reals: the scaled queries, the keys, the values, the gradient of the outputs, the gates, and a
bound for every row's scores. -/
structure RHd where
  Q : Fin 4096 → Fin 128 → ℝ
  K : Fin 4096 → Fin 128 → ℝ
  V : Fin 4096 → Fin 128 → ℝ
  DY : Fin 4096 → Fin 128 → ℝ
  C : Fin 4096 → ℝ
  M : Fin 4096 → ℝ

namespace RHd

variable (R : RHd)

/-- A query's gated score for a key. -/
def z (x g : Fin 4096) : ℝ := (∑ d, R.Q x d * R.K g d) + R.C x - R.C g
/-- The exponential of a score, less the row's bound; zero for a later key. -/
def e (x g : Fin 4096) : ℝ := if g.val ≤ x.val then Real.exp (R.z x g - R.M x) else 0
/-- A row's sum of exponentials. -/
def l (x : Fin 4096) : ℝ := ∑ g, R.e x g
/-- A query's probability of a key. -/
def p (x g : Fin 4096) : ℝ := R.e x g / R.l x
/-- A query's output. -/
def y (x : Fin 4096) (d : Fin 128) : ℝ := ∑ g, R.p x g * R.V g d
/-- The gradient of a probability. -/
def dp (x g : Fin 4096) : ℝ := ∑ d, R.DY x d * R.V g d
/-- A row's product of the outputs and their gradient. -/
def delta (x : Fin 4096) : ℝ := ∑ d, R.DY x d * R.y x d
/-- The gradient of a score. -/
def ds (x g : Fin 4096) : ℝ := R.p x g * (R.dp x g - R.delta x)

/-- Every exponential is at least zero. -/
theorem e_nonneg (x g : Fin 4096) : 0 ≤ R.e x g := by
  unfold e; split
  · exact (Real.exp_pos _).le
  · exact le_rfl

/-- A row's sum is positive. -/
theorem l_pos (x : Fin 4096) : 0 < R.l x :=
  lt_of_lt_of_le (by unfold e; rw [if_pos le_rfl]; exact Real.exp_pos _)
    (Finset.single_le_sum (f := fun g => R.e x g) (fun g _ => R.e_nonneg x g) (Finset.mem_univ x))

/-- A later key has no probability. -/
theorem p_late {x g : Fin 4096} (h : ¬ g.val ≤ x.val) : R.p x g = 0 := by
  unfold p e; rw [if_neg h, zero_div]

/-- A later key's score has no gradient. -/
theorem ds_late {x g : Fin 4096} (h : ¬ g.val ≤ x.val) : R.ds x g = 0 := by
  unfold ds; rw [R.p_late h, zero_mul]

/-- A row's product of outputs and gradient is the mean of its probabilities' gradients. -/
theorem delta_eq (x : Fin 4096) : R.delta x = ∑ g, R.p x g * R.dp x g := by
  unfold delta y dp
  simp only [Finset.mul_sum]
  rw [Finset.sum_comm]
  exact Finset.sum_congr rfl fun g _ => Finset.sum_congr rfl fun d _ => by ring

/-- The probability as one exponential, the logarithm of the row's sum taken from the score. -/
theorem p_exp {x g : Fin 4096} (h : g.val ≤ x.val) : R.p x g = Real.exp (R.z x g - (R.M x + Real.log (R.l x))) := by
  unfold p e
  rw [if_pos h, ← sub_sub, Real.exp_sub (R.z x g - R.M x), Real.exp_log (R.l_pos x)]

/-- The gradient of a score as a plain backward pass through the quotient gives it. -/
theorem ds_quot (x g : Fin 4096) :
    (R.dp x g / R.l x + -(∑ k, R.dp x k * (1 / (R.l x * R.l x)) * R.e x k)) * R.e x g = R.ds x g := by
  have hl := (R.l_pos x).ne'
  unfold ds
  rw [R.delta_eq]
  have : ∑ k, R.dp x k * (1 / (R.l x * R.l x)) * R.e x k = (∑ k, R.p x k * R.dp x k) / R.l x := by
    rw [Finset.sum_div]
    refine Finset.sum_congr rfl fun k _ => ?_
    unfold p
    field_simp
  rw [this]
  unfold p
  field_simp
  ring

end RHd

/-- A head of the kernel's arrays holds a head of reals. -/
structure Is (H : Hd) (R : RHd) : Prop where
  q : ∀ x d, H.Q x d = (R.Q x d : EReal)
  k : ∀ x d, H.K x d = (R.K x d : EReal)
  v : ∀ x d, H.V x d = (R.V x d : EReal)
  dy : ∀ x d, H.DY x d = (R.DY x d : EReal)
  e : ∀ x, H.E x = ((R.C x - (R.M x + Real.log (R.l x)) : ℝ) : EReal)
  dl : ∀ x, H.DL x = (R.delta x : EReal)
  cg : ∀ x, H.CG x = (R.C x : EReal)

namespace Is

variable {H : Hd} {R : RHd} (I : Is H R)
include I

/-- The kernel's probabilities. -/
theorem p (g x : Fin 4096) : H.p g x = (R.p x g : EReal) := by
  unfold Hd.p
  by_cases h : g.val ≤ x.val
  · rw [if_pos h, R.p_exp h, I.e, I.cg]
    simp only [I.k, I.q, ← EReal.coe_mul]
    rw [← coe_sum, ← EReal.coe_add, ← EReal.coe_sub]
    refine (Ideal.exp_coe _).trans (congrArg (fun r : ℝ => ((Real.exp r : ℝ) : EReal)) ?_)
    unfold RHd.z
    rw [Finset.sum_congr rfl fun d _ => mul_comm (R.K g d) (R.Q x d)]
    ring
  · rw [if_neg h, R.p_late h]
    exact Ideal.exp_bot

/-- The kernel's score gradients. -/
theorem ds (g x : Fin 4096) : H.ds g x = (R.ds x g : EReal) := by
  unfold Hd.ds RHd.ds RHd.dp
  rw [I.p, I.dl]
  simp only [I.v, I.dy, ← EReal.coe_mul]
  rw [← coe_sum, ← EReal.coe_sub, ← EReal.coe_mul, Finset.sum_congr rfl fun d _ => mul_comm (R.V g d) (R.DY x d)]

/-- The keys' gradient. -/
theorem dk (g : Fin 4096) (d : Fin 128) : H.dk g d = ((∑ x, R.ds x g * R.Q x d : ℝ) : EReal) := by
  unfold Hd.dk
  rw [coe_sum]
  exact Finset.sum_congr rfl fun x _ => by rw [I.q, I.ds, ← EReal.coe_mul, mul_comm]

/-- The values' gradient. -/
theorem dv (g : Fin 4096) (d : Fin 128) : H.dv g d = ((∑ x, R.DY x d * R.p x g : ℝ) : EReal) := by
  unfold Hd.dv
  rw [coe_sum]
  exact Finset.sum_congr rfl fun x _ => by rw [I.dy, I.p, ← EReal.coe_mul]

/-- The gates' gradient at the keys. -/
theorem dck (g : Fin 4096) : H.dck g = ((∑ x, -R.ds x g : ℝ) : EReal) := by
  unfold Hd.dck
  rw [Finset.sum_congr rfl fun x _ => I.ds g x, ← coe_sum, Finset.sum_neg_distrib, EReal.coe_neg, zero_sub]

/-- The gates' gradient at the queries. -/
theorem dcq (x : Fin 4096) : H.dcq 4 x = ((∑ g, R.ds x g : ℝ) : EReal) := by
  unfold Hd.dcq
  rw [← sum_blocks fun g => H.ds g x, coe_sum]
  exact Finset.sum_congr rfl fun g _ => I.ds g x

/-- The queries' gradient, after the blocks of keys up to the query's own. -/
theorem dq {s : ℝ} (hs : sc = (s : EReal)) {n : ℕ} (hn : n ≤ 4) (x : Fin 4096) (hx : x.val < 1024 * n) (d : Fin 128) :
    H.dq n x d = ((((∑ g, R.ds x g * R.K g d) * s : ℝ)) : EReal) := by
  have hb : ∀ b, (∑ r, H.K (col b r) d * H.ds (col b r) x) * sc = (((∑ r, R.ds x (col b r) * R.K (col b r) d) * s : ℝ) : EReal) := fun b => by
    rw [hs, EReal.coe_mul, coe_sum]
    exact congrArg (· * (s : EReal)) (Finset.sum_congr rfl fun r _ => by rw [I.k, I.ds, ← EReal.coe_mul, mul_comm])
  unfold Hd.dq
  rw [Finset.sum_congr rfl fun b _ => hb b, ← coe_sum, ← Finset.sum_mul]
  refine congrArg (fun r : ℝ => ((r * s : ℝ) : EReal)) ?_
  rw [show (∑ g, R.ds x g * R.K g d) = ∑ b ∈ Finset.range 4, ∑ r, R.ds x (col b r) * R.K (col b r) d from ?_]
  · refine Finset.sum_subset (Finset.range_mono hn) fun b hb4 hbn => Finset.sum_eq_zero fun r _ => ?_
    have h4 := Finset.mem_range.1 hb4
    have h5 : n ≤ b := by simpa using hbn
    rw [R.ds_late (by rw [col_val h4]; omega), zero_mul]
  · have := sum_blocks fun g => ((R.ds x g * R.K g d : ℝ) : EReal)
    simp only [← coe_sum] at this
    exact EReal.coe_injective this

end Is

end Cert.KernelIdeal.Pay

end
-- ==== Proof.HostValue.lean ====
module

public import proofs.«01_k».proof.Proof.HeadValue
public import proofs.«01_k».proof.Proof.Gen.ReferenceIdeal.Read

/-! The arrays the attention backward call is launched on, as terms of the program's arguments. -/

@[expose] public section

set_option maxRecDepth 16384

noncomputable section

namespace Cert.KernelIdeal.Pay

open Idealize.ShloMosaic Idealize.ShloMosaic.TcCoe Idealize.ShloMosaic.StableHlo Idealize.SL.Sem Idealize.ShloMosaic.Tactic
open Cert.KernelIdeal Cert.KernelIdeal.Gen
open Cert.ReferenceIdeal.Read (val_main_v5 val_main_v7 val_main_v23_0 val_main_v24)

/-- Eight heads of 128 columns side by side. -/
abbrev ArrX := FVec Ideal S4096x1024 .f32
/-- A gate for every row and head. -/
abbrev ArrC := FVec Ideal S4096x8 .f32

/-- The exponentials of the scores less the rows' maxima. -/
def hE (x0 x1 : ArrX) (x3 : ArrC) : FVec Ideal S8x4096x4096 .f32 :=
  Host.exp (F := Ideal) (φ := .f32) (subf (F := Ideal) (φ := .f32) (val_main_v23_0 (F := Ideal) x0 x1 x3) (broadcastInDim S8x4096x4096 ![0, 1, 2] bcast_S8x4096x1_S8x4096x4096_0_1_2 (broadcastInDim S8x4096x1 ![0, 1] bcast_S8x4096_S8x4096x1_0_1 (val_main_v24 (F := Ideal) x0 x1 x3))))
/-- The rows' sums of exponentials. -/
def hL (x0 x1 : ArrX) (x3 : ArrC) : FVec Ideal S8x4096 .f32 :=
  Host.reduceAdd (F := Ideal) (φ := .f32) (hE x0 x1 x3) (constant S_ .f32 0x00000000#32) reducesTo_S8x4096x4096_S8x4096_d2 h_S_
/-- The sums as a column for every head. -/
def hL1 (x0 x1 : ArrX) (x3 : ArrC) : FVec Ideal S8x4096x1 .f32 :=
  broadcastInDim S8x4096x1 ![0, 1] bcast_S8x4096_S8x4096x1_0_1 (hL x0 x1 x3)
/-- The probabilities. -/
def hP (x0 x1 : ArrX) (x3 : ArrC) : FVec Ideal S8x4096x4096 .f32 :=
  Host.divf (F := Ideal) (φ := .f32) (hE x0 x1 x3) (broadcastInDim S8x4096x4096 ![0, 1, 2] bcast_S8x4096x1_S8x4096x4096_0_1_2 (hL1 x0 x1 x3))
/-- The outputs, the heads side by side. -/
def hY (x0 x1 x2 : ArrX) (x3 : ArrC) : ArrX :=
  shapeCast _ (transpose S4096x8x128 [1, 0, 2] (Host.dotGeneral (F := Ideal) (φ₁ := .f32) (φ₂ := .f32) dot_S8x4096x4096_S8x4096x128_S8x4096x128_2_1_1_2_0_0 none (hP x0 x1 x3) (val_main_v7 (F := Ideal) x2)) transposes_S8x4096x128_S4096x8x128_1_0_2) shapeCasts_S4096x8x128_S4096x1024
/-- The rows' terms: the query's gate less the maximum and the logarithm of the sum. -/
def hRow (x0 x1 : ArrX) (x3 : ArrC) : FVec Ideal S8x1x4096 .f32 :=
  subf (F := Ideal) (φ := .f32) (broadcastInDim S8x1x4096 ![0, 2] bcast_S8x4096_S8x1x4096_0_2 (transpose S8x4096 [1, 0] x3 transposes_S4096x8_S8x4096_1_0))
    (broadcastInDim S8x1x4096 ![0, 2] bcast_S8x4096_S8x1x4096_0_2 (shapeCast S8x4096 (addf (F := Ideal) (φ := .f32) (broadcastInDim S8x4096x1 ![0, 1] bcast_S8x4096_S8x4096x1_0_1 (val_main_v24 (F := Ideal) x0 x1 x3)) (Host.log (F := Ideal) (φ := .f32) (hL1 x0 x1 x3))) shapeCasts_S8x4096x1_S8x4096))
/-- The rows' products of outputs and gradient, every column of a head the same. -/
def hDelta (x0 x1 x2 : ArrX) (x3 : ArrC) (x4 : ArrX) : ArrX :=
  shapeCast _ (broadcastInDim S4096x8x128 ![0, 1, 2] bcast_S4096x8x1_S4096x8x128_0_1_2 (broadcastInDim S4096x8x1 ![0, 1] bcast_S4096x8_S4096x8x1_0_1 (Host.reduceAdd (F := Ideal) (φ := .f32) (shapeCast S4096x8x128 (mulf (F := Ideal) (φ := .f32) x4 (hY x0 x1 x2 x3)) shapeCasts_S4096x1024_S4096x8x128) (constant S_ .f32 0x00000000#32) reducesTo_S4096x8x128_S4096x8_d2 h_S_))) shapeCasts_S4096x8x128_S4096x1024
/-- The heads' queries, keys and values, a head's three beside one another. -/
def hQKV (x0 x1 x2 : ArrX) : FVec Ideal S4096x8x3x128 .f32 :=
  concatenate S4096x8x3x128 2 [⟨S4096x8x1x128, (shapeCast S4096x8x1x128 x0 shapeCasts_S4096x1024_S4096x8x1x128 : FVec Ideal S4096x8x1x128 .f32)⟩, ⟨S4096x8x1x128, (shapeCast S4096x8x1x128 x1 shapeCasts_S4096x1024_S4096x8x1x128 : FVec Ideal S4096x8x1x128 .f32)⟩, ⟨S4096x8x1x128, (shapeCast S4096x8x1x128 x2 shapeCasts_S4096x1024_S4096x8x1x128 : FVec Ideal S4096x8x1x128 .f32)⟩] concatenates_S4096x8x1x128_S4096x8x1x128_S4096x8x1x128_S4096x8x3x128_d2
/-- The projection: zeros, then the heads' queries, keys and values. -/
def hProj (x0 x1 x2 : ArrX) : FVec Ideal S4096x7680 .f32 :=
  concatenate S4096x7680 1 [⟨S4096x4608, broadcastInDim S4096x4608 ![] bcast_S_S4096x4608 (constant (F := Ideal) S_ .f32 0x00000000#32)⟩, ⟨S4096x3072, shapeCast S4096x3072 (hQKV x0 x1 x2) shapeCasts_S4096x8x3x128_S4096x3072⟩] concatenates_S4096x4608_S4096x3072_S4096x7680_d1

variable (m : (ℓ : Loc nD τ sig) → Buf (Elt Ideal) ℓ) (c : Dev nD)

/-- The rows' terms. -/
theorem V_row : V m c main_v40 = hRow (m ((c.tc : Thread nD τ).loc main_arg0)) (m ((c.tc : Thread nD τ).loc main_arg1)) (m ((c.tc : Thread nD τ).loc main_arg3)) := by
  simp only [V, hostOps0, hostOps0_1, hostOps0_2, hostOps0_3, hostOps0_4, List.flatten_cons, List.flatten_nil, List.append_nil, List.cons_append, List.nil_append, TRef.nullary, TRef.ternary, TRef.unary, TRef.binary, TRef.toBuf, TRef.ofBuf, cast_eq]
  after_results_simp <;> (try dsimp only [Matrix.cons_val]) <;> (try after_results_simp) <;> rfl

/-- The rows' products. -/
theorem V_delta : V m c main_v46 = hDelta (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  simp only [V, hostOps0, hostOps0_1, hostOps0_2, hostOps0_3, hostOps0_4, List.flatten_cons, List.flatten_nil, List.append_nil, List.cons_append, List.nil_append, TRef.nullary, TRef.ternary, TRef.unary, TRef.binary, TRef.toBuf, TRef.ofBuf, cast_eq]
  after_results_simp <;> (try dsimp only [Matrix.cons_val]) <;> (try after_results_simp) <;> rfl

/-- The projection. -/
theorem V_proj : V m c main_v53 = hProj (m ((c.tc : Thread nD τ).loc main_arg0)) (m ((c.tc : Thread nD τ).loc main_arg1)) (m ((c.tc : Thread nD τ).loc main_arg2)) := by
  simp only [V, hostOps0, hostOps0_1, hostOps0_2, hostOps0_3, hostOps0_4, List.flatten_cons, List.flatten_nil, List.append_nil, List.cons_append, List.nil_append, TRef.nullary, TRef.ternary, TRef.unary, TRef.binary, TRef.toBuf, TRef.ofBuf, cast_eq]
  after_results_simp <;> (try dsimp only [Matrix.cons_val]) <;> (try after_results_simp) <;> rfl

/-- The gates, eight of 128 columns. -/
theorem V_gate : V m c main_v54 = pad S4096x128 ![0, 0] ![0, 120] ![0, 0] (m ((c.tc : Thread nD τ).loc main_arg3)) (sitofp (F := Ideal) .f32 (constantI S_ 32 0#32)) pads_S4096x8_S4096x128_000_01200 h_S_ := by
  simp only [V, hostOps0, hostOps0_1, hostOps0_2, hostOps0_3, hostOps0_4, List.flatten_cons, List.flatten_nil, List.append_nil, List.cons_append, List.nil_append, TRef.nullary, TRef.ternary, TRef.unary, TRef.binary, TRef.toBuf, TRef.ofBuf, cast_eq]
  after_results_simp <;> (try dsimp only [Matrix.cons_val]) <;> (try after_results_simp) <;> rfl

/-- The array the projection's gradient is written over. -/
theorem V_out : V m c main_v55_0 = m ((c.tc : Thread nD τ).loc main_arg5) := by
  simp only [V, hostOps0, hostOps0_1, hostOps0_2, hostOps0_3, hostOps0_4, List.flatten_cons, List.flatten_nil, List.append_nil, List.cons_append, List.nil_append, TRef.nullary, TRef.ternary, TRef.unary, TRef.binary, TRef.toBuf, TRef.ofBuf, cast_eq]
  after_results_simp <;> (try dsimp only [Matrix.cons_val]) <;> (try after_results_simp) <;> rfl

end Cert.KernelIdeal.Pay

end
-- ==== Proof.RefValue.lean ====
module

public import proofs.«01_k».proof.Proof.RealHead
public import proofs.«01_k».proof.Proof.HostValue
public import Idealize.ShloMosaic.Lib.WordCmp

/-! The reference's stages over real arguments, one head at a time. -/

@[expose] public section

set_option maxRecDepth 16384

noncomputable section

namespace Cert.KernelIdeal.Pay

open Idealize.ShloMosaic hiding ix1 ix2 ix3
open Idealize.ShloMosaic.ValueIdx
open Cert.ReferenceIdeal.Read

/-- Head `h`'s column `d` of eight heads side by side. -/
def hc (h : Fin 8) (d : Fin 128) : Fin 1024 := ⟨128 * h.val + d.val, by have := h.isLt; have := d.isLt; omega⟩

/-- Arguments that are all real, the real the scale's word names, and real row maxima. -/
structure Args (x0 x1 x2 : ArrX) (x3 : ArrC) (x4 : ArrX) where
  q : Fin 4096 → Fin 1024 → ℝ
  k : Fin 4096 → Fin 1024 → ℝ
  v : Fin 4096 → Fin 1024 → ℝ
  g : Fin 4096 → Fin 8 → ℝ
  dy : Fin 4096 → Fin 1024 → ℝ
  s : ℝ
  M : Fin 8 → Fin 4096 → ℝ
  hq : ∀ x j, x0 (ix2 x j) = (q x j : EReal)
  hk : ∀ x j, x1 (ix2 x j) = (k x j : EReal)
  hv : ∀ x j, x2 (ix2 x j) = (v x j : EReal)
  hg : ∀ x h, x3 (ix2 x h) = (g x h : EReal)
  hdy : ∀ x j, x4 (ix2 x j) = (dy x j : EReal)
  hs : sc = (s : EReal)
  hM : ∀ h x, val_main_v24 (F := Ideal) x0 x1 x3 (ix2 h x) = (M h x : EReal)

namespace Args

variable {x0 x1 x2 : ArrX} {x3 : ArrC} {x4 : ArrX} (A : Args x0 x1 x2 x3 x4)

/-- A head of the arguments. -/
def head (h : Fin 8) : RHd where
  Q x d := A.q x (hc h d) * A.s
  K x d := A.k x (hc h d)
  V x d := A.v x (hc h d)
  DY x d := A.dy x (hc h d)
  C x := A.g x h
  M x := A.M h x

/-- A head's element of an array of eight heads side by side. -/
theorem head_idx (h : Fin 8) (x : Fin 4096) (d : Fin 128) : idx_main_v0 (idx_main_v1 (ix3 h x d)) = ix2 x (hc h d) := by
  have := h.isLt; have := d.isLt; have := x.isLt
  funext a
  match a with
  | ⟨0, _⟩ => exact Fin.ext (by show ((x.val * 8 + h.val) * 128 + d.val) / 1024 = x.val; omega)
  | ⟨1, _⟩ => exact Fin.ext (by show ((x.val * 8 + h.val) * 128 + d.val) % 1024 = 128 * h.val + d.val; omega)

/-- The scaled queries. -/
theorem r_q (h : Fin 8) (x : Fin 4096) (d : Fin 128) : val_main_v3 (F := Ideal) x0 (ix3 h x d) = ((A.head h).Q x d : EReal) := by
  rw [val_main_v3_apply, val_main_v1_apply, val_main_v0_apply]
  refine (congrArg₂ (fun a b : EReal => a * b) ((congrArg x0 (head_idx h x d)).trans (A.hq x (hc h d))) A.hs).trans ?_
  exact (EReal.coe_mul _ _).symm
/-- The keys. -/
theorem r_k (h : Fin 8) (x : Fin 4096) (d : Fin 128) : val_main_v5 (F := Ideal) x1 (ix3 h x d) = ((A.head h).K x d : EReal) := by
  rw [val_main_v5_apply, val_main_v4_apply]
  exact (congrArg x1 (head_idx h x d)).trans (A.hk x (hc h d))
/-- The values. -/
theorem r_v (h : Fin 8) (x : Fin 4096) (d : Fin 128) : val_main_v7 (F := Ideal) x2 (ix3 h x d) = ((A.head h).V x d : EReal) := by
  rw [val_main_v7_apply, val_main_v6_apply]
  exact (congrArg x2 (head_idx h x d)).trans (A.hv x (hc h d))
/-- The gradient of the outputs. -/
theorem r_dy (h : Fin 8) (x : Fin 4096) (d : Fin 128) : val_main_v56 (F := Ideal) x4 (ix3 h x d) = ((A.head h).DY x d : EReal) := by
  rw [val_main_v56_apply, val_main_v55_apply]
  exact (congrArg x4 (head_idx h x d)).trans (A.hdy x (hc h d))

/-- The queries' gates. -/
theorem r_gq (h : Fin 8) (x g : Fin 4096) : val_main_v11 (F := Ideal) x3 (ix3 h x g) = ((A.head h).C x : EReal) := by
  rw [val_main_v11_apply, val_main_v10_apply, val_main_v9_apply]
  refine (congrArg x3 (funext fun a => ?_)).trans (A.hg x h)
  match a with
  | ⟨0, _⟩ => rfl
  | ⟨1, _⟩ => rfl
/-- The keys' gates. -/
theorem r_gk (h : Fin 8) (x g : Fin 4096) : val_main_v15 (F := Ideal) x3 (ix3 h x g) = ((A.head h).C g : EReal) := by
  rw [val_main_v15_apply, val_main_v14_apply, val_main_v13_apply]
  refine (congrArg x3 (funext fun a => ?_)).trans (A.hg g h)
  match a with
  | ⟨0, _⟩ => rfl
  | ⟨1, _⟩ => rfl

/-- The gated scores. -/
theorem r_z (h : Fin 8) (x g : Fin 4096) : val_main_v16 (F := Ideal) x0 x1 x3 (ix3 h x g) = ((A.head h).z x g : EReal) := by
  rw [val_main_v16_apply, val_main_v12_apply, A.r_gq, A.r_gk, val_main_v8_apply]
  have e : ∀ d : Fin 128, val_main_v3 (F := Ideal) x0 (lidx_main_v8 (ix3 h x g) d) * val_main_v5 (F := Ideal) x1 (ridx_main_v8 (ix3 h x g) d)
      = (((A.head h).Q x d * (A.head h).K g d : ℝ) : EReal) := fun d => by
    rw [EReal.coe_mul, ← A.r_q, ← A.r_k]
    refine congrArg₂ (fun a b : EReal => a * b) (congrArg _ (funext fun a => ?_)) (congrArg _ (funext fun a => ?_))
    · match a with
      | ⟨0, _⟩ => rfl
      | ⟨1, _⟩ => rfl
      | ⟨2, _⟩ => rfl
    · match a with
      | ⟨0, _⟩ => rfl
      | ⟨1, _⟩ => rfl
      | ⟨2, _⟩ => rfl
  rw [Finset.sum_congr rfl fun d _ => e d, ← coe_sum]
  show (_ : EReal) + _ - _ = _
  rw [← EReal.coe_add, ← EReal.coe_sub]
  rfl

/-- The mask: a key no later than the query. -/
theorem r_mask (h : Fin 8) (x g : Fin 4096) : val_main_v23_1 (F := Ideal) (ix3 h x g) = 1#1 ↔ g.val ≤ x.val := by
  have := g.isLt; have := x.isLt
  rw [val_main_v23_1_apply, val_main_v22_apply, val_main_v20_apply, val_main_v21_apply, val_main_v18_apply, val_main_v19_apply, val_main_v17_apply, val_main_v17_apply]
  exact WordCmp.cmpi_sle_ofNat_eq_one_iff (w := 32) (a := g.val) (b := x.val) (by omega) (by omega)

/-- The masked scores. -/
theorem r_s (h : Fin 8) (x g : Fin 4096) : val_main_v23_0 (F := Ideal) x0 x1 x3 (ix3 h x g) = if g.val ≤ x.val then ((A.head h).z x g : EReal) else ⊥ := by
  rw [val_main_v23_0_apply, A.r_z]
  by_cases hm : g.val ≤ x.val
  · rw [if_pos hm, (r_mask h x g).2 hm]; rfl
  · rw [if_neg hm, Scalar.select]
    refine (if_neg fun e => hm ((r_mask h x g).1 e)).trans ?_
    rw [val_main_call0_v2_apply, val_main_call0_v0_apply]
    simp [val_main_cst_0, constant, Ideal.ofBits, Ideal.ieee]

/-- The exponential of a masked score less a row's real bound. -/
theorem exp_row (h : Fin 8) (x g : Fin 4096) :
    Ideal.exp ((if g.val ≤ x.val then ((A.head h).z x g : EReal) else ⊥) - (A.M h x : EReal)) = ((A.head h).e x g : EReal) := by
  unfold RHd.e
  by_cases hm : g.val ≤ x.val
  · rw [if_pos hm, if_pos hm, ← EReal.coe_sub]; rfl
  · rw [if_neg hm, if_neg hm, EReal.bot_sub]; exact Ideal.exp_bot

/-- The exponentials. -/
theorem r_e (h : Fin 8) (x g : Fin 4096) : val_main_v44 (F := Ideal) x0 x1 x3 (ix3 h x g) = ((A.head h).e x g : EReal) := by
  rw [val_main_v44_apply, val_main_v43_apply, A.r_s, val_main_v42_apply, val_main_v41_apply, val_main_v31_apply, val_main_v30_apply]
  have e : idx_main_v41 (idx_main_v42 (ix3 h x g)) = ix2 h x := funext fun a => by
    match a with
    | ⟨0, _⟩ => rfl
    | ⟨1, _⟩ => rfl
  have hb : ∀ j, val_main_cst_3 (F := Ideal) j = (⊥ : EReal) := fun j => by simp [val_main_cst_3, constant, Ideal.ofBits, Ideal.ieee]
  rw [e, A.hM, hb, ← A.exp_row]
  exact congrArg (fun b : EReal => Ideal.exp (_ - b)) (max_eq_right bot_le)

/-- The rows' sums of exponentials. -/
theorem r_l (h : Fin 8) (x : Fin 4096) : val_main_v45 (F := Ideal) x0 x1 x3 (ix2 h x) = ((A.head h).l x : EReal) := by
  rw [val_main_v45_apply]
  unfold RHd.l
  have e : ∀ g, val_main_v44 (F := Ideal) x0 x1 x3 (idx_main_v45 (ix2 h x) g) = ((A.head h).e x g : EReal) := fun g =>
    (congrArg _ (funext fun a => by
      match a with
      | ⟨0, _⟩ => rfl
      | ⟨1, _⟩ => rfl
      | ⟨2, _⟩ => rfl)).trans (A.r_e h x g)
  rw [Finset.sum_congr rfl fun g _ => e g, ← coe_sum]
  exact (congrArg (· + _) Ideal.ofBits_zero_f32).trans (zero_add _)

/-- The rows' sums, at every key. -/
theorem r_l3 (h : Fin 8) (x g : Fin 4096) : val_main_v47 (F := Ideal) x0 x1 x3 (ix3 h x g) = ((A.head h).l x : EReal) := by
  rw [val_main_v47_apply, val_main_v46_apply]
  refine (congrArg _ (funext fun a => ?_)).trans (A.r_l h x)
  match a with
  | ⟨0, _⟩ => rfl
  | ⟨1, _⟩ => rfl

/-- The probabilities. -/
theorem r_p (h : Fin 8) (x g : Fin 4096) : val_main_v48 (F := Ideal) x0 x1 x3 (ix3 h x g) = ((A.head h).p x g : EReal) := by
  rw [val_main_v48_apply, A.r_e, A.r_l3]
  exact div_real ((A.head h).l_pos x) _

/-- The gradients of the probabilities. -/
theorem r_dp (h : Fin 8) (x g : Fin 4096) : val_main_v59 (F := Ideal) x2 x4 (ix3 h x g) = ((A.head h).dp x g : EReal) := by
  rw [val_main_v59_apply]
  unfold RHd.dp
  rw [coe_sum]
  refine Finset.sum_congr rfl fun d _ => ?_
  rw [EReal.coe_mul, ← A.r_dy, ← A.r_v]
  refine congrArg₂ (fun a b : EReal => a * b) (congrArg _ (funext fun a => ?_)) (congrArg _ (funext fun a => ?_))
  · match a with
    | ⟨0, _⟩ => rfl
    | ⟨1, _⟩ => rfl
    | ⟨2, _⟩ => rfl
  · match a with
    | ⟨0, _⟩ => rfl
    | ⟨1, _⟩ => rfl
    | ⟨2, _⟩ => rfl

/-- One over the square of a row's sum, at every key. -/
theorem r_sq (h : Fin 8) (x g : Fin 4096) : val_main_v60 (F := Ideal) x0 x1 x3 (ix3 h x g) = ((1 / ((A.head h).l x * (A.head h).l x) : ℝ) : EReal) := by
  have hl := (A.head h).l_pos x
  rw [val_main_v60_apply, val_main_v51_apply, val_main_v49_apply, val_main_v46_apply, val_main_v50_apply]
  have e : idx_main_v46 (idx_main_v60 (ix3 h x g)) = ix2 h x := funext fun a => by
    match a with
    | ⟨0, _⟩ => rfl
    | ⟨1, _⟩ => rfl
  have h1 : ∀ j, val_main_cst_10 (F := Ideal) j = ((1 : ℝ) : EReal) := fun j => Ideal.ofBits_one_f32
  rw [e, A.r_l, h1]
  refine (congrArg (fun b : EReal => Ideal.div ((1 : ℝ) : EReal) b) (EReal.coe_mul _ _).symm).trans ?_
  exact div_real (mul_pos hl hl) 1

/-- The gradient of a row's quotient with respect to its sum. -/
theorem r_sum (h : Fin 8) (x g : Fin 4096) : val_main_v69 (F := Ideal) x0 x1 x2 x3 x4 (ix3 h x g)
    = ((-(∑ k, (A.head h).dp x k * (1 / ((A.head h).l x * (A.head h).l x)) * (A.head h).e x k) : ℝ) : EReal) := by
  rw [val_main_v69_apply, val_main_v68_apply]
  have e : ∀ k, val_main_v62 (F := Ideal) x0 x1 x2 x3 x4 (idx_main_v63 (ix2 h x) k) = (((A.head h).dp x k * (1 / ((A.head h).l x * (A.head h).l x)) * (A.head h).e x k : ℝ) : EReal) := fun k => by
    have e0 : idx_main_v63 (ix2 h x) k = ix3 h x k := funext fun a => by
      match a with
      | ⟨0, _⟩ => rfl
      | ⟨1, _⟩ => rfl
      | ⟨2, _⟩ => rfl
    rw [e0, val_main_v62_apply, val_main_v61_apply, A.r_dp, A.r_sq, A.r_e, EReal.coe_mul, EReal.coe_mul]
    rfl
  have e1 : val_main_v63 (F := Ideal) x0 x1 x2 x3 x4 (ix2 h x) = ((∑ k, (A.head h).dp x k * (1 / ((A.head h).l x * (A.head h).l x)) * (A.head h).e x k : ℝ) : EReal) := by
    rw [val_main_v63_apply, Finset.sum_congr rfl fun k _ => e k, ← coe_sum]
    exact (congrArg (· + _) Ideal.ofBits_zero_f32).trans (zero_add _)
  have e2 : ∀ k : Fin 1, val_main_v65 (F := Ideal) x0 x1 x2 x3 x4 (idx_main_v68 (idx_main_v69 (ix3 h x g)) k)
      = ((-(∑ k, (A.head h).dp x k * (1 / ((A.head h).l x * (A.head h).l x)) * (A.head h).e x k) : ℝ) : EReal) := fun k => by
    rw [val_main_v65_apply, val_main_v64_apply, EReal.coe_neg, ← e1]
    have := x.isLt; have := h.isLt; have := k.isLt
    refine congrArg (fun b : EReal => -b) (congrArg _ (funext fun a => ?_))
    match a with
    | ⟨0, _⟩ => exact Fin.ext (by show ((h.val * 4096 + x.val) * 1 + k.val) / 4096 = h.val; omega)
    | ⟨1, _⟩ => exact Fin.ext (by show ((h.val * 4096 + x.val) * 1 + k.val) % 4096 = x.val; omega)
  rw [Finset.sum_congr rfl fun k _ => e2 k, Fin.sum_univ_one]
  exact (congrArg (· + _) Ideal.ofBits_zero_f32).trans (zero_add _)

/-- The gradients of the scores. -/
theorem r_ds (h : Fin 8) (x g : Fin 4096) : val_main_v72 (F := Ideal) x0 x1 x2 x3 x4 (ix3 h x g) = ((A.head h).ds x g : EReal) := by
  rw [val_main_v72_apply]
  by_cases hm : g.val ≤ x.val
  · rw [(r_mask h x g).2 hm]
    show val_main_v71 (F := Ideal) x0 x1 x2 x3 x4 (ix3 h x g) = _
    have e : val_main_v66 (F := Ideal) x0 x1 x3 (ix3 h x g) = ((A.head h).l x : EReal) := A.r_l3 h x g
    rw [val_main_v71_apply, val_main_v70_apply, val_main_v67_apply, A.r_sum, A.r_e, A.r_dp, e, ← (A.head h).ds_quot x g, EReal.coe_mul, EReal.coe_add, ← div_real ((A.head h).l_pos x)]
    rfl
  · rw [(A.head h).ds_late hm, Scalar.select]
    refine (if_neg fun e => hm ((r_mask h x g).1 e)).trans ?_
    rw [val_main_call1_v0_apply]
    exact Ideal.ofBits_zero_f32

end Args

end Cert.KernelIdeal.Pay

end
-- ==== Proof.RefResult.lean ====
module

public import proofs.«01_k».proof.Proof.RefValue

/-! The reference's three results over real arguments, head by head. -/

@[expose] public section

set_option maxRecDepth 16384

noncomputable section

namespace Cert.KernelIdeal.Pay.Args

open Idealize.ShloMosaic hiding ix1 ix2 ix3 ix4
open Idealize.ShloMosaic.ValueIdx
open Cert.ReferenceIdeal Cert.ReferenceIdeal.Read
open Cert.KernelIdeal.Pay

variable {x0 x1 x2 : ArrX} {x3 : ArrC} {x4 : ArrX} (A : Args x0 x1 x2 x3 x4)

/-- A sum that starts from the zero word. -/
theorem zero_start (r : EReal) : Ideal.ofBits .f32 0x00000000#32 + r = r := (congrArg (· + r) Ideal.ofBits_zero_f32).trans (zero_add r)

/-- The keys' gates' gradient. -/
theorem r_dck (h : Fin 8) (g : Fin 4096) : val_main_v104 (F := Ideal) x0 x1 x2 x3 x4 (ix3 h 0 g) = ((∑ x, -(A.head h).ds x g : ℝ) : EReal) := by
  have := g.isLt; have := h.isLt
  rw [val_main_v104_apply, val_main_v103_apply, val_main_v77_apply, val_main_v76_apply, Fin.sum_univ_one]
  refine (zero_start _).trans ?_
  rw [val_main_v75_apply, val_main_v74_apply]
  refine (zero_start _).trans ?_
  rw [coe_sum]
  refine Finset.sum_congr rfl fun x _ => ?_
  rw [val_main_v73_apply, EReal.coe_neg, ← A.r_ds]
  refine congrArg (fun b : EReal => -b) (congrArg _ (funext fun a => ?_))
  match a with
  | ⟨0, _⟩ => exact Fin.ext (by show ((h.val * 1 + 0) * 4096 + g.val) / 4096 = h.val; omega)
  | ⟨1, _⟩ => rfl
  | ⟨2, _⟩ => exact Fin.ext (by show ((h.val * 1 + 0) * 4096 + g.val) % 4096 = g.val; omega)

/-- The queries' gates' gradient. -/
theorem r_dcq (h : Fin 8) (x : Fin 4096) : val_main_v106 (F := Ideal) x0 x1 x2 x3 x4 (ix3 h 0 x) = ((∑ g, (A.head h).ds x g : ℝ) : EReal) := by
  have := x.isLt; have := h.isLt
  rw [val_main_v106_apply, val_main_v105_apply, val_main_v81_apply, val_main_v80_apply, Fin.sum_univ_one]
  refine (zero_start _).trans ?_
  rw [val_main_v79_apply, val_main_v78_apply]
  refine (zero_start _).trans ?_
  rw [coe_sum]
  refine Finset.sum_congr rfl fun g _ => ?_
  rw [← A.r_ds]
  refine congrArg _ (funext fun a => ?_)
  match a with
  | ⟨0, _⟩ => exact Fin.ext (by show ((h.val * 4096 + x.val) * 1 + 0) / 4096 = h.val; omega)
  | ⟨1, _⟩ => exact Fin.ext (by show ((h.val * 4096 + x.val) * 1 + 0) % 4096 = x.val; omega)
  | ⟨2, _⟩ => rfl

/-- The queries' gradient of a head. -/
theorem r_dq (h : Fin 8) (x : Fin 4096) (d : Fin 128) : val_main_v89 (F := Ideal) x0 x1 x2 x3 x4 (ix3 h x d) = (((∑ g, (A.head h).ds x g * (A.head h).K g d) * A.s : ℝ) : EReal) := by
  rw [val_main_v89_apply, val_main_v83_apply]
  have e : ∀ g : Fin 4096, val_main_v72 (F := Ideal) x0 x1 x2 x3 x4 (lidx_main_v83 (ix3 h x d) g) * val_main_v5 (F := Ideal) x1 (ridx_main_v83 (ix3 h x d) g)
      = (((A.head h).ds x g * (A.head h).K g d : ℝ) : EReal) := fun g => by
    rw [EReal.coe_mul, ← A.r_ds, ← A.r_k]
    refine congrArg₂ (fun a b : EReal => a * b) (congrArg _ (funext fun a => ?_)) (congrArg _ (funext fun a => ?_))
    · match a with
      | ⟨0, _⟩ => rfl
      | ⟨1, _⟩ => rfl
      | ⟨2, _⟩ => rfl
    · match a with
      | ⟨0, _⟩ => rfl
      | ⟨1, _⟩ => rfl
      | ⟨2, _⟩ => rfl
  rw [Finset.sum_congr rfl fun g _ => e g, ← coe_sum, EReal.coe_mul]
  exact congrArg (fun b : EReal => _ * b) A.hs

/-- The keys' gradient of a head. -/
theorem r_dk (h : Fin 8) (g : Fin 4096) (d : Fin 128) : val_main_v82 (F := Ideal) x0 x1 x2 x3 x4 (ix3 h g d) = ((∑ x, (A.head h).ds x g * (A.head h).Q x d : ℝ) : EReal) := by
  rw [val_main_v82_apply, coe_sum]
  refine Finset.sum_congr rfl fun x _ => ?_
  rw [EReal.coe_mul, ← A.r_ds, ← A.r_q]
  refine congrArg₂ (fun a b : EReal => a * b) (congrArg _ (funext fun a => ?_)) (congrArg _ (funext fun a => ?_))
  · match a with
    | ⟨0, _⟩ => rfl
    | ⟨1, _⟩ => rfl
    | ⟨2, _⟩ => rfl
  · match a with
    | ⟨0, _⟩ => rfl
    | ⟨1, _⟩ => rfl
    | ⟨2, _⟩ => rfl

/-- The values' gradient of a head. -/
theorem r_dv (h : Fin 8) (g : Fin 4096) (d : Fin 128) : val_main_v58 (F := Ideal) x0 x1 x3 x4 (ix3 h g d) = ((∑ x, (A.head h).DY x d * (A.head h).p x g : ℝ) : EReal) := by
  rw [val_main_v58_apply, val_main_v57_apply, coe_sum]
  refine Finset.sum_congr rfl fun x _ => ?_
  rw [EReal.coe_mul, ← A.r_dy, ← A.r_p]
  refine congrArg₂ (fun a b : EReal => a * b) (congrArg _ (funext fun a => ?_)) (congrArg _ (funext fun a => ?_))
  · match a with
    | ⟨0, _⟩ => rfl
    | ⟨1, _⟩ => rfl
    | ⟨2, _⟩ => rfl
  · match a with
    | ⟨0, _⟩ => rfl
    | ⟨1, _⟩ => rfl
    | ⟨2, _⟩ => rfl

/-- An element of one of a head's three gradients, as the stack of the heads places it. -/
theorem stack_idx (h : Fin 8) (x : Fin 4096) (d : Fin 128) :
    idx_main_v90 (idx_main_v91 (idx_main_v92 (idx_main_v95 (ix4 x h 0 d)))) = ix3 h x d := by
  have := h.isLt; have := d.isLt; have := x.isLt
  funext a
  match a with
  | ⟨0, _⟩ => exact Fin.ext (by show (((x.val * 8 + h.val) * 128 + d.val) / 1024 * 1024 + ((x.val * 8 + h.val) * 128 + d.val) % 1024) / 128 % 8 = h.val; omega)
  | ⟨1, _⟩ => exact Fin.ext (by show (((x.val * 8 + h.val) * 128 + d.val) / 1024 * 1024 + ((x.val * 8 + h.val) * 128 + d.val) % 1024) / 1024 = x.val; omega)
  | ⟨2, _⟩ => exact Fin.ext (by show (((x.val * 8 + h.val) * 128 + d.val) / 1024 * 1024 + ((x.val * 8 + h.val) * 128 + d.val) % 1024) % 128 = d.val; omega)

/-- A column of the heads' part of the result, in the stack of the heads' gradients. -/
theorem out_high (x5 : (⟨S4096x7680, .bf16⟩ : BufTy).Contents (Elt Ideal)) (x : Fin 4096) (h : Fin 8) (n : Fin 3) (d : Fin 128) {j : Fin 7680}
    (hj : j.val = 4608 + 384 * h.val + 128 * n.val + d.val) :
    val_main_v102 (F := Ideal) x0 x1 x2 x3 x4 x5 (ix2 x j) = val_main_v98 (F := Ideal) x0 x1 x2 x3 x4 (ix4 x h n d) := by
  have := h.isLt; have := d.isLt; have := x.isLt; have := n.isLt
  have e : val_main_v102 (F := Ideal) x0 x1 x2 x3 x4 x5 (ix2 x j) = val_main_v101 (F := Ideal) x0 x1 x2 x3 x4 (ix2 x ⟨j.val - 4608, by omega⟩) := by
    unfold val_main_v102
    exact concatenate_apply_piece (t := S4096x7680) 1 _ _ _ 1 (by simp) S4096x3072 (val_main_v101 (F := Ideal) x0 x1 x2 x3 x4) rfl rfl 4608 rfl (ix2 x ⟨j.val - 4608, by omega⟩) (fun b hb => by
      match b with
      | ⟨0, _⟩ => rfl
      | ⟨1, _⟩ => exact absurd rfl hb) (by show 4608 + (j.val - 4608) = j.val; omega)
  rw [e, val_main_v101_apply]
  show val_main_v99 (F := Ideal) x0 x1 x2 x3 x4 _ = _
  rw [val_main_v99_apply]
  refine congrArg _ (funext fun a => ?_)
  match a with
  | ⟨0, _⟩ => exact Fin.ext (by show (x.val * 3072 + (j.val - 4608)) / 3072 = x.val; omega)
  | ⟨1, _⟩ => exact Fin.ext (by show (x.val * 3072 + (j.val - 4608)) / 384 % 8 = h.val; omega)
  | ⟨2, _⟩ => exact Fin.ext (by show (x.val * 3072 + (j.val - 4608)) / 128 % 3 = n.val; omega)
  | ⟨3, _⟩ => exact Fin.ext (by show (x.val * 3072 + (j.val - 4608)) % 128 = d.val; omega)

/-- The columns before the heads' part are the argument's. -/
theorem out_low (x5 : (⟨S4096x7680, .bf16⟩ : BufTy).Contents (Elt Ideal)) (x : Fin 4096) {j : Fin 7680} (hj : j.val < 4608) :
    val_main_v102 (F := Ideal) x0 x1 x2 x3 x4 x5 (ix2 x j) = x5 (ix2 x j) := by
  have e : val_main_v102 (F := Ideal) x0 x1 x2 x3 x4 x5 (ix2 x j) = val_main_v100 (F := Ideal) x5 (ix2 x ⟨j.val, hj⟩) := by
    unfold val_main_v102
    exact concatenate_apply_piece (t := S4096x7680) 1 _ _ _ 0 (by simp) S4096x4608 (val_main_v100 (F := Ideal) x5) rfl rfl 0 rfl (ix2 x ⟨j.val, hj⟩) (fun b hb => by
      match b with
      | ⟨0, _⟩ => rfl
      | ⟨1, _⟩ => exact absurd rfl hb) (by show 0 + j.val = j.val; omega)
  rw [e, val_main_v100_apply]
  refine congrArg _ (funext fun a => ?_)
  match a with
  | ⟨0, _⟩ => rfl
  | ⟨1, _⟩ => rfl

/-- The stack's first part: the queries' gradient. -/
theorem r_out_q (h : Fin 8) (x : Fin 4096) (d : Fin 128) : val_main_v98 (F := Ideal) x0 x1 x2 x3 x4 (ix4 x h 0 d) = (((∑ g, (A.head h).ds x g * (A.head h).K g d) * A.s : ℝ) : EReal) := by
  have e : val_main_v98 (F := Ideal) x0 x1 x2 x3 x4 (ix4 x h 0 d) = val_main_v95 (F := Ideal) x0 x1 x2 x3 x4 (ix4 x h 0 d) := by
    unfold val_main_v98
    exact concatenate_apply_piece (t := S4096x8x3x128) 2 _ _ _ 0 (by simp) S4096x8x1x128 (val_main_v95 (F := Ideal) x0 x1 x2 x3 x4) rfl rfl 0 rfl (ix4 x h 0 d) (fun b hb => by
      match b with
      | ⟨0, _⟩ => rfl
      | ⟨1, _⟩ => rfl
      | ⟨2, _⟩ => exact absurd rfl hb
      | ⟨3, _⟩ => rfl) rfl
  rw [e, val_main_v95_apply, val_main_v92_apply, val_main_v91_apply, val_main_v90_apply, stack_idx]
  exact A.r_dq h x d
/-- The stack's second part: the keys' gradient. -/
theorem r_out_k (h : Fin 8) (x : Fin 4096) (d : Fin 128) : val_main_v98 (F := Ideal) x0 x1 x2 x3 x4 (ix4 x h 1 d) = ((∑ y, (A.head h).ds y x * (A.head h).Q y d : ℝ) : EReal) := by
  have e : val_main_v98 (F := Ideal) x0 x1 x2 x3 x4 (ix4 x h 1 d) = val_main_v96 (F := Ideal) x0 x1 x2 x3 x4 (ix4 x h 0 d) := by
    unfold val_main_v98
    exact concatenate_apply_piece (t := S4096x8x3x128) 2 _ _ _ 1 (by simp) S4096x8x1x128 (val_main_v96 (F := Ideal) x0 x1 x2 x3 x4) rfl rfl 1 rfl (ix4 x h 0 d) (fun b hb => by
      match b with
      | ⟨0, _⟩ => rfl
      | ⟨1, _⟩ => rfl
      | ⟨2, _⟩ => exact absurd rfl hb
      | ⟨3, _⟩ => rfl) rfl
  rw [e, val_main_v96_apply, val_main_v93_apply, val_main_v87_apply, val_main_v86_apply]
  exact (congrArg _ (stack_idx h x d)).trans (A.r_dk h x d)
/-- The stack's third part: the values' gradient. -/
theorem r_out_v (h : Fin 8) (x : Fin 4096) (d : Fin 128) : val_main_v98 (F := Ideal) x0 x1 x2 x3 x4 (ix4 x h 2 d) = ((∑ y, (A.head h).DY y d * (A.head h).p y x : ℝ) : EReal) := by
  have e : val_main_v98 (F := Ideal) x0 x1 x2 x3 x4 (ix4 x h 2 d) = val_main_v97 (F := Ideal) x0 x1 x3 x4 (ix4 x h 0 d) := by
    unfold val_main_v98
    exact concatenate_apply_piece (t := S4096x8x3x128) 2 _ _ _ 2 (by simp) S4096x8x1x128 (val_main_v97 (F := Ideal) x0 x1 x3 x4) rfl rfl 2 rfl (ix4 x h 0 d) (fun b hb => by
      match b with
      | ⟨0, _⟩ => rfl
      | ⟨1, _⟩ => rfl
      | ⟨2, _⟩ => exact absurd rfl hb
      | ⟨3, _⟩ => rfl) rfl
  rw [e, val_main_v97_apply, val_main_v94_apply, val_main_v85_apply, val_main_v84_apply]
  exact (congrArg _ (stack_idx h x d)).trans (A.r_dv h x d)

end Cert.KernelIdeal.Pay.Args

end
-- ==== Proof.HostReal.lean ====
module

public import proofs.«01_k».proof.Proof.RefResult
public import Idealize.ShloMosaic.Lib.KernelVsHost
public import Idealize.ShloMosaic.Lib.IdealHost

/-! The arrays the attention backward call is launched on hold, head by head, the arguments' heads of reals. -/

@[expose] public section

set_option maxRecDepth 16384

noncomputable section

namespace Cert.KernelIdeal.Pay

open Idealize.ShloMosaic hiding ix1 ix2 ix3 ix4
open Idealize.ShloMosaic.ValueIdx Idealize.SL.Sem
open Cert.KernelIdeal Cert.KernelIdeal.Gen
open Cert.ReferenceIdeal.Read

/-- A value for every row, as a column. -/
theorem col1_apply (y : FVec Ideal S8x4096 .f32) (i : S8x4096x1.Idx) :
    broadcastInDim S8x4096x1 ![0, 1] bcast_S8x4096_S8x4096x1_0_1 y i = y (idx_main_v41 i) :=
  broadcastInDim_apply _ _ y i (idx_main_v41 i) (fun a => match a with
    | ⟨0, _⟩ => by show (i 0).val = if (8 : Nat) = 1 then 0 else (i 0).val; rw [if_neg (by decide)]
    | ⟨1, _⟩ => by show (i 1).val = if (4096 : Nat) = 1 then 0 else (i 1).val; rw [if_neg (by decide)])

/-- A column repeated at every key. -/
theorem col3_apply (y : FVec Ideal S8x4096x1 .f32) (i : S8x4096x4096.Idx) :
    broadcastInDim S8x4096x4096 ![0, 1, 2] bcast_S8x4096x1_S8x4096x4096_0_1_2 y i = y (idx_main_v42 i) :=
  broadcastInDim_apply _ _ y i (idx_main_v42 i) (fun a => match a with
    | ⟨0, _⟩ => by show (i 0).val = if (8 : Nat) = 1 then 0 else (i 0).val; rw [if_neg (by decide)]
    | ⟨1, _⟩ => by show (i 1).val = if (4096 : Nat) = 1 then 0 else (i 1).val; rw [if_neg (by decide)]
    | ⟨2, _⟩ => by show 0 = if (1 : Nat) = 1 then 0 else (i 2).val; rw [if_pos rfl])

/-- A value for every row, as a row of a head. -/
theorem row1_apply (y : FVec Ideal S8x4096 .f32) (i : S8x1x4096.Idx) :
    broadcastInDim S8x1x4096 ![0, 2] bcast_S8x4096_S8x1x4096_0_2 y i = y (idx_main_v14 i) :=
  broadcastInDim_apply _ _ y i (idx_main_v14 i) (fun a => match a with
    | ⟨0, _⟩ => by show (i 0).val = if (8 : Nat) = 1 then 0 else (i 0).val; rw [if_neg (by decide)]
    | ⟨1, _⟩ => by show (i 2).val = if (4096 : Nat) = 1 then 0 else (i 2).val; rw [if_neg (by decide)])

/-- An exponential of a score less its row's bound. -/
theorem exp_apply (s : FVec Ideal S8x4096x4096 .f32) (y : FVec Ideal S8x4096 .f32) (i : S8x4096x4096.Idx) :
    Host.exp (subf s (broadcastInDim S8x4096x4096 ![0, 1, 2] bcast_S8x4096x1_S8x4096x4096_0_1_2 (broadcastInDim S8x4096x1 ![0, 1] bcast_S8x4096_S8x4096x1_0_1 y))) i
      = Ideal.exp (s i - y (idx_main_v41 (idx_main_v42 i))) :=
  congrArg (fun b : EReal => Ideal.exp (s i - b)) ((col3_apply _ i).trans (col1_apply _ _))

/-- The exponentials are the reference's: its bound is the maximum of the rows' maxima and −∞. -/
theorem hE_eq (x0 x1 : ArrX) (x3 : ArrC) : hE x0 x1 x3 = val_main_v44 (F := Ideal) x0 x1 x3 := by
  funext i
  rw [val_main_v44_apply, val_main_v43_apply, val_main_v42_apply, val_main_v41_apply, val_main_v31_apply, val_main_v30_apply]
  have hb : ∀ j, val_main_cst_3 (F := Ideal) j = (⊥ : EReal) := fun j => by simp [val_main_cst_3, constant, Ideal.ofBits, Ideal.ieee]
  rw [hb]
  unfold hE
  rw [exp_apply]
  generalize val_main_v23_0 (F := Ideal) x0 x1 x3 = s
  generalize val_main_v24 (F := Ideal) x0 x1 x3 = y
  exact congrArg (fun b : EReal => Ideal.exp (s i - b)) (max_eq_right bot_le).symm

/-- The rows' sums are the reference's. -/
theorem hL_eq (x0 x1 : ArrX) (x3 : ArrC) : hL x0 x1 x3 = val_main_v45 (F := Ideal) x0 x1 x3 := by
  unfold hL; rw [hE_eq]; rfl

/-- The probabilities are the reference's. -/
theorem hP_eq (x0 x1 : ArrX) (x3 : ArrC) : hP x0 x1 x3 = val_main_v48 (F := Ideal) x0 x1 x3 := by
  unfold hP hL1; rw [hL_eq, hE_eq]; rfl

/-- The outputs are the reference's. -/
theorem hY_eq (x0 x1 x2 : ArrX) (x3 : ArrC) : hY x0 x1 x2 x3 = val_main_v54 (F := Ideal) x0 x1 x2 x3 := by
  unfold hY; rw [hP_eq]; rfl

/-- A head's part of the projection, in the stack of the heads. -/
theorem hProj_apply (x0 x1 x2 : ArrX) (x : Fin 4096) (h : Fin 8) (n : Fin 3) (d : Fin 128) {j : Fin 7680}
    (hj : j.val = 4608 + 384 * h.val + 128 * n.val + d.val) : hProj x0 x1 x2 (ix2 x j) = hQKV x0 x1 x2 (ix4 x h n d) := by
  have := h.isLt; have := d.isLt; have := x.isLt; have := n.isLt
  have e : hProj x0 x1 x2 (ix2 x j) = shapeCast S4096x3072 (hQKV x0 x1 x2) shapeCasts_S4096x8x3x128_S4096x3072 (ix2 x ⟨j.val - 4608, by omega⟩) := by
    unfold hProj
    exact concatenate_apply_piece (t := S4096x7680) 1 _ _ _ 1 (by simp) S4096x3072 _ rfl rfl 4608 rfl (ix2 x ⟨j.val - 4608, by omega⟩) (fun b hb => by
      match b with
      | ⟨0, _⟩ => rfl
      | ⟨1, _⟩ => exact absurd rfl hb) (by show 4608 + (j.val - 4608) = j.val; omega)
  rw [e]
  exact shapeCast_apply (hQKV x0 x1 x2) shapeCasts_S4096x8x3x128_S4096x3072 _ (ix4 x h n d)
    (by rewrite [Shape.rowMajor_val_four, Shape.rowMajor_val_two]; show ((x.val * 8 + h.val) * 3 + n.val) * 128 + d.val = x.val * 3072 + (j.val - 4608); omega)

/-- A head's element of one of the stack's three parts. -/
theorem part_apply (y : ArrX) (x : Fin 4096) (h : Fin 8) (d : Fin 128) :
    (shapeCast S4096x8x1x128 y shapeCasts_S4096x1024_S4096x8x1x128 : FVec Ideal S4096x8x1x128 .f32) (ix4 x h 0 d) = y (ix2 x (hc h d)) :=
  shapeCast_apply y shapeCasts_S4096x1024_S4096x8x1x128 _ (ix2 x (hc h d))
    (by rewrite [Shape.rowMajor_val_four, Shape.rowMajor_val_two]; show x.val * 1024 + (128 * h.val + d.val) = ((x.val * 8 + h.val) * 1 + 0) * 128 + d.val; omega)

/-- The stack of the heads, part by part. -/
theorem hQKV_q (x0 x1 x2 : ArrX) (x : Fin 4096) (h : Fin 8) (d : Fin 128) : hQKV x0 x1 x2 (ix4 x h 0 d) = x0 (ix2 x (hc h d)) := by
  refine Eq.trans ?_ (part_apply x0 x h d)
  unfold hQKV
  exact concatenate_apply_piece (t := S4096x8x3x128) 2 _ _ _ 0 (by simp) S4096x8x1x128 _ rfl rfl 0 rfl (ix4 x h 0 d) (fun b hb => by
      match b with
      | ⟨0, _⟩ => rfl
      | ⟨1, _⟩ => rfl
      | ⟨2, _⟩ => exact absurd rfl hb
      | ⟨3, _⟩ => rfl) rfl
/-- The stack's keys. -/
theorem hQKV_k (x0 x1 x2 : ArrX) (x : Fin 4096) (h : Fin 8) (d : Fin 128) : hQKV x0 x1 x2 (ix4 x h 1 d) = x1 (ix2 x (hc h d)) := by
  refine Eq.trans ?_ (part_apply x1 x h d)
  unfold hQKV
  exact concatenate_apply_piece (t := S4096x8x3x128) 2 _ _ _ 1 (by simp) S4096x8x1x128 _ rfl rfl 1 rfl (ix4 x h 0 d) (fun b hb => by
      match b with
      | ⟨0, _⟩ => rfl
      | ⟨1, _⟩ => rfl
      | ⟨2, _⟩ => exact absurd rfl hb
      | ⟨3, _⟩ => rfl) rfl
/-- The stack's values. -/
theorem hQKV_v (x0 x1 x2 : ArrX) (x : Fin 4096) (h : Fin 8) (d : Fin 128) : hQKV x0 x1 x2 (ix4 x h 2 d) = x2 (ix2 x (hc h d)) := by
  refine Eq.trans ?_ (part_apply x2 x h d)
  unfold hQKV
  exact concatenate_apply_piece (t := S4096x8x3x128) 2 _ _ _ 2 (by simp) S4096x8x1x128 _ rfl rfl 2 rfl (ix4 x h 0 d) (fun b hb => by
      match b with
      | ⟨0, _⟩ => rfl
      | ⟨1, _⟩ => rfl
      | ⟨2, _⟩ => exact absurd rfl hb
      | ⟨3, _⟩ => rfl) rfl

/-- A row's term: the gate less the bound and the logarithm of the sum. -/
theorem row_term (g : ArrC) (z y : FVec Ideal S8x4096 .f32) (h : Fin 8) (x : Fin 4096) :
    subf (F := Ideal) (φ := .f32) (broadcastInDim S8x1x4096 ![0, 2] bcast_S8x4096_S8x1x4096_0_2 (transpose S8x4096 [1, 0] g transposes_S4096x8_S8x4096_1_0))
      (broadcastInDim S8x1x4096 ![0, 2] bcast_S8x4096_S8x1x4096_0_2 (shapeCast S8x4096 (addf (F := Ideal) (φ := .f32) (broadcastInDim S8x4096x1 ![0, 1] bcast_S8x4096_S8x4096x1_0_1 z) (Host.log (F := Ideal) (φ := .f32) (broadcastInDim S8x4096x1 ![0, 1] bcast_S8x4096_S8x4096x1_0_1 y))) shapeCasts_S8x4096x1_S8x4096)) (ix3 h 0 x)
      = (g (ix2 x h) : EReal) - ((z (ix2 h x) : EReal) + Ideal.log (y (ix2 h x))) := by
  have e2 : idx_main_v14 (ix3 h 0 x) = ix2 h x := funext fun a => by
    match a with
    | ⟨0, _⟩ => rfl
    | ⟨1, _⟩ => rfl
  have e1 : idx_main_v41 (ix3 h x 0) = ix2 h x := funext fun a => by
    match a with
    | ⟨0, _⟩ => rfl
    | ⟨1, _⟩ => rfl
  refine congrArg₂ (fun a b : EReal => a - b) ((row1_apply _ _).trans ?_) ((row1_apply _ _).trans ?_)
  · rw [e2]
    exact transpose_apply [1, 0] g transposes_S4096x8_S8x4096_1_0 (ix2 h x) (ix2 x h) (fun b => match b with
      | ⟨0, _⟩ => rfl
      | ⟨1, _⟩ => rfl)
  · rw [e2]
    refine (shapeCast_apply _ shapeCasts_S8x4096x1_S8x4096 (ix2 h x) (ix3 h x 0) (by rewrite [Shape.rowMajor_val_three, Shape.rowMajor_val_two]; show (h.val * 4096 + x.val) * 1 + 0 = h.val * 4096 + x.val; omega)).trans ?_
    refine congrArg₂ (fun a b : EReal => a + Ideal.log b) ?_ ?_
    · exact (col1_apply _ _).trans (congrArg z e1)
    · exact (col1_apply _ _).trans (congrArg y e1)

namespace Args

variable {x0 x1 x2 : ArrX} {x3 : ArrC} {x4 : ArrX} (A : Args x0 x1 x2 x3 x4)

/-- The outputs of a head. -/
theorem h_y (h : Fin 8) (x : Fin 4096) (d : Fin 128) : hY x0 x1 x2 x3 (ix2 x (hc h d)) = ((A.head h).y x d : EReal) := by
  have := h.isLt; have := d.isLt; have := x.isLt
  rw [hY_eq, val_main_v54_apply, val_main_v53_apply]
  have e : idx_main_v53 (idx_main_v54 (ix2 x (hc h d))) = ix3 h x d := funext fun a => by
    match a with
    | ⟨0, _⟩ => exact Fin.ext (by show (x.val * 1024 + (128 * h.val + d.val)) / 128 % 8 = h.val; omega)
    | ⟨1, _⟩ => exact Fin.ext (by show (x.val * 1024 + (128 * h.val + d.val)) / 1024 = x.val; omega)
    | ⟨2, _⟩ => exact Fin.ext (by show (x.val * 1024 + (128 * h.val + d.val)) % 128 = d.val; omega)
  rw [e, val_main_v52_apply]
  unfold RHd.y
  rw [coe_sum]
  refine Finset.sum_congr rfl fun g _ => ?_
  rw [EReal.coe_mul, ← A.r_p, ← A.r_v]
  refine congrArg₂ (fun a b : EReal => a * b) (congrArg _ (funext fun a => ?_)) (congrArg _ (funext fun a => ?_))
  · match a with
    | ⟨0, _⟩ => rfl
    | ⟨1, _⟩ => rfl
    | ⟨2, _⟩ => rfl
  · match a with
    | ⟨0, _⟩ => rfl
    | ⟨1, _⟩ => rfl
    | ⟨2, _⟩ => rfl

/-- The rows' terms. -/
theorem h_row (h : Fin 8) (x : Fin 4096) : hRow x0 x1 x3 (ix3 h 0 x) = (((A.head h).C x - ((A.head h).M x + Real.log ((A.head h).l x)) : ℝ) : EReal) := by
  have hl := (A.head h).l_pos x
  have e : hL x0 x1 x3 (ix2 h x) = ((A.head h).l x : EReal) := by rw [hL_eq]; exact A.r_l h x
  have em := A.hM h x
  unfold hRow hL1
  generalize hL x0 x1 x3 = y at e ⊢
  generalize val_main_v24 (F := Ideal) x0 x1 x3 = z at em ⊢
  rw [row_term, A.hg x h, em, e, Ideal.log_coe, if_neg (not_le.2 hl), ← EReal.coe_add, ← EReal.coe_sub]
  rfl

/-- The rows' products of outputs and gradient. -/
theorem h_delta (h : Fin 8) (x : Fin 4096) : hDelta x0 x1 x2 x3 x4 (ix2 x (hc h 0)) = ((A.head h).delta x : EReal) := by
  have := h.isLt; have := x.isLt
  unfold hDelta
  refine (shapeCast_apply _ shapeCasts_S4096x8x128_S4096x1024 _ (ix3 x h 0) (by rewrite [Shape.rowMajor_val_three, Shape.rowMajor_val_two]; show (x.val * 8 + h.val) * 128 + 0 = x.val * 1024 + (128 * h.val + 0); omega)).trans ?_
  refine (broadcastInDim_apply _ _ _ _ (ix3 x h 0) (fun a => match a with
    | ⟨0, _⟩ => by show x.val = if (4096 : Nat) = 1 then 0 else x.val; rw [if_neg (by decide)]
    | ⟨1, _⟩ => by show h.val = if (8 : Nat) = 1 then 0 else h.val; rw [if_neg (by decide)]
    | ⟨2, _⟩ => by show 0 = if (1 : Nat) = 1 then 0 else 0; rw [if_pos rfl])).trans ?_
  refine (broadcastInDim_apply _ _ _ _ (ix2 x h) (fun a => match a with
    | ⟨0, _⟩ => by show x.val = if (4096 : Nat) = 1 then 0 else x.val; rw [if_neg (by decide)]
    | ⟨1, _⟩ => by show h.val = if (8 : Nat) = 1 then 0 else h.val; rw [if_neg (by decide)])).trans ?_
  have e : ∀ d : Fin 128, shapeCast S4096x8x128 (mulf (F := Ideal) (φ := .f32) x4 (hY x0 x1 x2 x3)) shapeCasts_S4096x1024_S4096x8x128 (ix3 x h d) = (((A.head h).DY x d * (A.head h).y x d : ℝ) : EReal) := fun d => by
    have := d.isLt
    refine (shapeCast_apply _ shapeCasts_S4096x1024_S4096x8x128 _ (ix2 x (hc h d)) (by rewrite [Shape.rowMajor_val_three, Shape.rowMajor_val_two]; show x.val * 1024 + (128 * h.val + d.val) = (x.val * 8 + h.val) * 128 + d.val; omega)).trans ?_
    rw [EReal.coe_mul, ← A.h_y]
    exact congrArg (fun a : EReal => a * _) (A.hdy x (hc h d))
  generalize shapeCast S4096x8x128 (mulf (F := Ideal) (φ := .f32) x4 (hY x0 x1 x2 x3)) shapeCasts_S4096x1024_S4096x8x128 = y at e ⊢
  simp only [Host.reduceAdd, Ideal.hostReduceAdd_def]
  rw [Ideal.hostReduceAdd_single reducesTo_S4096x8x128_S4096x8_d2 (by decide)]
  refine (zero_start _).trans ?_
  unfold RHd.delta
  rw [coe_sum]
  refine Finset.sum_congr rfl fun d _ => Eq.trans ?_ (e d)
  exact congrArg y (funext fun a => Fin.ext (by match a with | ⟨0, _⟩ => rfl | ⟨1, _⟩ => rfl | ⟨2, _⟩ => rfl))

/-- The keys' gates. -/
theorem h_gate (h : Fin 8) (g : Fin 4096) (l : Fin 128) (hl : l.val = h.val) (v : FVec Ideal S_ .f32) :
    pad S4096x128 ![0, 0] ![0, 120] ![0, 0] x3 v pads_S4096x8_S4096x128_000_01200 h_S_ (ix2 g l) = ((A.head h).C g : EReal) :=
  (pad_apply_of_inside _ _ _ x3 v _ _ _ (ix2 g h) (fun a => match a with
    | ⟨0, _⟩ => by show g.val = 0 + g.val * (0 + 1); omega
    | ⟨1, _⟩ => by show l.val = 0 + h.val * (0 + 1); omega)).trans (A.hg g h)

end Args

variable (m : (ℓ : Loc nD τ sig) → Buf (Elt Ideal) ℓ) (c : Dev nD)

/-- The projection the call is launched on. -/
theorem aP_eq : aP m c = hProj (m ((c.tc : Thread nD τ).loc main_arg0)) (m ((c.tc : Thread nD τ).loc main_arg1)) (m ((c.tc : Thread nD τ).loc main_arg2)) := V_proj m c
/-- The gradient of the outputs the call is launched on. -/
theorem aDY_eq : aDY m c = m ((c.tc : Thread nD τ).loc main_arg4) := V_main_arg4 m c
/-- The rows' terms the call is launched on. -/
theorem aE_eq : aE m c = hRow (m ((c.tc : Thread nD τ).loc main_arg0)) (m ((c.tc : Thread nD τ).loc main_arg1)) (m ((c.tc : Thread nD τ).loc main_arg3)) := V_row m c
/-- The rows' products the call is launched on. -/
theorem aDL_eq : aDL m c = hDelta (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := V_delta m c
/-- The gates the call is launched on. -/
theorem aG_eq : aG m c = pad S4096x128 ![0, 0] ![0, 120] ![0, 0] (m ((c.tc : Thread nD τ).loc main_arg3)) (sitofp (F := Ideal) .f32 (constantI S_ 32 0#32)) pads_S4096x8_S4096x128_000_01200 h_S_ := V_gate m c

/-- Every head of the launched arrays holds the arguments' head. -/
theorem is_head (A : Args (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
    (h : Fin 8) : Is (head m c h.val) (A.head h) := by
  have hh := h.isLt
  unfold head
  rw [aP_eq, aDY_eq, aE_eq, aDL_eq, aG_eq]
  generalize m ((c.tc : Thread nD τ).loc main_arg0) = x0 at A ⊢
  generalize m ((c.tc : Thread nD τ).loc main_arg1) = x1 at A ⊢
  generalize m ((c.tc : Thread nD τ).loc main_arg2) = x2 at A ⊢
  generalize m ((c.tc : Thread nD τ).loc main_arg3) = x3 at A ⊢
  generalize m ((c.tc : Thread nD τ).loc main_arg4) = x4 at A ⊢
  refine ⟨fun x d => ?_, fun x d => ?_, fun x d => ?_, fun x d => ?_, fun x => ?_, fun x => ?_, fun g => ?_⟩
  · have hp := pcol_val hh (k := d.val) (by omega)
    dsimp only
    rw [hProj_apply x0 x1 x2 x h 0 d (hp.trans (by show _ = _ + 128 * 0 + _; omega)), hQKV_q, A.hq, A.hs]
    exact (EReal.coe_mul _ _).symm
  · have hp := pcol_val hh (k := 128 + d.val) (by omega)
    dsimp only
    rw [hProj_apply x0 x1 x2 x h 1 d (hp.trans (by show _ = _ + 128 * 1 + _; omega)), hQKV_k, A.hk]
    rfl
  · have hp := pcol_val hh (k := 256 + d.val) (by omega)
    dsimp only
    rw [hProj_apply x0 x1 x2 x h 2 d (hp.trans (by show _ = _ + 128 * 2 + _; omega)), hQKV_v, A.hv]
    rfl
  · have e : hcol h.val d.val = hc h d := Fin.ext (hcol_val hh d.isLt)
    dsimp only
    rw [e, A.hdy]; rfl
  · have e : hidx h.val = h := Fin.ext (hidx_val hh)
    dsimp only
    rw [e, A.h_row]
  · have e : hcol h.val 0 = hc h 0 := Fin.ext (hcol_val hh (by omega))
    dsimp only
    rw [e, A.h_delta]
  · dsimp only
    refine (Finset.sum_eq_single (⟨h.val, by omega⟩ : Fin 128) (fun l _ hl => if_neg fun e => hl (Fin.ext e)) (fun hn => absurd (Finset.mem_univ _) hn)).trans ?_
    rw [if_pos rfl]
    exact A.h_gate h g _ rfl _

end Cert.KernelIdeal.Pay

end
-- ==== Proof.Agree.lean ====
module

public import proofs.«01_k».proof.Proof.OutValue
public import proofs.«01_k».proof.Proof.HostReal

/-! The three arrays the call leaves are the reference's results. -/

@[expose] public section

set_option maxRecDepth 16384

noncomputable section

namespace Cert.KernelIdeal.Track

open Idealize.ShloMosaic hiding ix1 ix2 ix3 ix4
open Idealize.ShloMosaic.ValueIdx Idealize.SL.Sem
open Cert.KernelIdeal Cert.KernelIdeal.Gen Cert.KernelIdeal.Pay
open Cert.ReferenceIdeal.Read

variable (m : (ℓ : Loc nD τ sig) → Buf (Elt Ideal) ℓ) (c : Dev nD)

/-- A row of a head's gradients: the reference's stack of three. -/
theorem outAt_eq {x0 x1 x2 : ArrX} {x3 : ArrC} {x4 : ArrX} (A : Args x0 x1 x2 x3 x4) {H : Hd} {h : Fin 8} (I : Is H (A.head h)) (x : Fin 4096) (n : Fin 3) (d : Fin 128)
    {k : ℕ} (hk : k = 128 * n.val + d.val) : outAt H x k = val_main_v98 (F := Ideal) x0 x1 x2 x3 x4 (ix4 x h n d) := by
  have hd := d.isLt
  have hx := x.isLt
  unfold outAt
  match n with
  | ⟨0, _⟩ =>
    have hk : k = d.val := by simpa using hk
    have e : (⟨k, by omega⟩ : Fin 128) = d := Fin.ext hk
    rw [dif_pos (by omega), e]
    exact (I.dq A.hs (by omega) x (by omega) d).trans (A.r_out_q h x d).symm
  | ⟨1, _⟩ =>
    have hk : k = 128 + d.val := by simpa using hk
    have e : (⟨k - 128, by omega⟩ : Fin 128) = d := Fin.ext (by show k - 128 = d.val; omega)
    rw [dif_neg (by omega), dif_pos (by omega), e]
    exact (I.dk x d).trans (A.r_out_k h x d).symm
  | ⟨2, _⟩ =>
    have hk : k = 256 + d.val := by simpa using hk
    have e : (⟨(k - 256) % 128, Nat.mod_lt _ (by omega)⟩ : Fin 128) = d := Fin.ext (by show (k - 256) % 128 = d.val; omega)
    rw [dif_neg (by omega), dif_neg (by omega), e]
    exact (I.dv x d).trans (A.r_out_v h x d).symm

variable (A : Args (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
include A

/-- The projection's gradient. -/
theorem out_agree : outArr m c = val_main_v102 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  funext i
  obtain ⟨x, j, rfl⟩ : ∃ (x : Fin 4096) (j : Fin 7680), i = ix2 x j := ⟨i 0, i 1, funext fun a => by
    match a with
    | ⟨0, _⟩ => rfl
    | ⟨1, _⟩ => rfl⟩
  have hj := j.isLt
  unfold outArr
  by_cases hl : j.val < 4608
  · refine (if_pos hl).trans ?_
    rw [V_out]
    exact (Args.out_low (m ((c.tc : Thread nD τ).loc main_arg5)) x hl).symm
  · refine (if_neg hl).trans ?_
    have I := is_head m c A ⟨(j.val - 4608) / 384, by omega⟩
    rw [Args.out_high (m ((c.tc : Thread nD τ).loc main_arg5)) x ⟨(j.val - 4608) / 384, by omega⟩ ⟨(j.val - 4608) % 384 / 128, by omega⟩ ⟨(j.val - 4608) % 128, by omega⟩ (by show j.val = 4608 + 384 * ((j.val - 4608) / 384) + 128 * ((j.val - 4608) % 384 / 128) + (j.val - 4608) % 128; omega)]
    exact outAt_eq A I x _ _ (by show (j.val - 4608) % 384 = 128 * ((j.val - 4608) % 384 / 128) + (j.val - 4608) % 128; omega)

/-- The gradient of the gates as the keys read them. -/
theorem key_agree : keyArr m c = val_main_v104 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  funext i
  obtain ⟨h, g, rfl⟩ : ∃ (h : Fin 8) (g : Fin 4096), i = ix3 h 0 g := ⟨i 0, i 2, funext fun a => by
    match a with
    | ⟨0, _⟩ => rfl
    | ⟨1, _⟩ => exact Subsingleton.elim (α := Fin 1) _ _
    | ⟨2, _⟩ => rfl⟩
  exact ((is_head m c A h).dck g).trans (A.r_dck h g).symm

/-- The gradient of the gates as the queries read them. -/
theorem row_agree : rowArr m c = val_main_v106 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  funext i
  obtain ⟨h, x, rfl⟩ : ∃ (h : Fin 8) (x : Fin 4096), i = ix3 h 0 x := ⟨i 0, i 2, funext fun a => by
    match a with
    | ⟨0, _⟩ => rfl
    | ⟨1, _⟩ => exact Subsingleton.elim (α := Fin 1) _ _
    | ⟨2, _⟩ => rfl⟩
  exact ((is_head m c A h).dcq x).trans (A.r_dcq h x).symm

end Cert.KernelIdeal.Track

end
-- ==== Proof.Finite.lean ====
module

public import proofs.«01_k».proof.Proof.RefValue
public import proofs.«01_k».proof.Proof.Gen.Pre_finite
public import Idealize.ShloMosaic.Lib.ReduceAll

/-! Finite arguments are real, and so are the largest scores of the reference's rows. -/

@[expose] public section

set_option maxRecDepth 16384

noncomputable section

namespace Cert.KernelIdeal.Pay

open Idealize.ShloMosaic hiding ix1 ix2 ix3 ix4
open Idealize.ShloMosaic.ValueIdx
open Cert.ReferenceIdeal Cert.ReferenceIdeal.Gen Cert.ReferenceIdeal.Read

/-- A value whose absolute value is below +∞ is real. -/
theorem real_of_abs {x : EReal} (h : Ideal.cmp .olt (max x (-x)) ⊤ = 1#1) : ∃ r : ℝ, x = r := by
  have hlt : max x (-x) < ⊤ := by
    by_contra hn
    have e : Ideal.cmp .olt (max x (-x)) ⊤ = 0#1 := by simp only [Ideal.cmp, hn, decide_false]; rfl
    rw [e] at h
    exact absurd h (by decide)
  obtain ⟨h1, h2⟩ := max_lt_iff.1 hlt
  have hb : x ≠ ⊥ := fun e => by rw [e] at h2; simp at h2
  exact ⟨x.toReal, (EReal.coe_toReal h1.ne hb).symm⟩

/-- The word of +∞. -/
theorem inf_word : Ideal.ofBits .f32 0x7F800000#32 = (⊤ : EReal) := by simp [Ideal.ofBits, Ideal.ieee]

/-- An array all of whose absolute values test below +∞ is real everywhere. -/
theorem all_real {s : Shape} {axes : List (Fin s.rank)} (x : FVec Ideal s .f32) (dims : Fin 0 → Fin s.rank)
    (hb : Cert.Pre_finite.S_.BroadcastsInDim s dims) (hr : s.ReducesTo axes Cert.Pre_finite.S_) (hu : 0 < Cert.Pre_finite.S_.numel) (j : Cert.Pre_finite.S_.Idx)
    (h : Host.reduce IntOp.andi (cmpf .olt (Host.absf x) (broadcastInDim s dims hb (constant (F := Ideal) Cert.Pre_finite.S_ .f32 0x7F800000#32)))
      (constantI Cert.Pre_finite.S_ 1 1#1) hr hu j = 1#1) (i : s.Idx) : ∃ r : ℝ, (x i : EReal) = r := by
  haveI : Subsingleton Cert.Pre_finite.S_.Idx := ⟨fun a b => funext fun k => k.elim0⟩
  have e := Host.reduce_andi_all _ _ _ _ j h i
  refine real_of_abs ?_
  rw [← inf_word]
  exact e

/-- A running maximum is at least where it starts and at least every value met. -/
theorem le_foldl_max {ι : Type} (f : ι → EReal) : ∀ (l : List ι) (b : EReal), b ≤ l.foldl (fun r n => max r (f n)) b ∧ ∀ n ∈ l, f n ≤ l.foldl (fun r n => max r (f n)) b
  | [], b => ⟨le_refl _, fun _ hn => nomatch hn⟩
  | a :: l, b => by
    obtain ⟨h1, h2⟩ := le_foldl_max f l (max b (f a))
    refine ⟨(le_max_left _ _).trans h1, fun n hn => ?_⟩
    rcases List.mem_cons.1 hn with rfl | hn
    · exact (le_max_right _ _).trans h1
    · exact h2 n hn

/-- A running maximum of values below +∞ is below +∞. -/
theorem foldl_max_lt {ι : Type} (f : ι → EReal) : ∀ (l : List ι) (b : EReal), b < ⊤ → (∀ n ∈ l, f n < ⊤) → l.foldl (fun r n => max r (f n)) b < ⊤
  | [], _, hb, _ => hb
  | a :: l, b, hb, hf => foldl_max_lt f l _ (max_lt hb (hf a (List.mem_cons_self ..))) fun n hn => hf n (List.mem_cons_of_mem _ hn)

/-- The largest value of a row is real if no value is +∞ and one of them is not −∞. -/
theorem rowmax_real {s t u : Shape} {axes : List (Fin s.rank)} (y : FVec Ideal s .f32) (z : FVec Ideal u .f32) (hr : s.ReducesTo axes t) (hu : 0 < u.numel)
    (hz : ∀ i, (z i : EReal) < ⊤) (hy : ∀ i, (y i : EReal) < ⊤) (j : t.Idx) (i : s.Idx) (hi : hr.drop i = j) (hb : (⊥ : EReal) < y i) :
    ∃ r : ℝ, Host.reduce (FloatOps.maximumf (F := Ideal) (φ := .f32)) y z hr hu j = (r : EReal) := by
  rw [Host.reduce_eq_foldl]
  have hm : i ∈ ((List.finRange s.numel).map s.rowMajor.symm).filter fun i => hr.drop i = j := by
    rw [List.mem_filter]
    exact ⟨List.mem_map.2 ⟨s.rowMajor i, List.mem_finRange _, Equiv.symm_apply_apply _ _⟩, by simp [hi]⟩
  have h1 := hb.trans_le ((le_foldl_max (fun n => (y n : EReal)) _ (z (Shape.Idx.first hu))).2 i hm)
  have h2 := foldl_max_lt (fun n => (y n : EReal)) (((List.finRange s.numel).map s.rowMajor.symm).filter fun i => hr.drop i = j) (z (Shape.Idx.first hu)) (hz _) (fun n _ => hy n)
  exact ⟨_, (EReal.coe_toReal h2.ne h1.ne').symm⟩

/-- The scale is real. -/
theorem sc_real : ∃ r : ℝ, sc = (r : EReal) := by
  refine ⟨sc.toReal, (EReal.coe_toReal ?_ ?_).symm⟩
  · simp [sc, Ideal.ofBits, Ideal.ieee]
    rw [← EReal.coe_mul]
    exact EReal.coe_ne_top _
  · simp [sc, Ideal.ofBits, Ideal.ieee]
    rw [← EReal.coe_mul]
    exact EReal.coe_ne_bot _

/-- A product of real values is real. -/
theorem real_mul {a b : EReal} (ha : ∃ r : ℝ, a = r) (hb : ∃ r : ℝ, b = r) : ∃ r : ℝ, a * b = r := by
  obtain ⟨r, rfl⟩ := ha
  obtain ⟨t, rfl⟩ := hb
  exact ⟨r * t, (EReal.coe_mul r t).symm⟩

section

variable {x0 x1 x2 : ArrX} {x3 : ArrC} {x4 : ArrX}

/-- The gated scores of real arguments are real. -/
theorem score_real (h0 : ∀ i, ∃ r : ℝ, (x0 i : EReal) = r) (h1 : ∀ i, ∃ r : ℝ, (x1 i : EReal) = r) (h3 : ∀ i, ∃ r : ℝ, (x3 i : EReal) = r)
    (i : S8x4096x4096.Idx) : ∃ r : ℝ, (val_main_v16 (F := Ideal) x0 x1 x3 i : EReal) = r := by
  obtain ⟨p, hp⟩ := h3 (idx_main_v9 (idx_main_v10 (idx_main_v11 i)))
  obtain ⟨w, hw⟩ := h3 (idx_main_v13 (idx_main_v14 (idx_main_v15 i)))
  rw [val_main_v16_apply, val_main_v12_apply, val_main_v11_apply, val_main_v10_apply, val_main_v9_apply, val_main_v15_apply, val_main_v14_apply, val_main_v13_apply, val_main_v8_apply, hp, hw]
  have e : ∀ d : Fin 128, ∃ r : ℝ, val_main_v3 (F := Ideal) x0 (lidx_main_v8 i d) * val_main_v5 (F := Ideal) x1 (ridx_main_v8 i d) = (r : EReal) := fun d => by
    rw [val_main_v3_apply, val_main_v1_apply, val_main_v0_apply, val_main_v5_apply, val_main_v4_apply]
    exact real_mul (real_mul (h0 _) sc_real) (h1 _)
  choose r e using e
  rw [Finset.sum_congr rfl fun d _ => e d, ← coe_sum]
  exact ⟨(∑ d, r d) + p - w, (congrArg (fun a : EReal => a - (w : EReal)) (EReal.coe_add _ p).symm).trans (EReal.coe_sub _ w).symm⟩

/-- The largest scores of real arguments' rows are real: a row's own key is never masked. -/
theorem max_real (h0 : ∀ i, ∃ r : ℝ, (x0 i : EReal) = r) (h1 : ∀ i, ∃ r : ℝ, (x1 i : EReal) = r) (h3 : ∀ i, ∃ r : ℝ, (x3 i : EReal) = r)
    (h : Fin 8) (x : Fin 4096) : ∃ r : ℝ, (val_main_v24 (F := Ideal) x0 x1 x3 (ix2 h x) : EReal) = r := by
  have hs := score_real h0 h1 h3
  have hlow : ∀ i, val_main_call0_v2 (F := Ideal) i = (⊥ : EReal) := fun i => by
    rw [val_main_call0_v2_apply, val_main_call0_v0_apply]
    simp [val_main_cst_0, constant, Ideal.ofBits, Ideal.ieee]
  have hy : ∀ i, (val_main_v23_0 (F := Ideal) x0 x1 x3 i : EReal) < ⊤ := fun i => by
    obtain ⟨r, e⟩ := hs i
    rw [val_main_v23_0_apply, e, hlow]
    unfold Scalar.select
    split
    · exact EReal.coe_lt_top r
    · exact bot_lt_top
  have hown : (⊥ : EReal) < val_main_v23_0 (F := Ideal) x0 x1 x3 (ix3 h x x) := by
    obtain ⟨r, e⟩ := hs (ix3 h x x)
    rw [val_main_v23_0_apply, e, (Args.r_mask h x x).2 (le_refl _)]
    exact EReal.bot_lt_coe r
  have hz : ∀ i, (val_main_cst_1 (F := Ideal) i : EReal) < ⊤ := fun i => by
    have e : (val_main_cst_1 (F := Ideal) i : EReal) = ⊥ := by simp [val_main_cst_1, constant, Ideal.ofBits, Ideal.ieee]
    rw [e]; exact bot_lt_top
  unfold val_main_v24
  generalize val_main_v23_0 (F := Ideal) x0 x1 x3 = y at hy hown ⊢
  refine rowmax_real y _ _ _ hz hy (ix2 h x) (ix3 h x x) (funext fun b => ?_) hown
  match b with
  | ⟨0, _⟩ => rfl
  | ⟨1, _⟩ => rfl

/-- Real arguments. -/
theorem args_of_real (h0 : ∀ i, ∃ r : ℝ, (x0 i : EReal) = r) (h1 : ∀ i, ∃ r : ℝ, (x1 i : EReal) = r) (h2 : ∀ i, ∃ r : ℝ, (x2 i : EReal) = r)
    (h3 : ∀ i, ∃ r : ℝ, (x3 i : EReal) = r) (h4 : ∀ i, ∃ r : ℝ, (x4 i : EReal) = r) : Nonempty (Args x0 x1 x2 x3 x4) := by
  have hm := max_real h0 h1 h3
  choose a0 h0 using h0
  choose a1 h1 using h1
  choose a2 h2 using h2
  choose a3 h3 using h3
  choose a4 h4 using h4
  choose mx hm using hm
  obtain ⟨s, hs⟩ := sc_real
  exact ⟨⟨fun x j => a0 (ix2 x j), fun x j => a1 (ix2 x j), fun x j => a2 (ix2 x j), fun x h => a3 (ix2 x h), fun x j => a4 (ix2 x j), s, mx,
    fun _ _ => h0 _, fun _ _ => h1 _, fun _ _ => h2 _, fun _ _ => h3 _, fun _ _ => h4 _, hs, hm⟩⟩

/-- Finite arguments. -/
theorem args_of_finite {x5 : FVec Ideal Cert.Pre_finite.S4096x7680 .bf16} (h : Cert.Pre_finite.fn (F := Ideal) x0 x1 x2 x3 x4 x5 = fun _ => 1#1) : Nonempty (Args x0 x1 x2 x3 x4) := by
  have e : Cert.Pre_finite.fn (F := Ideal) x0 x1 x2 x3 x4 x5 (fun k => k.elim0) = 1#1 := by rw [h]
  unfold Cert.Pre_finite.fn Cert.Pre_finite.fn_part1 at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact args_of_real (all_real x0 _ _ _ _ _ e0) (all_real x1 _ _ _ _ _ e1) (all_real x2 _ _ _ _ _ e2) (all_real x3 _ _ _ _ _ e3) (all_real x4 _ _ _ _ _ e4)

end

end Cert.KernelIdeal.Pay

end
-- ==== Proof.ActValue.lean ====
module

public import proofs.«01_k».proof.Proof.Gen.Kernel2Ideal.Value
public import Idealize.ShloMosaic.Lib.Pipeline.ValueKit
public import Idealize.ShloMosaic.Lib.ValueIdx
public import Idealize.ShloMosaic.Lib.Pointwise
public import Idealize.ShloMosaic.PureOps.Ideal.Laws

/-! The array that the gradient of the gated product leaves, as one function of the call's arguments. -/

@[expose] public section

set_option maxRecDepth 16384

noncomputable section

namespace Cert.Kernel2Ideal.Act

open Idealize.ShloMosaic hiding ix1 ix2 ix3
open Idealize.ShloMosaic.ValueIdx Idealize.ShloMosaic.Pipeline Idealize.SL.Sem
open Cert.Kernel2Ideal Cert.Kernel2Ideal.Gen

/-- The word of one. -/
abbrev one : EReal := Ideal.ofBits .f32 0x3F800000#32
/-- The word of zero. -/
abbrev zero : EReal := Ideal.ofBits .f32 0x00000000#32

/-- The logistic function. -/
def sg (g : EReal) : EReal := Ideal.div one (one + Ideal.exp (zero - g))

/-- The gate's gradient, from the product's gradient, the gate and the other factor. -/
def dgate (D g u : EReal) : EReal := D * u * (sg g * (one + g * (one - sg g)))
/-- The other factor's gradient. -/
def dup (D g : EReal) : EReal := D * (g * sg g)

/-- Rows against rows. -/
theorem mm_rows (a : FVec Ideal S1024x1024 .bf16) (b : FVec Ideal S1408x1024 .bf16) (r : Fin 1024) (f : Fin 1408) :
    k0_pay1 (F := Ideal) a b (ix2 r f) = ∑ k : Fin 1024, a (ix2 r k) * b (ix2 f k) := by
  unfold k0_pay1
  simp only [matmul]
  rw [Ideal.matmul_constant_zero_apply, ← Equiv.sum_comp (contrEquiv1 dot_S1024x1024_S1408x1024_S1024x1408_1_1_0_0_n_n 1024 rfl rfl).symm]
  refine Finset.sum_congr rfl fun k _ => ?_
  have hk := contrEquiv1_symm_val dot_S1024x1024_S1408x1024_S1024x1408_1_1_0_0_n_n 1024 rfl rfl k
  congr 1
  · refine congrArg a (funext fun x => Fin.ext ?_)
    match x with
    | ⟨0, _⟩ => rfl
    | ⟨1, _⟩ => exact hk
  · refine congrArg b (funext fun x => Fin.ext ?_)
    match x with
    | ⟨0, _⟩ => rfl
    | ⟨1, _⟩ => exact hk

/-- A block with a unit axis put in front. -/
theorem put_unit (x : FVec Ideal S1024x1408 .bf16) (n : Fin 1) (r : Fin 1024) (f : Fin 1408) :
    shapeCast S1x1024x1408 x shapeCasts_S1024x1408_S1x1024x1408 (ix3 n r f) = x (ix2 r f) := by
  obtain rfl : n = 0 := Subsingleton.elim _ _
  exact shapeCast_apply _ _ _ _ (by rw [Shape.rowMajor_val_two, Shape.rowMajor_val_three]; simp [ix2, ix3, Shape.size])

/-- The block of the gate's gradient. -/
theorem pay4_at (v0 : Vec Ideal S1024x1024 .bf16) (v1 : Vec Ideal S1408x1024 .bf16) (v3 v5 : Vec Ideal S1024x1408 .bf16) (n : Fin 1) (r : Fin 1024) (f : Fin 1408) :
    k0_pay4 (F := Ideal) v0 v1 v3 v5 (ix3 n r f) = dgate (∑ k : Fin 1024, v0 (ix2 r k) * v1 (ix2 f k)) (v3 (ix2 r f)) (v5 (ix2 r f)) := by
  rw [← mm_rows]
  unfold k0_pay4
  exact (put_unit _ n r f).trans rfl

/-- The block of the other factor's gradient. -/
theorem pay5_at (v0 : Vec Ideal S1024x1024 .bf16) (v1 : Vec Ideal S1408x1024 .bf16) (v3 : Vec Ideal S1024x1408 .bf16) (n : Fin 1) (r : Fin 1024) (f : Fin 1408) :
    k0_pay5 (F := Ideal) v0 v1 v3 (ix3 n r f) = dup (∑ k : Fin 1024, v0 (ix2 r k) * v1 (ix2 f k)) (v3 (ix2 r f)) := by
  rw [← mm_rows]
  unfold k0_pay5
  exact (put_unit _ n r f).trans rfl

/-- The two gradients stacked, of whole arrays. -/
def both (a0 : S4096x1024.Idx → EReal) (a1 : S2816x1024.Idx → EReal) (a2 a3 : S4096x2816.Idx → EReal) : S2x4096x2816.Idx → EReal := fun i =>
  if (i 0).val = 0 then dgate (∑ k : Fin 1024, a0 (ix2 (i 1) k) * a1 (ix2 (i 2) k)) (a2 (ix2 (i 1) (i 2))) (a3 (ix2 (i 1) (i 2)))
  else dup (∑ k : Fin 1024, a0 (ix2 (i 1) k) * a1 (ix2 (i 2) k)) (a2 (ix2 (i 1) (i 2)))

theorem hz2 : (![0, 0] : Fin 2 → Nat) = fun _ => 0 := funext fun a => by fin_cases a <;> rfl

/-- What one point leaves in its block of the result. -/
theorem out_at (x0 : Vec Ideal S1024x1024 .bf16) (x1 : Vec Ideal S1408x1024 .bf16) (x2 x3 : Vec Ideal S1024x1408 .bf16) (y : S2x1024x1408.Idx) :
    out0_4 (F := Ideal) x0 x1 x2 x3 y
      = if (y 0).val = 0 then dgate (∑ k : Fin 1024, x0 (ix2 (y 1) k) * x1 (ix2 (y 2) k)) (x2 (ix2 (y 1) (y 2))) (x3 (ix2 (y 1) (y 2)))
        else dup (∑ k : Fin 1024, x0 (ix2 (y 1) k) * x1 (ix2 (y 2) k)) (x2 (ix2 (y 1) (y 2))) := by
  unfold out0_4
  rw [View.ld_unit_zero hz2, View.ld_unit_zero hz2, View.ld_unit_zero hz2, View.ld_unit_zero hz2]
  refine View.canon_apply_of_pieces (Val := Elt Ideal) (e := .bf16) (fun y : S2x1024x1408.Idx => show EReal from if (y 0).val = 0 then dgate (∑ k : Fin 1024, x0 (ix2 (y 1) k) * x1 (ix2 (y 2) k)) (x2 (ix2 (y 1) (y 2))) (x3 (ix2 (y 1) (y 2)))
        else dup (∑ k : Fin 1024, x0 (ix2 (y 1) k) * x1 (ix2 (y 2) k)) (x2 (ix2 (y 1) (y 2)))) _ (fun p hp x => ?_) y (cover0_4 _ _ y)
  have split : ∀ x : S1x1024x1408.Idx, x = ix3 (x 0) (x 1) (x 2) := fun x => funext fun a => by
    match a with
    | ⟨0, _⟩ => rfl
    | ⟨1, _⟩ => rfl
    | ⟨2, _⟩ => rfl
  have hl : ∀ x : S1x1024x1408.Idx, (x 0).val < 1 := fun x => (x 0).isLt
  rcases List.mem_cons.1 hp with rfl | hp
  · have e0 : (r0_4.emb x 0).val ≠ 0 := by
      have : (r0_4.emb x 0).val = 1 + (x 0).val := by blk_simp [r0_4]
      omega
    have e1 : r0_4.emb x 1 = x 1 := Fin.ext (by blk_simp [r0_4])
    have e2 : r0_4.emb x 2 = x 2 := Fin.ext (by blk_simp [r0_4])
    dsimp only
    rw [if_neg e0, e1, e2]
    exact (congrArg _ (split x)).trans (pay5_at x0 x1 x2 (x 0) (x 1) (x 2))
  · obtain rfl := List.mem_singleton.1 hp
    have e0 : (r0_3.emb x 0).val = 0 := by
      have h := hl x
      have : (r0_3.emb x 0).val = (x 0).val := by blk_simp [r0_3]
      omega
    have e1 : r0_3.emb x 1 = x 1 := Fin.ext (by blk_simp [r0_3])
    have e2 : r0_3.emb x 2 = x 2 := Fin.ext (by blk_simp [r0_3])
    dsimp only
    rw [if_pos e0, e1, e2]
    exact (congrArg _ (split x)).trans (pay4_at x0 x1 x2 x3 (x 0) (x 1) (x 2))

theorem pt_lt (t : Fin cfg0.N) : t.val < 8 := t.isLt

theorem index0 : ∀ t : Fin cfg0.N, win0_0.index t = ![t.val / 2, 0] := (by decide +kernel : ∀ t : Fin grid0.N, win0_0.index t = ![t.val / 2, 0])
theorem index1 : ∀ t : Fin cfg0.N, win0_1.index t = ![t.val % 2, 0] := (by decide +kernel : ∀ t : Fin grid0.N, win0_1.index t = ![t.val % 2, 0])
theorem index2 : ∀ t : Fin cfg0.N, win0_2.index t = ![t.val / 2, t.val % 2] := (by decide +kernel : ∀ t : Fin grid0.N, win0_2.index t = ![t.val / 2, t.val % 2])
theorem index3 : ∀ t : Fin cfg0.N, win0_3.index t = ![t.val / 2, t.val % 2] := (by decide +kernel : ∀ t : Fin grid0.N, win0_3.index t = ![t.val / 2, t.val % 2])
theorem index4 : ∀ t : Fin cfg0.N, win0_4.index t = ![0, t.val / 2, t.val % 2] := (by decide +kernel : ∀ t : Fin grid0.N, win0_4.index t = ![0, t.val / 2, t.val % 2])

variable (m : (ℓ : Loc nD τ sig) → Buf (Elt Ideal) ℓ) (c : Dev nD) (t : Fin cfg0.N)

/-- The row of the arrays that a row of a point's blocks is. -/
def row (r : Fin 1024) : Fin 4096 := ⟨t.val / 2 * 1024 + r.val, by have := pt_lt t; omega⟩
/-- The column of the arrays that a column of a point's blocks is. -/
def col (f : Fin 1408) : Fin 2816 := ⟨t.val % 2 * 1408 + f.val, by omega⟩

theorem block0 (r k : Fin 1024) : iblk m c 0 t (ix2 r k) = m ((c.tc : Thread nD τ).loc main_arg0) (ix2 (row t r) k) := by
  blk_simp [iblk]
  rw [V_main_arg0]
  refine congrArg (m ((c.tc : Thread nD τ).loc main_arg0)) (funext fun a => ?_)
  match a with
  | ⟨0, _⟩ => refine Fin.ext ?_; blk_simp [index0]; rfl
  | ⟨1, _⟩ => refine Fin.ext ?_; blk_simp [index0]
theorem block1 (f : Fin 1408) (k : Fin 1024) : iblk m c 1 t (ix2 f k) = m ((c.tc : Thread nD τ).loc main_arg1) (ix2 (col t f) k) := by
  blk_simp [iblk]
  rw [V_main_arg1]
  refine congrArg (m ((c.tc : Thread nD τ).loc main_arg1)) (funext fun a => ?_)
  match a with
  | ⟨0, _⟩ => refine Fin.ext ?_; blk_simp [index1]; rfl
  | ⟨1, _⟩ => refine Fin.ext ?_; blk_simp [index1]
theorem block2 (r : Fin 1024) (f : Fin 1408) : iblk m c 2 t (ix2 r f) = m ((c.tc : Thread nD τ).loc main_arg2) (ix2 (row t r) (col t f)) := by
  blk_simp [iblk]
  rw [V_main_arg2]
  refine congrArg (m ((c.tc : Thread nD τ).loc main_arg2)) (funext fun a => ?_)
  match a with
  | ⟨0, _⟩ => refine Fin.ext ?_; blk_simp [index2]; rfl
  | ⟨1, _⟩ => refine Fin.ext ?_; blk_simp [index2]; rfl
theorem block3 (r : Fin 1024) (f : Fin 1408) : iblk m c 3 t (ix2 r f) = m ((c.tc : Thread nD τ).loc main_arg3) (ix2 (row t r) (col t f)) := by
  blk_simp [iblk]
  rw [V_main_arg3]
  refine congrArg (m ((c.tc : Thread nD τ).loc main_arg3)) (funext fun a => ?_)
  match a with
  | ⟨0, _⟩ => refine Fin.ext ?_; blk_simp [index3]; rfl
  | ⟨1, _⟩ => refine Fin.ext ?_; blk_simp [index3]; rfl

/-- The array after the call. -/
theorem arr4 : (dats m 0 c).arrAt 4 cfg0.N = both (m ((c.tc : Thread nD τ).loc main_arg0)) (m ((c.tc : Thread nD τ).loc main_arg1)) (m ((c.tc : Thread nD τ).loc main_arg2)) (m ((c.tc : Thread nD τ).loc main_arg3)) := by
  refine Dat.arrAt_eq_of_covers (dat := dats m 0 c) 4 (both _ _ _ _) (by decide +kernel) (fun t hf y => ?_)
  have e0 : ((win0_4.blk t).view.emb y 0).val = (y 0).val := by blk_simp [index4]
  have e1 : (win0_4.blk t).view.emb y 1 = row t (y 1) := Fin.ext (by blk_simp [index4]; rfl)
  have e2 : (win0_4.blk t).view.emb y 2 = col t (y 2) := Fin.ext (by blk_simp [index4]; rfl)
  blk_simp
  rw [after0_4]
  refine (out_at _ _ _ _ _).trans ?_
  unfold both
  rw [e0, e1, e2]
  have hd := Finset.sum_congr (rfl : (Finset.univ : Finset (Fin 1024)) = Finset.univ) fun k _ =>
    congrArg₂ (fun a b : EReal => a * b) (block0 m c t (y 1) k) (block1 m c t (y 2) k)
  have hg := block2 m c t (y 1) (y 2)
  exact if_congr Iff.rfl (congr (congr (congrArg dgate hd) hg) (block3 m c t (y 1) (y 2))) (congr (congrArg dup hd) hg)

end Cert.Kernel2Ideal.Act

end
-- ==== Proof.ActAgree.lean ====
module

public import proofs.«01_k».proof.Proof.ActValue
public import proofs.«01_k».proof.Proof.Finite
public import proofs.«01_k».proof.Proof.RealHead
public import proofs.«01_k».proof.Proof.Gen.Reference2Ideal.Read
public import proofs.«01_k».proof.Proof.Gen.Pre_finite2

/-! The gradient of the gated product: the reference's array is the call's, for real arguments and any gate. -/

@[expose] public section

set_option maxRecDepth 16384

noncomputable section

namespace Cert.Kernel2Ideal.Act

open Idealize.ShloMosaic hiding ix1 ix2 ix3
open Idealize.ShloMosaic.ValueIdx
open Cert.Reference2Ideal Cert.Reference2Ideal.Gen Cert.Reference2Ideal.Read

theorem one_eq : one = ((1 : ℝ) : EReal) := by
  simp [one, Ideal.ofBits, Ideal.ieee]
  rw [← EReal.coe_mul, ← EReal.coe_one]
  exact congrArg _ (by norm_num)
theorem zero_eq : zero = ((0 : ℝ) : EReal) := by simp [zero, Ideal.ofBits, Ideal.ieee]

/-- The logistic function of a real number is real. -/
theorem sg_real (g : ℝ) : ∃ s : ℝ, sg (g : EReal) = s := by
  refine ⟨1 / (1 + Real.exp (0 - g)), ?_⟩
  unfold sg
  rw [one_eq, zero_eq, ← EReal.coe_sub, Ideal.exp_coe, ← EReal.coe_add]
  exact Cert.KernelIdeal.Pay.div_real (add_pos one_pos (Real.exp_pos _)) 1

theorem sg_top : sg ⊤ = ((1 : ℝ) : EReal) := by
  have e : zero - (⊤ : EReal) = ⊥ := by rw [zero_eq, sub_eq_add_neg, EReal.neg_top, EReal.add_bot]
  unfold sg
  rw [e, Ideal.exp_bot, one_eq, add_zero, Cert.KernelIdeal.Pay.div_real one_pos, div_one]

theorem sg_bot : sg ⊥ = ((0 : ℝ) : EReal) := by
  have e : zero - (⊥ : EReal) = ⊤ := by rw [zero_eq]; exact EReal.coe_sub_bot 0
  unfold sg
  rw [e, Ideal.exp_top, one_eq, EReal.coe_add_top, Ideal.div, if_neg EReal.top_ne_zero, EReal.inv_top, mul_zero, EReal.coe_zero]

/-- The gate's gradient as the derivative of the logistic function's product gives it. -/
theorem dgate_eq {D u : EReal} (g : EReal) (hD : ∃ r : ℝ, D = r) (hu : ∃ r : ℝ, u = r) :
    D * u * sg g + g * (D * u) * (sg g * (one - sg g)) = dgate D g u := by
  obtain ⟨d, rfl⟩ := hD
  obtain ⟨u, rfl⟩ := hu
  have e1 : ((1 : ℝ) : EReal) - ((1 : ℝ) : EReal) = 0 := by rw [← EReal.coe_sub, sub_self, EReal.coe_zero]
  unfold dgate
  induction g using EReal.rec with
  | bot => rw [sg_bot, EReal.coe_zero, zero_mul, mul_zero, zero_mul, mul_zero, mul_zero, add_zero]
  | top => rw [sg_top, one_eq, e1, mul_zero, mul_zero, mul_zero, add_zero, add_zero, EReal.coe_one, mul_one, mul_one, mul_one]
  | coe g =>
    obtain ⟨s, hs⟩ := sg_real g
    rw [hs, one_eq]
    simp only [← EReal.coe_mul, ← EReal.coe_add, ← EReal.coe_sub]
    congr 1
    ring

section

variable (x0 : FVec Ideal S4096x1024 .bf16) (x1 : FVec Ideal S2816x1024 .bf16) (x2 x3 : FVec Ideal S4096x2816 .bf16)

/-- The reference's logistic function. -/
theorem ref_sg (i : S4096x2816.Idx) : val_main_v4_2 (F := Ideal) x2 i = sg (x2 i) := by
  rw [val_main_v4_2_apply, val_main_call0_v4_apply, val_main_call0_v3_apply, val_main_call0_v2_apply, val_main_call0_v1_apply, val_main_call0_v0_apply, val_main_v2_apply]
  have e : (-(x2 i) : EReal) = zero - x2 i := by rw [zero_eq, EReal.coe_zero, zero_sub]
  unfold sg
  rw [← e]
  rfl

/-- The reference's product. -/
theorem ref_dot (r : Fin 4096) (f : Fin 2816) : val_main_v9 (F := Ideal) x0 x1 (ix2 r f) = ∑ k : Fin 1024, (x0 (ix2 r k) : EReal) * x1 (ix2 f k) := by
  rw [val_main_v9_apply]
  refine Finset.sum_congr rfl fun k _ => ?_
  rw [val_main_v0_apply, val_main_v1_apply]
  refine congrArg₂ (fun a b : EReal => a * b) (congrArg x0 (funext fun a => ?_)) (congrArg x1 (funext fun a => ?_))
  · match a with
    | ⟨0, _⟩ => rfl
    | ⟨1, _⟩ => rfl
  · match a with
    | ⟨0, _⟩ => rfl
    | ⟨1, _⟩ => rfl

/-- The reference's gradient of the gate. -/
theorem ref_gate (r : Fin 4096) (f : Fin 2816) (hD : ∃ w : ℝ, (∑ k : Fin 1024, (x0 (ix2 r k) : EReal) * x1 (ix2 f k)) = w) (hu : ∃ w : ℝ, (x3 (ix2 r f) : EReal) = w) :
    val_main_v12 (F := Ideal) x0 x1 x2 x3 (ix2 r f) = dgate (∑ k : Fin 1024, (x0 (ix2 r k) : EReal) * x1 (ix2 f k)) (x2 (ix2 r f)) (x3 (ix2 r f)) := by
  rw [val_main_v12_apply, val_main_call1_v1_apply, val_main_call1_v2_apply, val_main_call1_v0_apply, val_main_v4_1_apply, val_main_call0_v7_apply,
    val_main_call0_v6_apply, val_main_v11_apply, val_main_v2_apply, val_main_v3_apply, ref_sg, ref_dot]
  exact dgate_eq _ hD hu

/-- The reference's gradient of the other factor. -/
theorem ref_up (r : Fin 4096) (f : Fin 2816) :
    val_main_v10 (F := Ideal) x0 x1 x2 (ix2 r f) = dup (∑ k : Fin 1024, (x0 (ix2 r k) : EReal) * x1 (ix2 f k)) (x2 (ix2 r f)) := by
  rw [val_main_v10_apply, val_main_v4_0_apply, val_main_v2_apply, ref_sg, ref_dot]
  exact mul_comm (_ : EReal) _

/-- The first plane of the reference's array. -/
theorem ref_first (n : Fin 2) (r : Fin 4096) (f : Fin 2816) (hn : n.val = 0) :
    val_main_v16 (F := Ideal) x0 x1 x2 x3 (ix3 n r f) = val_main_v12 (F := Ideal) x0 x1 x2 x3 (ix2 r f) := by
  have e : idx_main_v13 (ix3 (0 : Fin 1) r f) = ix2 r f := funext fun a => by
    match a with
    | ⟨0, _⟩ => rfl
    | ⟨1, _⟩ => rfl
  rw [← e, ← val_main_v13_apply, val_main_v16_apply]
  unfold val_main_v15
  generalize val_main_v13 (F := Ideal) x0 x1 x2 x3 = y
  exact concatenate_pair_apply_left (s₁ := S1x4096x2816) (s₂ := S1x4096x2816) (t := S2x4096x2816) 0 _ _ _ (ix3 n r f) rfl (ix3 (0 : Fin 1) r f) (fun b => by
    match b with
    | ⟨0, _⟩ => exact hn.symm
    | ⟨1, _⟩ => rfl
    | ⟨2, _⟩ => rfl)

/-- The second plane of the reference's array. -/
theorem ref_second (n : Fin 2) (r : Fin 4096) (f : Fin 2816) (hn : n.val = 1) :
    val_main_v16 (F := Ideal) x0 x1 x2 x3 (ix3 n r f) = val_main_v10 (F := Ideal) x0 x1 x2 (ix2 r f) := by
  have e : idx_main_v14 (ix3 (0 : Fin 1) r f) = ix2 r f := funext fun a => by
    match a with
    | ⟨0, _⟩ => rfl
    | ⟨1, _⟩ => rfl
  rw [← e, ← val_main_v14_apply, val_main_v16_apply]
  unfold val_main_v15
  generalize val_main_v14 (F := Ideal) x0 x1 x2 = y
  exact concatenate_pair_apply_right (s₁ := S1x4096x2816) (s₂ := S1x4096x2816) (t := S2x4096x2816) 0 _ _ _ (ix3 n r f) rfl rfl (ix3 (0 : Fin 1) r f) (fun b hb => by
    match b with
    | ⟨0, _⟩ => exact absurd rfl hb
    | ⟨1, _⟩ => rfl
    | ⟨2, _⟩ => rfl) (by show 0 + 1 = n.val; omega)

/-- The reference's array. -/
theorem ref_both (h0 : ∀ i, ∃ r : ℝ, (x0 i : EReal) = r) (h1 : ∀ i, ∃ r : ℝ, (x1 i : EReal) = r) (h3 : ∀ i, ∃ r : ℝ, (x3 i : EReal) = r) :
    val_main_v16 (F := Ideal) x0 x1 x2 x3 = both x0 x1 x2 x3 := by
  have hd : ∀ (r : Fin 4096) (f : Fin 2816), ∃ w : ℝ, (∑ k : Fin 1024, (x0 (ix2 r k) : EReal) * x1 (ix2 f k)) = w := fun r f => by
    choose w e using fun k : Fin 1024 => Cert.KernelIdeal.Pay.real_mul (h0 (ix2 r k)) (h1 (ix2 f k))
    rw [Finset.sum_congr rfl fun k _ => e k, ← Cert.KernelIdeal.Pay.coe_sum]
    exact ⟨_, rfl⟩
  have main : ∀ (n : Fin 2) (r : Fin 4096) (f : Fin 2816), val_main_v16 (F := Ideal) x0 x1 x2 x3 (ix3 n r f) = both x0 x1 x2 x3 (ix3 n r f) := fun n r f => by
    by_cases hn : n.val = 0
    · exact (ref_first x0 x1 x2 x3 n r f hn).trans ((ref_gate x0 x1 x2 x3 r f (hd r f) (h3 _)).trans (if_pos hn).symm)
    · exact (ref_second x0 x1 x2 x3 n r f (by omega)).trans ((ref_up x0 x1 x2 r f).trans (if_neg hn).symm)
  funext i
  have hi : i = ix3 (i 0) (i 1) (i 2) := funext fun a => by
    match a with
    | ⟨0, _⟩ => rfl
    | ⟨1, _⟩ => rfl
    | ⟨2, _⟩ => rfl
  exact (congrArg _ hi).trans ((main (i 0) (i 1) (i 2)).trans (congrArg _ hi.symm))

/-- Under the precondition. -/
theorem ref_of_finite (h : Cert.Pre_finite2.fn (F := Ideal) x0 x1 x2 x3 = fun _ => 1#1) : val_main_v16 (F := Ideal) x0 x1 x2 x3 = both x0 x1 x2 x3 := by
  have e : Cert.Pre_finite2.fn (F := Ideal) x0 x1 x2 x3 (fun k => k.elim0) = 1#1 := by rw [h]
  unfold Cert.Pre_finite2.fn at e
  obtain ⟨e, e3⟩ := IntOp.andi_eq_one.1 e
  obtain ⟨e0, e1⟩ := IntOp.andi_eq_one.1 e
  exact ref_both x0 x1 x2 x3 (Cert.KernelIdeal.Pay.all_real _ _ _ _ _ _ e0) (Cert.KernelIdeal.Pay.all_real _ _ _ _ _ _ e1) (Cert.KernelIdeal.Pay.all_real _ _ _ _ _ _ e3)

end

end Cert.Kernel2Ideal.Act

end
-- ==== Proof.DwValue.lean ====
module

public import proofs.«01_k».proof.Proof.Gen.Kernel3Ideal.Value
public import Idealize.ShloMosaic.Lib.Pipeline.ValueKit
public import Idealize.ShloMosaic.Lib.ValueIdx
public import Idealize.ShloMosaic.Lib.Pointwise
public import Idealize.ShloMosaic.PureOps.Ideal.Laws

/-! The array that the weights' gradient leaves, as one function of the call's arguments. -/

@[expose] public section

set_option maxRecDepth 16384

noncomputable section

namespace Cert.Kernel3Ideal.Dw

open Idealize.ShloMosaic hiding ix1 ix2 ix3
open Idealize.ShloMosaic.ValueIdx Idealize.ShloMosaic.Pipeline Idealize.SL.Sem
open Cert.Kernel3Ideal Cert.Kernel3Ideal.Gen

/-- A block's unit axis taken off. -/
theorem drop_unit (x : FVec Ideal S1x2048x1408 .bf16) (r : Fin 2048) (f : Fin 1408) :
    shapeCast S2048x1408 x shapeCasts_S1x2048x1408_S2048x1408 (ix2 r f) = x (ix3 (0 : Fin 1) r f) :=
  shapeCast_apply _ _ _ _ (by rw [Shape.rowMajor_val_two, Shape.rowMajor_val_three]; simp [ix2, ix3, Shape.size])

/-- One point's product. -/
def part (a : S1x2048x1408.Idx → EReal) (b : S2048x1024.Idx → EReal) (f : Fin 1408) (d : Fin 1024) : EReal :=
  ∑ k : Fin 2048, a (ix3 (0 : Fin 1) k f) * b (ix2 k d)

/-- Columns against columns. -/
theorem mm_cols (a : FVec Ideal S2048x1408 .bf16) (b : FVec Ideal S2048x1024 .bf16) (f : Fin 1408) (d : Fin 1024) :
    matmul dot_S2048x1408_S2048x1024_S1408x1024_0_0_1_1_n_n none a b (constant (F := Ideal) S1408x1024 .f32 0x00000000#32) (ix2 f d) = ∑ k : Fin 2048, a (ix2 k f) * b (ix2 k d) := by
  simp only [matmul]
  rw [Ideal.matmul_constant_zero_apply, ← Equiv.sum_comp (contrEquiv1 dot_S2048x1408_S2048x1024_S1408x1024_0_0_1_1_n_n 2048 rfl rfl).symm]
  refine Finset.sum_congr rfl fun k _ => ?_
  have hk := contrEquiv1_symm_val dot_S2048x1408_S2048x1024_S1408x1024_0_0_1_1_n_n 2048 rfl rfl k
  congr 1
  · refine congrArg a (funext fun x => Fin.ext ?_)
    match x with
    | ⟨0, _⟩ => exact hk
    | ⟨1, _⟩ => rfl
  · refine congrArg b (funext fun x => Fin.ext ?_)
    match x with
    | ⟨0, _⟩ => exact hk
    | ⟨1, _⟩ => rfl

/-- One accumulation. -/
theorem pay2_at (acc : Vec Ideal S1408x1024 .f32) (a : Vec Ideal S1x2048x1408 .bf16) (b : Vec Ideal S2048x1024 .bf16) (f : Fin 1408) (d : Fin 1024) :
    k0_pay2 (F := Ideal) acc a b (ix2 f d) = (acc (ix2 f d) : EReal) + part a b f d := by
  unfold k0_pay2
  rw [shapeCast_self]
  refine congrArg (fun z : EReal => (acc (ix2 f d) : EReal) + z) ((mm_cols _ _ f d).trans ?_)
  exact Finset.sum_congr rfl fun k _ => congrArg (fun z : EReal => z * b (ix2 k d)) (drop_unit a k f)

/-- The start of an accumulation. -/
theorem pay1_at (y : S1408x1024.Idx) : (k0_pay1 (F := Ideal) y : EReal) = 0 := by
  unfold k0_pay1
  rw [shapeCast_self]
  exact (Ideal.ofBits_zero_f32 : (Ideal.ofBits .f32 0#32 : EReal) = 0)

/-- Two accumulations from the start. -/
theorem pays_at (a a' : Vec Ideal S1x2048x1408 .bf16) (b b' : Vec Ideal S2048x1024 .bf16) (f : Fin 1408) (d : Fin 1024) :
    (k0_pay3 (F := Ideal) (k0_pay2 (F := Ideal) (k0_pay2 (F := Ideal) (k0_pay1 (F := Ideal)) a b) a' b') (ix2 f d) : EReal) = part a b f d + part a' b' f d := by
  refine (pay2_at _ a' b' f d).trans ?_
  rw [pay2_at, pay1_at, zero_add]

theorem pt_lt (t : Fin cfg0.N) : t.val < 8 := t.isLt

theorem index0 : ∀ t : Fin cfg0.N, win0_0.index t = ![t.val / 4, t.val % 2, t.val / 2 % 2] := (by decide +kernel : ∀ t : Fin grid0.N, win0_0.index t = ![t.val / 4, t.val % 2, t.val / 2 % 2])
theorem index1 : ∀ t : Fin cfg0.N, win0_1.index t = ![t.val % 2, 0] := (by decide +kernel : ∀ t : Fin grid0.N, win0_1.index t = ![t.val % 2, 0])
theorem index2 : ∀ t : Fin cfg0.N, win0_2.index t = ![t.val / 2, 0] := (by decide +kernel : ∀ t : Fin grid0.N, win0_2.index t = ![t.val / 2, 0])

/-- The half of the first argument that a row of the result belongs to. -/
def half (r : Fin 5632) : Fin 2 := ⟨r.val / 2816, by omega⟩
/-- The column of that half. -/
def col (r : Fin 5632) : Fin 2816 := ⟨r.val % 2816, by omega⟩

/-- The two gradients, one below the other. -/
def grads (a0 : S2x4096x2816.Idx → EReal) (a1 : S4096x1024.Idx → EReal) : S5632x1024.Idx → EReal := fun i =>
  ∑ k : Fin 4096, a0 (ix3 (half (i 0)) k (col (i 0))) * a1 (ix2 k (i 1))

variable (m : (ℓ : Loc nD τ sig) → Buf (Elt Ideal) ℓ) (c : Dev nD) (t : Fin cfg0.N)

/-- The row of the arrays that a row of a point's blocks is. -/
def row (k : Fin 2048) : Fin 4096 := ⟨t.val % 2 * 2048 + k.val, by omega⟩
/-- The row of the result that a row of a point's block is. -/
def out (f : Fin 1408) : Fin 5632 := ⟨t.val / 2 * 1408 + f.val, by have := pt_lt t; omega⟩

theorem half_out (f : Fin 1408) : half (out t f) = ⟨t.val / 4, by have := pt_lt t; omega⟩ := Fin.ext (by show (t.val / 2 * 1408 + f.val) / 2816 = t.val / 4; omega)
theorem col_out (f : Fin 1408) : col (out t f) = ⟨t.val / 2 % 2 * 1408 + f.val, by omega⟩ := Fin.ext (by show (t.val / 2 * 1408 + f.val) % 2816 = t.val / 2 % 2 * 1408 + f.val; omega)

theorem block0 (k : Fin 2048) (f : Fin 1408) : iblk m c 0 t (ix3 (0 : Fin 1) k f) = m ((c.tc : Thread nD τ).loc main_arg0) (ix3 (half (out t f)) (row t k) (col (out t f))) := by
  rw [half_out, col_out]
  blk_simp [iblk]
  rw [V_main_arg0]
  refine congrArg (m ((c.tc : Thread nD τ).loc main_arg0)) (funext fun a => ?_)
  match a with
  | ⟨0, _⟩ => refine Fin.ext ?_; blk_simp [index0]
  | ⟨1, _⟩ => refine Fin.ext ?_; blk_simp [index0]; rfl
  | ⟨2, _⟩ => refine Fin.ext ?_; blk_simp [index0]
theorem block1 (k : Fin 2048) (d : Fin 1024) : iblk m c 1 t (ix2 k d) = m ((c.tc : Thread nD τ).loc main_arg1) (ix2 (row t k) d) := by
  blk_simp [iblk]
  rw [V_main_arg1]
  refine congrArg (m ((c.tc : Thread nD τ).loc main_arg1)) (funext fun a => ?_)
  match a with
  | ⟨0, _⟩ => refine Fin.ext ?_; blk_simp [index1]; rfl
  | ⟨1, _⟩ => refine Fin.ext ?_; blk_simp [index1]

/-- A point's product, of the whole arrays. -/
theorem part_eq (f : Fin 1408) (d : Fin 1024) : part (iblk m c 0 t) (iblk m c 1 t) f d
    = ∑ k : Fin 2048, (show EReal from m ((c.tc : Thread nD τ).loc main_arg0) (ix3 (half (out t f)) (row t k) (col (out t f)))) * (show EReal from m ((c.tc : Thread nD τ).loc main_arg1) (ix2 (row t k) d)) :=
  Finset.sum_congr rfl fun k _ => congrArg₂ (fun a b : EReal => a * b) (block0 m c t k f) (block1 m c t k d)

/-- The point before. -/
def prev : Fin cfg0.N := ⟨t.val - 1, Nat.lt_of_le_of_lt (Nat.sub_le _ _) t.isLt⟩

/-- What a point that writes back leaves in its block. -/
theorem left_eq (ht : t.val % 2 = 1) : (outsAt0 m c t.val t.isLt).1
    = k0_pay3 (F := Ideal) (k0_pay2 (F := Ideal) (k0_pay2 (F := Ideal) (k0_pay1 (F := Ideal)) (iblk m c 0 (prev t)) (iblk m c 1 (prev t))) (iblk m c 0 t) (iblk m c 1 t)) := by
  have h0 : ¬t.val % 2 = 0 := by omega
  have p0 : (prev t).val % 2 = 0 := by show (t.val - 1) % 2 = 0; omega
  have p1 : ¬(prev t).val % 2 = 1 := by show ¬(t.val - 1) % 2 = 1; omega
  have e2 : (outsAt0 m c (t.val - 1) (Nat.lt_of_le_of_lt (Nat.sub_le _ _) t.isLt)).2 = k0_pay2 (F := Ideal) (k0_pay1 (F := Ideal)) (iblk m c 0 (prev t)) (iblk m c 1 (prev t)) := by
    refine (congrArg Prod.snd (outsAt0_A m c (prev t) p0 p1)).trans ?_
    frame_out
  rw [outsAt0_B m c t h0 ht, e2]
  frame_out
  exact congrArg (fun z => k0_pay3 (F := Ideal) (k0_pay2 (F := Ideal) z (iblk m c 0 t) (iblk m c 1 t))) (Memref.IsWhole.read_unread (Memref.isWhole_whole _) _)

/-- A sum over the rows as its two halves. -/
theorem halves (g : Fin 4096 → EReal) : ∑ k : Fin 4096, g k = (∑ k : Fin 2048, g ⟨k.val, by omega⟩) + ∑ k : Fin 2048, g ⟨2048 + k.val, by omega⟩ :=
  Fin.sum_univ_add (a := 2048) (b := 2048) g

/-- Both points' products are the whole sum. -/
theorem sum_at (ht : t.val % 2 = 1) (f : Fin 1408) (d : Fin 1024) : part (iblk m c 0 (prev t)) (iblk m c 1 (prev t)) f d + part (iblk m c 0 t) (iblk m c 1 t) f d
    = grads (m ((c.tc : Thread nD τ).loc main_arg0)) (m ((c.tc : Thread nD τ).loc main_arg1)) (ix2 (out t f) d) := by
  have eo : out (prev t) f = out t f := Fin.ext (by show (t.val - 1) / 2 * 1408 + f.val = t.val / 2 * 1408 + f.val; omega)
  have r0 : ∀ k : Fin 2048, row (prev t) k = ⟨k.val, by omega⟩ := fun k => Fin.ext (by show (t.val - 1) % 2 * 2048 + k.val = k.val; omega)
  have r1 : ∀ k : Fin 2048, row t k = ⟨2048 + k.val, by omega⟩ := fun k => Fin.ext (by show t.val % 2 * 2048 + k.val = 2048 + k.val; omega)
  rw [part_eq, part_eq]
  unfold grads
  rw [halves]
  simp only [r0, r1, eo]

/-- The array after the call. -/
theorem arr2 : (dats m 0 c).arrAt 2 cfg0.N = grads (m ((c.tc : Thread nD τ).loc main_arg0)) (m ((c.tc : Thread nD τ).loc main_arg1)) := by
  refine Dat.arrAt_eq_of_covers (dat := dats m 0 c) 2 (grads _ _) (by decide +kernel) (fun t hf y => ?_)
  have ht : t.val % 2 = 1 := (flush0_2 t).mp hf
  have e : (win0_2.blk t).view.emb y = ix2 (out t (y 0)) (y 1) := funext fun a => by
    match a with
    | ⟨0, _⟩ => exact Fin.ext (by blk_simp [index2]; rfl)
    | ⟨1, _⟩ => exact Fin.ext (by blk_simp [index2]; rfl)
  have hy : (cfg0.win 2).xinj (cfg0.grid.coords t) y = ix2 (y 0) (y 1) := funext fun a => by
    match a with
    | ⟨0, _⟩ => rfl
    | ⟨1, _⟩ => rfl
  blk_simp
  rw [after0_2, left_eq m c t ht]
  exact Eq.trans (congrArg _ hy) ((pays_at _ _ _ _ (y 0) (y 1)).trans ((sum_at m c t ht (y 0) (y 1)).trans (congrArg _ e.symm)))

end Cert.Kernel3Ideal.Dw

end
-- ==== Proof.DwAgree.lean ====
module

public import proofs.«01_k».proof.Proof.DwValue
public import proofs.«01_k».proof.Proof.Gen.Reference3Ideal.Read

/-! The weights' gradient: the reference's array is the call's. -/

@[expose] public section

set_option maxRecDepth 16384

noncomputable section

namespace Cert.Kernel3Ideal.Dw

open Idealize.ShloMosaic hiding ix1 ix2 ix3
open Idealize.ShloMosaic.ValueIdx
open Cert.Reference3Ideal Cert.Reference3Ideal.Gen Cert.Reference3Ideal.Read

variable (x0 : (⟨S2x4096x2816, .bf16⟩ : BufTy).Contents (Elt Ideal)) (x1 : (⟨S4096x1024, .bf16⟩ : BufTy).Contents (Elt Ideal))

/-- The reference's first half of its argument. -/
theorem ref_half0 (k : Fin 4096) (f : Fin 2816) : val_main_v6 (F := Ideal) x0 (ix2 k f) = x0 (ix3 (0 : Fin 2) k f) := by
  rw [val_main_v6_apply, val_main_v5_apply, val_main_v0_apply]
  refine congrArg x0 (funext fun a => ?_)
  match a with
  | ⟨0, _⟩ => rfl
  | ⟨1, _⟩ => exact Fin.ext (by show (k.val * 2816 + f.val) / 2816 % 4096 = k.val; omega)
  | ⟨2, _⟩ => exact Fin.ext (by show (k.val * 2816 + f.val) % 2816 = f.val; omega)

/-- The reference's second half of its argument. -/
theorem ref_half1 (k : Fin 4096) (f : Fin 2816) : val_main_v8 (F := Ideal) x0 (ix2 k f) = x0 (ix3 (1 : Fin 2) k f) := by
  rw [val_main_v8_apply, val_main_v7_apply, val_main_v0_apply]
  refine congrArg x0 (funext fun a => ?_)
  match a with
  | ⟨0, _⟩ => rfl
  | ⟨1, _⟩ => exact Fin.ext (by show (k.val * 2816 + f.val) / 2816 % 4096 = k.val; omega)
  | ⟨2, _⟩ => exact Fin.ext (by show (k.val * 2816 + f.val) % 2816 = f.val; omega)

/-- The reference's first gradient. -/
theorem ref_dw0 (f : Fin 2816) (d : Fin 1024) : val_main_v13 (F := Ideal) x0 x1 (ix2 f d) = ∑ k : Fin 4096, (x0 (ix3 (0 : Fin 2) k f) : EReal) * x1 (ix2 k d) := by
  have e : idx_main_v12 (idx_main_v13 (ix2 f d)) = ix2 f d := funext fun a => by
    match a with
    | ⟨0, _⟩ => rfl
    | ⟨1, _⟩ => rfl
  rw [val_main_v13_apply, val_main_v12_apply, e, val_main_v11_apply]
  refine Finset.sum_congr rfl fun k _ => ?_
  have e0 : lidx_main_v11 (ix2 f d) k = ix2 k f := funext fun a => by
    match a with
    | ⟨0, _⟩ => rfl
    | ⟨1, _⟩ => rfl
  have e1 : ridx_main_v11 (ix2 f d) k = ix2 k d := funext fun a => by
    match a with
    | ⟨0, _⟩ => rfl
    | ⟨1, _⟩ => rfl
  rw [e0, e1, ref_half0, val_main_v1_apply]
  rfl

/-- The reference's second gradient. -/
theorem ref_dw1 (f : Fin 2816) (d : Fin 1024) : val_main_v14 (F := Ideal) x0 x1 (ix2 f d) = ∑ k : Fin 4096, (x0 (ix3 (1 : Fin 2) k f) : EReal) * x1 (ix2 k d) := by
  have e : idx_main_v10 (idx_main_v14 (ix2 f d)) = ix2 f d := funext fun a => by
    match a with
    | ⟨0, _⟩ => rfl
    | ⟨1, _⟩ => rfl
  rw [val_main_v14_apply, val_main_v10_apply, e, val_main_v9_apply]
  refine Finset.sum_congr rfl fun k _ => ?_
  have e0 : lidx_main_v9 (ix2 f d) k = ix2 k f := funext fun a => by
    match a with
    | ⟨0, _⟩ => rfl
    | ⟨1, _⟩ => rfl
  have e1 : ridx_main_v9 (ix2 f d) k = ix2 k d := funext fun a => by
    match a with
    | ⟨0, _⟩ => rfl
    | ⟨1, _⟩ => rfl
  rw [e0, e1, ref_half1, val_main_v1_apply]
  rfl

/-- The upper rows of the reference's array. -/
theorem ref_upper (r : Fin 5632) (f : Fin 2816) (d : Fin 1024) (hr : r.val = f.val) :
    val_main_v16 (F := Ideal) x0 x1 (ix2 r d) = val_main_v13 (F := Ideal) x0 x1 (ix2 f d) := by
  rw [val_main_v16_apply]
  unfold val_main_v15
  generalize val_main_v13 (F := Ideal) x0 x1 = y
  exact concatenate_pair_apply_left (s₁ := S2816x1024) (s₂ := S2816x1024) (t := S5632x1024) 0 _ _ _ (ix2 r d) rfl (ix2 f d) (fun b => by
    match b with
    | ⟨0, _⟩ => exact hr.symm
    | ⟨1, _⟩ => rfl)

/-- The lower rows of the reference's array. -/
theorem ref_lower (r : Fin 5632) (f : Fin 2816) (d : Fin 1024) (hr : r.val = f.val + 2816) :
    val_main_v16 (F := Ideal) x0 x1 (ix2 r d) = val_main_v14 (F := Ideal) x0 x1 (ix2 f d) := by
  rw [val_main_v16_apply]
  unfold val_main_v15
  generalize val_main_v14 (F := Ideal) x0 x1 = y
  exact concatenate_pair_apply_right (s₁ := S2816x1024) (s₂ := S2816x1024) (t := S5632x1024) 0 _ _ _ (ix2 r d) rfl rfl (ix2 f d) (fun b hb => by
    match b with
    | ⟨0, _⟩ => exact absurd rfl hb
    | ⟨1, _⟩ => rfl) hr.symm

/-- The call's array at a row. -/
theorem grads_at (n : Fin 2) (f : Fin 2816) (r : Fin 5632) (d : Fin 1024) (hr : r.val = n.val * 2816 + f.val) :
    grads x0 x1 (ix2 r d) = ∑ k : Fin 4096, (x0 (ix3 n k f) : EReal) * x1 (ix2 k d) := by
  have e0 : half r = n := Fin.ext (by show r.val / 2816 = n.val; omega)
  have e1 : col r = f := Fin.ext (by show r.val % 2816 = f.val; omega)
  rw [← e0, ← e1]
  rfl

/-- The reference's array. -/
theorem ref_grads : val_main_v16 (F := Ideal) x0 x1 = grads x0 x1 := by
  have main : ∀ (r : Fin 5632) (d : Fin 1024), val_main_v16 (F := Ideal) x0 x1 (ix2 r d) = grads x0 x1 (ix2 r d) := fun r d => by
    by_cases hr : r.val < 2816
    · exact (ref_upper x0 x1 r ⟨r.val, hr⟩ d rfl).trans ((ref_dw0 x0 x1 _ d).trans (grads_at x0 x1 0 ⟨r.val, hr⟩ r d (by show r.val = 0 * 2816 + r.val; omega)).symm)
    · have h : r.val - 2816 < 2816 := by omega
      exact (ref_lower x0 x1 r ⟨r.val - 2816, h⟩ d (by show r.val = r.val - 2816 + 2816; omega)).trans
        ((ref_dw1 x0 x1 _ d).trans (grads_at x0 x1 1 ⟨r.val - 2816, h⟩ r d (by show r.val = 1 * 2816 + (r.val - 2816); omega)).symm)
  funext i
  have hi : i = ix2 (i 0) (i 1) := funext fun a => by
    match a with
    | ⟨0, _⟩ => rfl
    | ⟨1, _⟩ => rfl
  exact (congrArg _ hi).trans ((main (i 0) (i 1)).trans (congrArg _ hi.symm))

end Cert.Kernel3Ideal.Dw

end
-- ==== Proof.FfnValue.lean ====
module

public import proofs.«01_k».proof.Proof.Gen.Kernel4Ideal.Value
public import Idealize.ShloMosaic.Lib.Pipeline.ValueKit
public import Idealize.ShloMosaic.Lib.StableHlo.Run
public import Idealize.ShloMosaic.Lib.ValueIdx
public import Idealize.ShloMosaic.Lib.Pointwise
public import Idealize.ShloMosaic.PureOps.Ideal.Laws

/-! The arrays that the gated product leaves, as functions of the call's arguments. -/

@[expose] public section

set_option maxRecDepth 16384

noncomputable section

namespace Cert.Kernel4Ideal.Ffn

open Idealize.ShloMosaic hiding ix1 ix2 ix3
open Idealize.ShloMosaic.ValueIdx Idealize.ShloMosaic.Pipeline Idealize.SL.Sem
open Cert.Kernel4Ideal Cert.Kernel4Ideal.Gen

/-- The word of one. -/
abbrev one : EReal := Ideal.ofBits .f32 0x3F800000#32
/-- The word of zero. -/
abbrev zero : EReal := Ideal.ofBits .f32 0x00000000#32

/-- The gated product of one gate and one other factor. -/
def gated (g u : EReal) : EReal := g * Ideal.div one (one + Ideal.exp (zero - g)) * u

/-- A row of a block against a row of another. -/
def dot (a : S1024x1024.Idx → EReal) (b : S1408x1024.Idx → EReal) (r : Fin 1024) (f : Fin 1408) : EReal := ∑ k : Fin 1024, a (ix2 r k) * b (ix2 f k)

/-- Rows against rows. -/
theorem mm_rows (a : FVec Ideal S1024x1024 .bf16) (b : FVec Ideal S1408x1024 .bf16) (r : Fin 1024) (f : Fin 1408) :
    matmul dot_S1024x1024_S1408x1024_S1024x1408_1_1_0_0_n_n none a b (constant (F := Ideal) S1024x1408 .f32 0x00000000#32) (ix2 r f) = ∑ k : Fin 1024, a (ix2 r k) * b (ix2 f k) := by
  simp only [matmul]
  rw [Ideal.matmul_constant_zero_apply, ← Equiv.sum_comp (contrEquiv1 dot_S1024x1024_S1408x1024_S1024x1408_1_1_0_0_n_n 1024 rfl rfl).symm]
  refine Finset.sum_congr rfl fun k _ => ?_
  have hk := contrEquiv1_symm_val dot_S1024x1024_S1408x1024_S1024x1408_1_1_0_0_n_n 1024 rfl rfl k
  congr 1
  · refine congrArg a (funext fun x => Fin.ext ?_)
    match x with
    | ⟨0, _⟩ => rfl
    | ⟨1, _⟩ => exact hk
  · refine congrArg b (funext fun x => Fin.ext ?_)
    match x with
    | ⟨0, _⟩ => rfl
    | ⟨1, _⟩ => exact hk

theorem pay1_at (a : Vec Ideal S1024x1024 .bf16) (b : Vec Ideal S1408x1024 .bf16) (r : Fin 1024) (f : Fin 1408) :
    k0_pay1 (F := Ideal) a b (ix2 r f) = dot a b r f := by
  unfold k0_pay1
  rw [shapeCast_self]
  exact mm_rows a b r f

theorem pay2_at (a : Vec Ideal S1024x1024 .bf16) (b : Vec Ideal S1408x1024 .bf16) (r : Fin 1024) (f : Fin 1408) :
    k0_pay2 (F := Ideal) a b (ix2 r f) = dot a b r f := pay1_at a b r f

/-- The block of the gated product. -/
theorem pay3_at (a : Vec Ideal S1024x1024 .bf16) (b d : Vec Ideal S1408x1024 .bf16) (r : Fin 1024) (f : Fin 1408) :
    k0_pay3 (F := Ideal) a b d (ix2 r f) = gated (dot a b r f) (dot a d r f) := by
  rw [← pay1_at a b, ← pay2_at a d]
  rfl

/-- The weights as the call takes them: turned, stacked and rounded. -/
def prep (w1 w2 : (⟨S1024x2816, .f32⟩ : BufTy).Contents (Elt Ideal)) : (⟨S5632x1024, .bf16⟩ : BufTy).Contents (Elt Ideal) :=
  shapeCast S5632x1024 (truncf (F := Ideal) .bf16 (concatenate S2x2816x1024 0
    [⟨S1x2816x1024, broadcastInDim S1x2816x1024 ![1, 2] bcast_S2816x1024_S1x2816x1024_1_2 (transpose S2816x1024 [1, 0] w1 transposes_S1024x2816_S2816x1024_1_0)⟩,
     ⟨S1x2816x1024, broadcastInDim S1x2816x1024 ![1, 2] bcast_S2816x1024_S1x2816x1024_1_2 (transpose S2816x1024 [1, 0] w2 transposes_S1024x2816_S2816x1024_1_0)⟩]
    concatenates_S1x2816x1024_S1x2816x1024_S2x2816x1024_d0) bitsLt_bf16_f32) shapeCasts_S2x2816x1024_S5632x1024

/-- One plane of the stack. -/
theorem plane_at (w : (⟨S1024x2816, .f32⟩ : BufTy).Contents (Elt Ideal)) (n : Fin 1) (f : Fin 2816) (k : Fin 1024) :
    broadcastInDim S1x2816x1024 ![1, 2] bcast_S2816x1024_S1x2816x1024_1_2 (transpose S2816x1024 [1, 0] w transposes_S1024x2816_S2816x1024_1_0) (ix3 n f k) = w (ix2 k f) := by
  refine (broadcastInDim_apply _ bcast_S2816x1024_S1x2816x1024_1_2 _ (ix3 n f k) (ix2 f k) (fun a => ?_)).trans ?_
  · match a with
    | ⟨0, _⟩ => rfl
    | ⟨1, _⟩ => rfl
  · exact transpose_apply [1, 0] w transposes_S1024x2816_S2816x1024_1_0 (ix2 f k) (ix2 k f) (fun b => match b with
      | ⟨0, _⟩ => rfl
      | ⟨1, _⟩ => rfl)

/-- The stack's rows as planes. -/
theorem unstack (x : FVec Ideal S2x2816x1024 .bf16) (n : Fin 2) (f : Fin 2816) (k : Fin 1024) (r : Fin 5632) (hr : r.val = n.val * 2816 + f.val) :
    shapeCast S5632x1024 x shapeCasts_S2x2816x1024_S5632x1024 (ix2 r k) = x (ix3 n f k) :=
  shapeCast_apply _ _ _ _ (by rw [Shape.rowMajor_val_two, Shape.rowMajor_val_three]; show (n.val * 2816 + f.val) * 1024 + k.val = r.val * 1024 + k.val; rw [hr])

/-- The first plane of a stack. -/
theorem stack_first (p q : FVec Ideal S1x2816x1024 .f32) (f : Fin 2816) (k : Fin 1024) :
    truncf (F := Ideal) .bf16 (concatenate S2x2816x1024 0 [⟨S1x2816x1024, p⟩, ⟨S1x2816x1024, q⟩] concatenates_S1x2816x1024_S1x2816x1024_S2x2816x1024_d0) bitsLt_bf16_f32 (ix3 (0 : Fin 2) f k) = p (ix3 (0 : Fin 1) f k) := by
  have h : concatenate S2x2816x1024 0 [⟨S1x2816x1024, p⟩, ⟨S1x2816x1024, q⟩] concatenates_S1x2816x1024_S1x2816x1024_S2x2816x1024_d0 (ix3 (0 : Fin 2) f k) = p (ix3 (0 : Fin 1) f k) :=
    concatenate_pair_apply_left (s₁ := S1x2816x1024) (s₂ := S1x2816x1024) (t := S2x2816x1024) 0 _ _ _ (ix3 (0 : Fin 2) f k) rfl (ix3 (0 : Fin 1) f k) (fun b => by
      match b with
      | ⟨0, _⟩ => rfl
      | ⟨1, _⟩ => rfl
      | ⟨2, _⟩ => rfl)
  exact h

/-- The second plane of a stack. -/
theorem stack_second (p q : FVec Ideal S1x2816x1024 .f32) (f : Fin 2816) (k : Fin 1024) :
    truncf (F := Ideal) .bf16 (concatenate S2x2816x1024 0 [⟨S1x2816x1024, p⟩, ⟨S1x2816x1024, q⟩] concatenates_S1x2816x1024_S1x2816x1024_S2x2816x1024_d0) bitsLt_bf16_f32 (ix3 (1 : Fin 2) f k) = q (ix3 (0 : Fin 1) f k) := by
  have h : concatenate S2x2816x1024 0 [⟨S1x2816x1024, p⟩, ⟨S1x2816x1024, q⟩] concatenates_S1x2816x1024_S1x2816x1024_S2x2816x1024_d0 (ix3 (1 : Fin 2) f k) = q (ix3 (0 : Fin 1) f k) :=
    concatenate_pair_apply_right (s₁ := S1x2816x1024) (s₂ := S1x2816x1024) (t := S2x2816x1024) 0 _ _ _ (ix3 (1 : Fin 2) f k) rfl rfl (ix3 (0 : Fin 1) f k) (fun b hb => by
      match b with
      | ⟨0, _⟩ => exact absurd rfl hb
      | ⟨1, _⟩ => rfl
      | ⟨2, _⟩ => rfl) rfl
  exact h

variable (w1 w2 : (⟨S1024x2816, .f32⟩ : BufTy).Contents (Elt Ideal))

/-- The first weight's rows. -/
theorem prep_first (f : Fin 2816) (k : Fin 1024) (r : Fin 5632) (hr : r.val = f.val) : prep w1 w2 (ix2 r k) = w1 (ix2 k f) := by
  unfold prep
  exact (unstack _ (0 : Fin 2) f k r (by rw [hr]; show f.val = 0 * 2816 + f.val; omega)).trans ((stack_first _ _ f k).trans (plane_at w1 (0 : Fin 1) f k))

/-- The second weight's rows. -/
theorem prep_second (f : Fin 2816) (k : Fin 1024) (r : Fin 5632) (hr : r.val = 2816 + f.val) : prep w1 w2 (ix2 r k) = w2 (ix2 k f) := by
  unfold prep
  exact (unstack _ (1 : Fin 2) f k r (by rw [hr]; show 2816 + f.val = 1 * 2816 + f.val; omega)).trans ((stack_second _ _ f k).trans (plane_at w2 (0 : Fin 1) f k))

/-- A product of the activations and a weight, of whole arrays. -/
def proj (a : S4096x1024.Idx → EReal) (w : S1024x2816.Idx → EReal) : S4096x2816.Idx → EReal := fun i => ∑ k : Fin 1024, a (ix2 (i 0) k) * w (ix2 k (i 1))

/-- The gated product, of whole arrays. -/
def act (a : S4096x1024.Idx → EReal) (w1 w2 : S1024x2816.Idx → EReal) : S4096x2816.Idx → EReal := fun i => gated (proj a w1 i) (proj a w2 i)

theorem hz2 : (![0, 0] : Fin 2 → Nat) = fun _ => 0 := funext fun a => by fin_cases a <;> rfl

theorem pt_lt (t : Fin cfg0.N) : t.val < 8 := t.isLt

theorem index0 : ∀ t : Fin cfg0.N, win0_0.index t = ![t.val / 2, 0] := (by decide +kernel : ∀ t : Fin grid0.N, win0_0.index t = ![t.val / 2, 0])
theorem index1 : ∀ t : Fin cfg0.N, win0_1.index t = ![t.val % 2, 0] := (by decide +kernel : ∀ t : Fin grid0.N, win0_1.index t = ![t.val % 2, 0])
theorem index2 : ∀ t : Fin cfg0.N, win0_2.index t = ![t.val % 2 + 2, 0] := (by decide +kernel : ∀ t : Fin grid0.N, win0_2.index t = ![t.val % 2 + 2, 0])
theorem index3 : ∀ t : Fin cfg0.N, win0_3.index t = ![t.val / 2, t.val % 2] := (by decide +kernel : ∀ t : Fin grid0.N, win0_3.index t = ![t.val / 2, t.val % 2])
theorem index4 : ∀ t : Fin cfg0.N, win0_4.index t = ![t.val / 2, t.val % 2] := (by decide +kernel : ∀ t : Fin grid0.N, win0_4.index t = ![t.val / 2, t.val % 2])
theorem index5 : ∀ t : Fin cfg0.N, win0_5.index t = ![t.val / 2, t.val % 2] := (by decide +kernel : ∀ t : Fin grid0.N, win0_5.index t = ![t.val / 2, t.val % 2])

variable (m : (ℓ : Loc nD τ sig) → Buf (Elt Ideal) ℓ) (c : Dev nD) (t : Fin cfg0.N)

/-- The row of the arrays that a row of a point's blocks is. -/
def row (r : Fin 1024) : Fin 4096 := ⟨t.val / 2 * 1024 + r.val, by have := pt_lt t; omega⟩
/-- The column of the arrays that a column of a point's blocks is. -/
def col (f : Fin 1408) : Fin 2816 := ⟨t.val % 2 * 1408 + f.val, by omega⟩

/-- The weights as the call finds them. -/
theorem V_prep : V m c main_v6 = prep (m ((c.tc : Thread nD τ).loc main_arg1)) (m ((c.tc : Thread nD τ).loc main_arg2)) := by
  unfold V hostOps0
  after_results
  rfl

theorem block0 (r k : Fin 1024) : iblk m c 0 t (ix2 r k) = m ((c.tc : Thread nD τ).loc main_arg0) (ix2 (row t r) k) := by
  blk_simp [iblk]
  rw [V_main_arg0]
  refine congrArg (m ((c.tc : Thread nD τ).loc main_arg0)) (funext fun a => ?_)
  match a with
  | ⟨0, _⟩ => refine Fin.ext ?_; blk_simp [index0]; rfl
  | ⟨1, _⟩ => refine Fin.ext ?_; blk_simp [index0]
theorem block1 (f : Fin 1408) (k : Fin 1024) : iblk m c 1 t (ix2 f k) = m ((c.tc : Thread nD τ).loc main_arg1) (ix2 k (col t f)) := by
  rw [← prep_first (m ((c.tc : Thread nD τ).loc main_arg1)) (m ((c.tc : Thread nD τ).loc main_arg2)) (col t f) k ⟨t.val % 2 * 1408 + f.val, by omega⟩ rfl, ← V_prep]
  blk_simp [iblk]
  refine congrArg (V m c main_v6) (funext fun a => ?_)
  match a with
  | ⟨0, _⟩ => refine Fin.ext ?_; blk_simp [index1]
  | ⟨1, _⟩ => refine Fin.ext ?_; blk_simp [index1]
theorem block2 (f : Fin 1408) (k : Fin 1024) : iblk m c 2 t (ix2 f k) = m ((c.tc : Thread nD τ).loc main_arg2) (ix2 k (col t f)) := by
  rw [← prep_second (m ((c.tc : Thread nD τ).loc main_arg1)) (m ((c.tc : Thread nD τ).loc main_arg2)) (col t f) k ⟨(t.val % 2 + 2) * 1408 + f.val, by omega⟩
    (by show (t.val % 2 + 2) * 1408 + f.val = 2816 + (t.val % 2 * 1408 + f.val); omega), ← V_prep]
  blk_simp [iblk]
  refine congrArg (V m c main_v6) (funext fun a => ?_)
  match a with
  | ⟨0, _⟩ => refine Fin.ext ?_; blk_simp [index2]
  | ⟨1, _⟩ => refine Fin.ext ?_; blk_simp [index2]

/-- A point's gate. -/
theorem gate_at (r : Fin 1024) (f : Fin 1408) : dot (iblk m c 0 t) (iblk m c 1 t) r f = proj (m ((c.tc : Thread nD τ).loc main_arg0)) (m ((c.tc : Thread nD τ).loc main_arg1)) (ix2 (row t r) (col t f)) :=
  Finset.sum_congr rfl fun k _ => congrArg₂ (fun a b : EReal => a * b) (block0 m c t r k) (block1 m c t f k)
/-- A point's other factor. -/
theorem up_at (r : Fin 1024) (f : Fin 1408) : dot (iblk m c 0 t) (iblk m c 2 t) r f = proj (m ((c.tc : Thread nD τ).loc main_arg0)) (m ((c.tc : Thread nD τ).loc main_arg2)) (ix2 (row t r) (col t f)) :=
  Finset.sum_congr rfl fun k _ => congrArg₂ (fun a b : EReal => a * b) (block0 m c t r k) (block2 m c t f k)

/-- A point's gated product. -/
theorem both_at (r : Fin 1024) (f : Fin 1408) : k0_pay3 (F := Ideal) (iblk m c 0 t) (iblk m c 1 t) (iblk m c 2 t) (ix2 r f)
    = act (m ((c.tc : Thread nD τ).loc main_arg0)) (m ((c.tc : Thread nD τ).loc main_arg1)) (m ((c.tc : Thread nD τ).loc main_arg2)) (ix2 (row t r) (col t f)) := by
  refine (pay3_at _ _ _ r f).trans ?_
  rw [gate_at, up_at]
  unfold act
  rfl

theorem split (y : S1024x1408.Idx) : y = ix2 (y 0) (y 1) := funext fun a => by
  match a with
  | ⟨0, _⟩ => rfl
  | ⟨1, _⟩ => rfl

/-- What one point leaves in its blocks of the results. -/
theorem out3_eq (x0 : Vec Ideal S1024x1024 .bf16) (x1 x2 : Vec Ideal S1408x1024 .bf16) : out0_3 (F := Ideal) x0 x1 x2 = k0_pay1 (F := Ideal) x0 x1 := by
  unfold out0_3
  rw [View.ld_unit_zero hz2, View.ld_unit_zero hz2]
  exact View.canon_unit_zero hz2 _ _
theorem out4_eq (x0 : Vec Ideal S1024x1024 .bf16) (x1 x2 : Vec Ideal S1408x1024 .bf16) : out0_4 (F := Ideal) x0 x1 x2 = k0_pay2 (F := Ideal) x0 x2 := by
  unfold out0_4
  rw [View.ld_unit_zero hz2, View.ld_unit_zero hz2]
  exact View.canon_unit_zero hz2 _ _
theorem out5_eq (x0 : Vec Ideal S1024x1024 .bf16) (x1 x2 : Vec Ideal S1408x1024 .bf16) : out0_5 (F := Ideal) x0 x1 x2 = k0_pay3 (F := Ideal) x0 x1 x2 := by
  unfold out0_5
  rw [View.ld_unit_zero hz2, View.ld_unit_zero hz2, View.ld_unit_zero hz2]
  exact View.canon_unit_zero hz2 _ _

/-- The gates after the call. -/
theorem arr3 : (dats m 0 c).arrAt 3 cfg0.N = proj (m ((c.tc : Thread nD τ).loc main_arg0)) (m ((c.tc : Thread nD τ).loc main_arg1)) := by
  refine Dat.arrAt_eq_of_covers (dat := dats m 0 c) 3 (proj _ _) (by decide +kernel) (fun t hf y => ?_)
  have e : (win0_3.blk t).view.emb y = ix2 (row t (y 0)) (col t (y 1)) := funext fun a => by
    match a with
    | ⟨0, _⟩ => exact Fin.ext (by blk_simp [index3]; rfl)
    | ⟨1, _⟩ => exact Fin.ext (by blk_simp [index3]; rfl)
  blk_simp
  rw [after0_3, out3_eq]
  exact (congrArg _ (split y)).trans ((pay1_at _ _ (y 0) (y 1)).trans ((gate_at m c t (y 0) (y 1)).trans (congrArg _ e.symm)))

/-- The other factors after the call. -/
theorem arr4 : (dats m 0 c).arrAt 4 cfg0.N = proj (m ((c.tc : Thread nD τ).loc main_arg0)) (m ((c.tc : Thread nD τ).loc main_arg2)) := by
  refine Dat.arrAt_eq_of_covers (dat := dats m 0 c) 4 (proj _ _) (by decide +kernel) (fun t hf y => ?_)
  have e : (win0_4.blk t).view.emb y = ix2 (row t (y 0)) (col t (y 1)) := funext fun a => by
    match a with
    | ⟨0, _⟩ => exact Fin.ext (by blk_simp [index4]; rfl)
    | ⟨1, _⟩ => exact Fin.ext (by blk_simp [index4]; rfl)
  blk_simp
  rw [after0_4, out4_eq]
  exact (congrArg _ (split y)).trans ((pay2_at _ _ (y 0) (y 1)).trans ((up_at m c t (y 0) (y 1)).trans (congrArg _ e.symm)))

/-- The gated products after the call. -/
theorem arr5 : (dats m 0 c).arrAt 5 cfg0.N = act (m ((c.tc : Thread nD τ).loc main_arg0)) (m ((c.tc : Thread nD τ).loc main_arg1)) (m ((c.tc : Thread nD τ).loc main_arg2)) := by
  refine Dat.arrAt_eq_of_covers (dat := dats m 0 c) 5 (act _ _ _) (by decide +kernel) (fun t hf y => ?_)
  have e : (win0_5.blk t).view.emb y = ix2 (row t (y 0)) (col t (y 1)) := funext fun a => by
    match a with
    | ⟨0, _⟩ => exact Fin.ext (by blk_simp [index5]; rfl)
    | ⟨1, _⟩ => exact Fin.ext (by blk_simp [index5]; rfl)
  blk_simp
  rw [after0_5, out5_eq]
  have h := both_at m c t (y 0) (y 1)
  rw [← e] at h
  exact (congrArg (k0_pay3 (F := Ideal) (iblk m c 0 t) (iblk m c 1 t) (iblk m c 2 t)) (split y)).trans h

end Cert.Kernel4Ideal.Ffn

end
-- ==== Proof.FfnAgree.lean ====
module

public import proofs.«01_k».proof.Proof.FfnValue
public import proofs.«01_k».proof.Proof.Gen.Reference4Ideal.Read

/-! The gated product: the reference's arrays are the call's. -/

@[expose] public section

set_option maxRecDepth 16384

noncomputable section

namespace Cert.Kernel4Ideal.Ffn

open Idealize.ShloMosaic hiding ix1 ix2 ix3
open Idealize.ShloMosaic.ValueIdx
open Cert.Reference4Ideal Cert.Reference4Ideal.Gen Cert.Reference4Ideal.Read

variable (x0 : (⟨S4096x1024, .bf16⟩ : BufTy).Contents (Elt Ideal)) (x1 x2 : (⟨S1024x2816, .f32⟩ : BufTy).Contents (Elt Ideal))

theorem zero_eq : zero = 0 := by simp [zero, Ideal.ofBits, Ideal.ieee]

/-- The reference's gate before it is rounded. -/
theorem ref_v1 (i : S4096x2816.Idx) : val_main_v1 (F := Ideal) x0 x1 i = proj x0 x1 i := by
  rw [val_main_v1_apply]
  refine Finset.sum_congr rfl fun k _ => ?_
  rw [val_main_v0_apply]
  refine congrArg₂ (fun a b : EReal => a * b) (congrArg x0 (funext fun a => ?_)) (congrArg x1 (funext fun a => ?_))
  · match a with
    | ⟨0, _⟩ => rfl
    | ⟨1, _⟩ => rfl
  · match a with
    | ⟨0, _⟩ => rfl
    | ⟨1, _⟩ => rfl

/-- The reference's other factor before it is rounded. -/
theorem ref_v2 (i : S4096x2816.Idx) : val_main_v2 (F := Ideal) x0 x2 i = proj x0 x2 i := by
  rw [val_main_v2_apply]
  refine Finset.sum_congr rfl fun k _ => ?_
  rw [val_main_v0_apply]
  refine congrArg₂ (fun a b : EReal => a * b) (congrArg x0 (funext fun a => ?_)) (congrArg x2 (funext fun a => ?_))
  · match a with
    | ⟨0, _⟩ => rfl
    | ⟨1, _⟩ => rfl
  · match a with
    | ⟨0, _⟩ => rfl
    | ⟨1, _⟩ => rfl

/-- The reference's gates. -/
theorem ref_gate : val_main_v3 (F := Ideal) x0 x1 = proj x0 x1 := funext fun i => by
  rw [val_main_v3_apply, ref_v1]
  rfl

/-- The reference's other factors. -/
theorem ref_up : val_main_v4 (F := Ideal) x0 x2 = proj x0 x2 := funext fun i => by
  rw [val_main_v4_apply, ref_v2]
  rfl

/-- The reference's gated products. -/
theorem ref_act : val_main_v7 (F := Ideal) x0 x1 x2 = act x0 x1 x2 := funext fun i => by
  rw [val_main_v7_apply, val_main_v6_apply, val_main_v5_apply, val_main_call0_v5_apply, val_main_call0_v4_apply, val_main_call0_v3_apply,
    val_main_call0_v2_apply, val_main_call0_v1_apply, val_main_call0_v0_apply, ref_v1, ref_v2]
  have e : (-(proj x0 x1 i) : EReal) = zero - proj x0 x1 i := by rw [zero_eq, zero_sub]
  unfold act gated
  rw [← e]
  rfl

end Cert.Kernel4Ideal.Ffn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.ProjAgree
public import proofs.«01_k».proof.Proof.DwInAgree
public import proofs.«01_k».proof.Proof.DwDownAgree
public import proofs.«01_k».proof.Proof.FramePrinted
public import proofs.«01_k».proof.Proof.Agree
public import proofs.«01_k».proof.Proof.Finite
public import proofs.«01_k».proof.Proof.ActValue
public import proofs.«01_k».proof.Proof.ActAgree
public import proofs.«01_k».proof.Proof.DwValue
public import proofs.«01_k».proof.Proof.DwAgree
public import proofs.«01_k».proof.Proof.FfnValue
public import proofs.«01_k».proof.Proof.FfnAgree
public import Idealize.ShloMosaic.Adequacy
public import Idealize.ShloMosaic.Init

@[expose] public section

noncomputable section

namespace Cert.Proof

open Idealize.ShloMosaic Idealize.SL.Sem

section

open Cert.KernelIdeal Cert.KernelIdeal.Gen Cert.KernelIdeal.Track

/-- The idealized program's run: the three results named, the arguments and every counter as they were. -/
theorem ideal_run (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      (r.2.mem ((c.tc : Thread nD τ).loc main_v55_0) = outArr m c
      ∧ r.2.mem ((c.tc : Thread nD τ).loc main_v55_1) = keyArr m c
      ∧ r.2.mem ((c.tc : Thread nD τ).loc main_v55_2) = rowArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run _ _ _).mono (fun _ ⟨h, hz⟩ => ⟨fun c => ⟨
      ⟨((h c).1 7).trans (arr7 m c), ((h c).1 8).trans (arr8 m c), ((h c).1 9).trans (arr9 m c)⟩,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 3).trans (((dats m 0 c).arrAt_in 3 rfl _).trans ((A_eq m c 3).trans (V_main_arg4 m c))),
      ((h c).2 main_arg5 (Pipeline.mem_restRefs_of main_arg5 (by decide) (by decide))).trans (V_main_arg5 m c)⟩, hz⟩) (run_main m ρ)

end

/-- The program as printed: its arguments and every counter end as they were. -/
theorem kernel_frame : Cert.quiescent_Kernel (hKernel := Cert.Kernel.Gen.facts) := fun m g _ => Cert.Kernel.Hand.frame m g

/-- The idealized program: its arguments and every counter end as they were. -/
theorem ideal_frame : Cert.quiescent_KernelIdeal (hKernelIdeal := Cert.KernelIdeal.Gen.facts) := fun m g _ =>
  (θ_run _ _ _).mono (fun _ ⟨h, hz⟩ => ⟨fun c => (h c).2, hz⟩) (ideal_run m g)

/-- The reference: its arguments and every counter end as they were. -/
theorem reference_frame : Cert.quiescent_ReferenceIdeal (hReferenceIdeal := Cert.ReferenceIdeal.Gen.facts) := fun m g _ =>
  (θ_run _ _ _).mono (fun r h => ⟨fun c => (h c).2.2.2, sem_eq_zero_of_no_sems (by decide) r.2⟩) (Cert.ReferenceIdeal.Value.run m g)

/-- The idealized program's results are the reference's. -/
theorem agree : Cert.algebraic_KernelIdeal_ReferenceIdeal_pre_finite (hKernelIdeal := Cert.KernelIdeal.Gen.facts) (hReferenceIdeal := Cert.ReferenceIdeal.Gen.facts) (hPre_finite := Cert.Pre_finite.Gen.facts) := fun m g m' g' hpre hagree =>
  ⟨fun c => Cert.KernelIdeal.Track.outArr m c, fun c => Cert.KernelIdeal.Track.keyArr m c, fun c => Cert.KernelIdeal.Track.rowArr m c,
    (θ_run _ _ _).mono (fun _ ⟨h, _⟩ c => ⟨(h c).1.1, (h c).1.2.1, (h c).1.2.2, (h c).2⟩) (ideal_run m g),
    (θ_run _ _ _).mono (fun _ h c => by
      obtain ⟨A⟩ := Cert.KernelIdeal.Pay.args_of_finite (hpre c)
      obtain ⟨e0, e1, e2, e3, e4, e5⟩ := hagree c
      obtain ⟨h0, h1, h2, ha⟩ := h c
      refine ⟨h0.trans ?_, h1.trans ?_, h2.trans ?_, ha⟩
      · rw [Cert.ReferenceIdeal.Read.val_main_v102_eq, e0, e1, e2, e3, e4, e5]
        exact (Cert.KernelIdeal.Track.out_agree m c A).symm
      · rw [Cert.ReferenceIdeal.Read.val_main_v104_eq, e0, e1, e2, e3, e4]
        exact (Cert.KernelIdeal.Track.key_agree m c A).symm
      · rw [Cert.ReferenceIdeal.Read.val_main_v106_eq, e0, e1, e2, e3, e4]
        exact (Cert.KernelIdeal.Track.row_agree m c A).symm) (Cert.ReferenceIdeal.Value.run m' g')⟩

/-- The second program as printed: its arguments and every counter end as they were. -/
theorem kernel2_frame : Cert.quiescent_Kernel2 (hKernel2 := Cert.Kernel2.Gen.facts) := fun m g _ => Cert.Kernel2.Gen.frame m g

/-- The second program, idealized: its arguments and every counter end as they were. -/
theorem ideal2_frame : Cert.quiescent_Kernel2Ideal (hKernel2Ideal := Cert.Kernel2Ideal.Gen.facts) := fun m g _ => Cert.Kernel2Ideal.Gen.frame m g

/-- The second reference: its arguments and every counter end as they were. -/
theorem reference2_frame : Cert.quiescent_Reference2Ideal (hReference2Ideal := Cert.Reference2Ideal.Gen.facts) := fun m g _ =>
  (θ_run _ _ _).mono (fun r h => ⟨fun c => (h c).2, sem_eq_zero_of_no_sems (by decide) r.2⟩) (Cert.Reference2Ideal.Value.run m g)

/-- The second idealized program's result is the second reference's. -/
theorem agree2 : Cert.algebraic_Kernel2Ideal_Reference2Ideal_pre_finite2 (hKernel2Ideal := Cert.Kernel2Ideal.Gen.facts) (hReference2Ideal := Cert.Reference2Ideal.Gen.facts) (hPre_finite2 := Cert.Pre_finite2.Gen.facts) := fun m g m' g' hpre hagree =>
  ⟨fun c => (Cert.Kernel2Ideal.Gen.dats m 0 c).arrAt 4 Cert.Kernel2Ideal.cfg0.N, Cert.Kernel2Ideal.Value.run_blocks m g,
    (θ_run _ _ _).mono (fun _ h c => by
      obtain ⟨e0, e1, e2, e3⟩ := hagree c
      obtain ⟨h0, ha⟩ := h c
      refine ⟨h0.trans ?_, ha⟩
      rw [Cert.Reference2Ideal.Read.val_main_v16_eq, e0, e1, e2, e3]
      exact (Cert.Kernel2Ideal.Act.ref_of_finite _ _ _ _ (hpre c)).trans (Cert.Kernel2Ideal.Act.arr4 m c).symm) (Cert.Reference2Ideal.Value.run m' g')⟩

/-- The third program: its arguments and every counter end as they were. -/
theorem kernel3_frame : Cert.quiescent_Kernel3 (hKernel3 := Cert.Kernel3.Gen.facts) := fun m g _ => Cert.Kernel3.Gen.frame m g

/-- The third program, idealized: its arguments and every counter end as they were. -/
theorem ideal3_frame : Cert.quiescent_Kernel3Ideal (hKernel3Ideal := Cert.Kernel3Ideal.Gen.facts) := fun m g _ => Cert.Kernel3Ideal.Gen.frame m g

/-- The third reference: its arguments and every counter end as they were. -/
theorem reference3_frame : Cert.quiescent_Reference3Ideal (hReference3Ideal := Cert.Reference3Ideal.Gen.facts) := fun m g _ =>
  (θ_run _ _ _).mono (fun r h => ⟨fun c => (h c).2, sem_eq_zero_of_no_sems (by decide) r.2⟩) (Cert.Reference3Ideal.Value.run m g)

/-- The third idealized program's result is the third reference's. -/
theorem agree3 : Cert.algebraic_Kernel3Ideal_Reference3Ideal (hKernel3Ideal := Cert.Kernel3Ideal.Gen.facts) (hReference3Ideal := Cert.Reference3Ideal.Gen.facts) := fun m g m' g' _ hagree =>
  ⟨fun c => (Cert.Kernel3Ideal.Gen.dats m 0 c).arrAt 2 Cert.Kernel3Ideal.cfg0.N, Cert.Kernel3Ideal.Value.run_blocks m g,
    (θ_run _ _ _).mono (fun _ h c => by
      obtain ⟨e0, e1⟩ := hagree c
      obtain ⟨h0, ha⟩ := h c
      refine ⟨h0.trans ?_, ha⟩
      rw [Cert.Reference3Ideal.Read.val_main_v16_eq, e0, e1]
      exact (Cert.Kernel3Ideal.Dw.ref_grads _ _).trans (Cert.Kernel3Ideal.Dw.arr2 m c).symm) (Cert.Reference3Ideal.Value.run m' g')⟩

/-- The fourth program: its arguments and every counter end as they were. -/
theorem kernel4_frame : Cert.quiescent_Kernel4 (hKernel4 := Cert.Kernel4.Gen.facts) := fun m g _ => Cert.Kernel4.Gen.frame m g

/-- The fourth program, idealized: its arguments and every counter end as they were. -/
theorem ideal4_frame : Cert.quiescent_Kernel4Ideal (hKernel4Ideal := Cert.Kernel4Ideal.Gen.facts) := fun m g _ => Cert.Kernel4Ideal.Gen.frame m g

/-- The fourth reference: its arguments and every counter end as they were. -/
theorem reference4_frame : Cert.quiescent_Reference4Ideal (hReference4Ideal := Cert.Reference4Ideal.Gen.facts) := fun m g _ =>
  (θ_run _ _ _).mono (fun r h => ⟨fun c => (h c).2.2.2, sem_eq_zero_of_no_sems (by decide) r.2⟩) (Cert.Reference4Ideal.Value.run m g)

/-- The fourth idealized program's results are the fourth reference's. -/
theorem agree4 : Cert.algebraic_Kernel4Ideal_Reference4Ideal (hKernel4Ideal := Cert.Kernel4Ideal.Gen.facts) (hReference4Ideal := Cert.Reference4Ideal.Gen.facts) := fun m g m' g' _ hagree =>
  ⟨fun c => (Cert.Kernel4Ideal.Gen.dats m 0 c).arrAt 3 Cert.Kernel4Ideal.cfg0.N, fun c => (Cert.Kernel4Ideal.Gen.dats m 0 c).arrAt 4 Cert.Kernel4Ideal.cfg0.N,
    fun c => (Cert.Kernel4Ideal.Gen.dats m 0 c).arrAt 5 Cert.Kernel4Ideal.cfg0.N, Cert.Kernel4Ideal.Value.run_blocks m g,
    (θ_run _ _ _).mono (fun _ h c => by
      obtain ⟨e0, e1, e2⟩ := hagree c
      obtain ⟨h0, h1, h2, ha⟩ := h c
      refine ⟨h0.trans ?_, h1.trans ?_, h2.trans ?_, ha⟩
      · rw [Cert.Reference4Ideal.Read.val_main_v3_eq, e0, e1]
        exact (Cert.Kernel4Ideal.Ffn.ref_gate _ _).trans (Cert.Kernel4Ideal.Ffn.arr3 m c).symm
      · rw [Cert.Reference4Ideal.Read.val_main_v4_eq, e0, e2]
        exact (Cert.Kernel4Ideal.Ffn.ref_up _ _).trans (Cert.Kernel4Ideal.Ffn.arr4 m c).symm
      · rw [Cert.Reference4Ideal.Read.val_main_v7_eq, e0, e1, e2]
        exact (Cert.Kernel4Ideal.Ffn.ref_act _ _ _).trans (Cert.Kernel4Ideal.Ffn.arr5 m c).symm) (Cert.Reference4Ideal.Value.run m' g')⟩

/-- The fifth program: its arguments and every counter end as they were. -/
theorem kernel5_frame : Cert.quiescent_Kernel5 (hKernel5 := Cert.Kernel5.Gen.facts) := fun m g _ => Cert.Kernel5.Gen.frame m g

/-- The fifth program, idealized: its arguments and every counter end as they were. -/
theorem ideal5_frame : Cert.quiescent_Kernel5Ideal (hKernel5Ideal := Cert.Kernel5Ideal.Gen.facts) := fun m g _ => Cert.Kernel5Ideal.Gen.frame m g

/-- The fifth reference: its arguments and every counter end as they were. -/
theorem reference5_frame : Cert.quiescent_Reference5Ideal (hReference5Ideal := Cert.Reference5Ideal.Gen.facts) := fun m g _ =>
  (θ_run _ _ _).mono (fun r h => ⟨fun c => (h c).2, sem_eq_zero_of_no_sems (by decide) r.2⟩) (Cert.Reference5Ideal.Value.run m g)

/-- The fifth idealized program's result is the fifth reference's. -/
theorem agree5 : Cert.algebraic_Kernel5Ideal_Reference5Ideal (hKernel5Ideal := Cert.Kernel5Ideal.Gen.facts) (hReference5Ideal := Cert.Reference5Ideal.Gen.facts) := fun m g m' g' _ hagree =>
  ⟨fun c => (Cert.Kernel5Ideal.Gen.dats m 0 c).arrAt 2 Cert.Kernel5Ideal.cfg0.N, Cert.Kernel5Ideal.Value.run_blocks m g,
    (θ_run _ _ _).mono (fun _ h c => by
      obtain ⟨e0, e1⟩ := hagree c
      obtain ⟨h0, ha⟩ := h c
      refine ⟨h0.trans ?_, ha⟩
      rw [Cert.Reference5Ideal.Read.val_main_v3_eq, e0, e1]
      exact (Cert.Kernel5Ideal.Proj.ref_proj _ _).trans (Cert.Kernel5Ideal.Proj.arr2 m c).symm) (Cert.Reference5Ideal.Value.run m' g')⟩

/-- The sixth program: its arguments and every counter end as they were. -/
theorem kernel6_frame : Cert.quiescent_Kernel6 (hKernel6 := Cert.Kernel6.Gen.facts) := fun m g _ => Cert.Kernel6.Gen.frame m g

/-- The sixth program, idealized: its arguments and every counter end as they were. -/
theorem ideal6_frame : Cert.quiescent_Kernel6Ideal (hKernel6Ideal := Cert.Kernel6Ideal.Gen.facts) := fun m g _ => Cert.Kernel6Ideal.Gen.frame m g

/-- The sixth reference: its arguments and every counter end as they were. -/
theorem reference6_frame : Cert.quiescent_Reference6Ideal (hReference6Ideal := Cert.Reference6Ideal.Gen.facts) := fun m g _ =>
  (θ_run _ _ _).mono (fun r h => ⟨fun c => (h c).2, sem_eq_zero_of_no_sems (by decide) r.2⟩) (Cert.Reference6Ideal.Value.run m g)

/-- The sixth idealized program's result is the sixth reference's. -/
theorem agree6 : Cert.algebraic_Kernel6Ideal_Reference6Ideal (hKernel6Ideal := Cert.Kernel6Ideal.Gen.facts) (hReference6Ideal := Cert.Reference6Ideal.Gen.facts) := fun m g m' g' _ hagree =>
  ⟨fun c => (Cert.Kernel6Ideal.Gen.dats m 0 c).arrAt 2 Cert.Kernel6Ideal.cfg0.N, Cert.Kernel6Ideal.Value.run_blocks m g,
    (θ_run _ _ _).mono (fun _ h c => by
      obtain ⟨e0, e1⟩ := hagree c
      obtain ⟨h0, ha⟩ := h c
      refine ⟨h0.trans ?_, ha⟩
      rw [Cert.Reference6Ideal.Read.val_main_v7_eq, e0, e1]
      exact (Cert.Kernel6Ideal.DwIn.ref_grads _ _).trans (Cert.Kernel6Ideal.DwIn.arr2 m c).symm) (Cert.Reference6Ideal.Value.run m' g')⟩

/-- The seventh program: its arguments and every counter end as they were. -/
theorem kernel7_frame : Cert.quiescent_Kernel7 (hKernel7 := Cert.Kernel7.Gen.facts) := fun m g _ => Cert.Kernel7.Gen.frame m g

/-- The seventh program, idealized: its arguments and every counter end as they were. -/
theorem ideal7_frame : Cert.quiescent_Kernel7Ideal (hKernel7Ideal := Cert.Kernel7Ideal.Gen.facts) := fun m g _ => Cert.Kernel7Ideal.Gen.frame m g

/-- The seventh reference: its arguments and every counter end as they were. -/
theorem reference7_frame : Cert.quiescent_Reference7Ideal (hReference7Ideal := Cert.Reference7Ideal.Gen.facts) := fun m g _ =>
  (θ_run _ _ _).mono (fun r h => ⟨fun c => (h c).2, sem_eq_zero_of_no_sems (by decide) r.2⟩) (Cert.Reference7Ideal.Value.run m g)

/-- The seventh idealized program's result is the seventh reference's. -/
theorem agree7 : Cert.algebraic_Kernel7Ideal_Reference7Ideal (hKernel7Ideal := Cert.Kernel7Ideal.Gen.facts) (hReference7Ideal := Cert.Reference7Ideal.Gen.facts) := fun m g m' g' _ hagree =>
  ⟨fun c => (Cert.Kernel7Ideal.Gen.dats m 0 c).arrAt 2 Cert.Kernel7Ideal.cfg0.N, Cert.Kernel7Ideal.Value.run_blocks m g,
    (θ_run _ _ _).mono (fun _ h c => by
      obtain ⟨e0, e1⟩ := hagree c
      obtain ⟨h0, ha⟩ := h c
      refine ⟨h0.trans ?_, ha⟩
      rw [Cert.Reference7Ideal.Read.val_main_v6_eq, e0, e1]
      exact (Cert.Kernel7Ideal.DwDown.ref_grads _ _).trans (Cert.Kernel7Ideal.DwDown.arr2 m c).symm) (Cert.Reference7Ideal.Value.run m' g')⟩

/-- Every claim. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_finite.Gen.facts, Cert.Pre_finite2.Gen.facts,
  kernel_frame, ideal_frame, fun m g _ => ideal_frame m g trivial, reference_frame, fun m g _ => reference_frame m g trivial,
  kernel2_frame, ideal2_frame, fun m g _ => ideal2_frame m g trivial, reference2_frame, fun m g _ => reference2_frame m g trivial,
  kernel3_frame, ideal3_frame, reference3_frame, kernel4_frame, ideal4_frame, reference4_frame,
  kernel5_frame, ideal5_frame, reference5_frame,
  kernel6_frame, ideal6_frame, reference6_frame,
  kernel7_frame, ideal7_frame, reference7_frame,
  IdealRules.named_const.statement Cert.KernelIdeal.κ "mask" .f32 0xF149F2CA#32 _ rfl, agree, trivial, agree2, trivial, agree3, trivial, agree4,
  trivial, agree5, trivial, agree6, trivial, agree7⟩

end Cert.Proof

end
